-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128 : Shape := ⟨2, ![1, 128]⟩
abbrev S4096x51x64 : Shape := ⟨3, ![4096, 51, 64]⟩
abbrev S3264x512 : Shape := ⟨2, ![3264, 512]⟩
abbrev S512 : Shape := ⟨1, ![512]⟩
abbrev S512x64 : Shape := ⟨2, ![512, 64]⟩
abbrev S64 : Shape := ⟨1, ![64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S4096x3264 : Shape := ⟨2, ![4096, 3264]⟩
abbrev S4096x64 : Shape := ⟨2, ![4096, 64]⟩
abbrev S4096x128 : Shape := ⟨2, ![4096, 128]⟩
abbrev S4096x1 : Shape := ⟨2, ![4096, 1]⟩
abbrev S512x3264 : Shape := ⟨2, ![512, 3264]⟩
abbrev S512x128 : Shape := ⟨2, ![512, 128]⟩
abbrev S512x1 : Shape := ⟨2, ![512, 1]⟩
abbrev S512x512 : Shape := ⟨2, ![512, 512]⟩
abbrev S1x512 : Shape := ⟨2, ![1, 512]⟩
abbrev S1x64 : Shape := ⟨2, ![1, 64]⟩
abbrev S512x256 : Shape := ⟨2, ![512, 256]⟩
abbrev S1x256 : Shape := ⟨2, ![1, 256]⟩
abbrev S1x1 : Shape := ⟨2, ![1, 1]⟩
abbrev S_ : Shape := ⟨0, ![]⟩
abbrev S4096 : Shape := ⟨1, ![4096]⟩
abbrev S2 : Shape := ⟨1, ![2]⟩
abbrev S4096x4096 : Shape := ⟨2, ![4096, 4096]⟩
abbrev S1x4096 : Shape := ⟨2, ![1, 4096]⟩
abbrev S512x4096 : Shape := ⟨2, ![512, 4096]⟩
abbrev S4096x1x64 : Shape := ⟨3, ![4096, 1, 64]⟩
abbrev S4096x52x64 : Shape := ⟨3, ![4096, 52, 64]⟩

abbrev nBuf : Space → Nat
  | .hbm => 383
  | .vmem => 26
  | .smem => 0
  | _ => 0

abbrev hbmTy0_0 (i : Nat) : BufTy := match i % 128 with
  | 0 => ⟨S1x128, .f32⟩
  | 1 => ⟨S4096x51x64, .f32⟩
  | 2 => ⟨S3264x512, .f32⟩
  | 3 => ⟨S512, .f32⟩
  | 4 => ⟨S512x64, .f32⟩
  | 5 => ⟨S64, .f32⟩
  | 6 => ⟨S64x256, .f32⟩
  | 7 => ⟨S256, .f32⟩
  | 8 => ⟨S256x1, .f32⟩
  | 9 => ⟨S1, .f32⟩
  | 10 => ⟨S64x256, .f32⟩
  | 11 => ⟨S256, .f32⟩
  | 12 => ⟨S256x128, .f32⟩
  | 13 => ⟨S128, .f32⟩
  | 14 => ⟨S4096x3264, .f32⟩
  | 15 => ⟨S4096x64, .f32⟩
  | 16 => ⟨S4096x128, .f32⟩
  | 17 => ⟨S4096x1, .f32⟩
  | 18 => ⟨S4096x128, .f32⟩
  | 19 => ⟨S4096x128, .f32⟩
  | 20 => ⟨S4096x128, .f32⟩
  | 21 => ⟨S_, .f32⟩
  | 22 => ⟨S4096, .f32⟩
  | 23 => ⟨S_, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096, .f32⟩
  | 30 => ⟨S4096, .f32⟩
  | 31 => ⟨S_, .f32⟩
  | 32 => ⟨S4096, .f32⟩
  | 33 => ⟨S4096, .i1⟩
  | 34 => ⟨S4096, .f32⟩
  | 35 => ⟨S_, .f32⟩
  | 36 => ⟨S_, .f32⟩
  | 37 => ⟨S_, .f32⟩
  | 38 => ⟨S_, .i1⟩
  | 39 => ⟨S_, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S_, .f32⟩
  | 48 => ⟨S_, .f32⟩
  | 49 => ⟨S4096, .f32⟩
  | 50 => ⟨S4096, .f32⟩
  | 51 => ⟨S_, .f32⟩
  | 52 => ⟨S4096, .f32⟩
  | 53 => ⟨S4096, .f32⟩
  | 54 => ⟨S4096, .f32⟩
  | 55 => ⟨S_, .i32⟩
  | 56 => ⟨S_, .i32⟩
  | 57 => ⟨S_, .i32⟩
  | 58 => ⟨S_, .i32⟩
  | 59 => ⟨S1, .i32⟩
  | 60 => ⟨S_, .i32⟩
  | 61 => ⟨S_, .i32⟩
  | 62 => ⟨S_, .i32⟩
  | 63 => ⟨S1, .i32⟩
  | 64 => ⟨S2, .i32⟩
  | 65 => ⟨S_, .f32⟩
  | 66 => ⟨S_, .f32⟩
  | 67 => ⟨S_, .f32⟩
  | 68 => ⟨S1x1, .f32⟩
  | 69 => ⟨S1x1, .f32⟩
  | 70 => ⟨S1, .i32⟩
  | 71 => ⟨S_, .i32⟩
  | 72 => ⟨S1, .i32⟩
  | 73 => ⟨S_, .i32⟩
  | 74 => ⟨S4096x4096, .i64⟩
  | 75 => ⟨S4096x4096, .i64⟩
  | 76 => ⟨S_, .i64⟩
  | 77 => ⟨S4096x4096, .i64⟩
  | 78 => ⟨S4096x4096, .i64⟩
  | 79 => ⟨S_, .i64⟩
  | 80 => ⟨S4096x4096, .i64⟩
  | 81 => ⟨S4096x4096, .i64⟩
  | 82 => ⟨S4096x4096, .i64⟩
  | 83 => ⟨S_, .i64⟩
  | 84 => ⟨S4096x4096, .i64⟩
  | 85 => ⟨S4096x4096, .i64⟩
  | 86 => ⟨S4096x4096, .i32⟩
  | 87 => ⟨S4096x4096, .i32⟩
  | 88 => ⟨S_, .i32⟩
  | 89 => ⟨S_, .i32⟩
  | 90 => ⟨S_, .i32⟩
  | 91 => ⟨S4096x4096, .i32⟩
  | 92 => ⟨S4096x4096, .i32⟩
  | 93 => ⟨S4096x4096, .i32⟩
  | 94 => ⟨S4096x4096, .i32⟩
  | 95 => ⟨S4096x4096, .i32⟩
  | 96 => ⟨S_, .i32⟩
  | 97 => ⟨S4096x4096, .i32⟩
  | 98 => ⟨S4096x4096, .i32⟩
  | 99 => ⟨S_, .i32⟩
  | 100 => ⟨S4096x4096, .i32⟩
  | 101 => ⟨S4096x4096, .i32⟩
  | 102 => ⟨S4096x4096, .i32⟩
  | 103 => ⟨S4096x4096, .i32⟩
  | 104 => ⟨S4096x4096, .i32⟩
  | 105 => ⟨S_, .i32⟩
  | 106 => ⟨S4096x4096, .i32⟩
  | 107 => ⟨S4096x4096, .i32⟩
  | 108 => ⟨S_, .i32⟩
  | 109 => ⟨S4096x4096, .i32⟩
  | 110 => ⟨S4096x4096, .i32⟩
  | 111 => ⟨S4096x4096, .i32⟩
  | 112 => ⟨S4096x4096, .i32⟩
  | 113 => ⟨S4096x4096, .i32⟩
  | 114 => ⟨S_, .i32⟩
  | 115 => ⟨S4096x4096, .i32⟩
  | 116 => ⟨S4096x4096, .i32⟩
  | 117 => ⟨S_, .i32⟩
  | 118 => ⟨S4096x4096, .i32⟩
  | 119 => ⟨S4096x4096, .i32⟩
  | 120 => ⟨S4096x4096, .i32⟩
  | 121 => ⟨S4096x4096, .i32⟩
  | 122 => ⟨S4096x4096, .i32⟩
  | 123 => ⟨S_, .i32⟩
  | 124 => ⟨S4096x4096, .i32⟩
  | 125 => ⟨S4096x4096, .i32⟩
  | 126 => ⟨S_, .i32⟩
  | 127 => ⟨S4096x4096, .i32⟩
  | _ => ⟨S1x128, .f32⟩

abbrev hbmTy0_1 (i : Nat) : BufTy := match i % 128 with
  | 0 => ⟨S4096x4096, .i32⟩
  | 1 => ⟨S4096x4096, .i32⟩
  | 2 => ⟨S4096x4096, .i32⟩
  | 3 => ⟨S4096x4096, .i32⟩
  | 4 => ⟨S4096x4096, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S4096x4096, .i32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S_, .i32⟩
  | 33 => ⟨S4096x4096, .i32⟩
  | 34 => ⟨S4096x4096, .i32⟩
  | 35 => ⟨S4096x4096, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S_, .i32⟩
  | 42 => ⟨S4096x4096, .i32⟩
  | 43 => ⟨S4096x4096, .i32⟩
  | 44 => ⟨S4096x4096, .i32⟩
  | 45 => ⟨S4096x4096, .i32⟩
  | 46 => ⟨S4096x4096, .i32⟩
  | 47 => ⟨S4096x4096, .i32⟩
  | 48 => ⟨S4096x4096, .i32⟩
  | 49 => ⟨S4096x4096, .i32⟩
  | 50 => ⟨S_, .i32⟩
  | 51 => ⟨S4096x4096, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S_, .i32⟩
  | 67 => ⟨S4096x4096, .i32⟩
  | 68 => ⟨S4096x4096, .i32⟩
  | 69 => ⟨S4096x4096, .i32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S_, .i32⟩
  | 76 => ⟨S4096x4096, .i32⟩
  | 77 => ⟨S4096x4096, .i32⟩
  | 78 => ⟨S4096x4096, .i32⟩
  | 79 => ⟨S4096x4096, .i32⟩
  | 80 => ⟨S4096x4096, .i32⟩
  | 81 => ⟨S_, .i32⟩
  | 82 => ⟨S4096x4096, .i32⟩
  | 83 => ⟨S4096x4096, .i32⟩
  | 84 => ⟨S_, .i32⟩
  | 85 => ⟨S4096x4096, .i32⟩
  | 86 => ⟨S4096x4096, .i32⟩
  | 87 => ⟨S4096x4096, .i32⟩
  | 88 => ⟨S4096x4096, .i32⟩
  | 89 => ⟨S4096x4096, .i32⟩
  | 90 => ⟨S4096x4096, .i32⟩
  | 91 => ⟨S4096x4096, .i32⟩
  | 92 => ⟨S4096x4096, .i32⟩
  | 93 => ⟨S_, .i32⟩
  | 94 => ⟨S4096x4096, .i32⟩
  | 95 => ⟨S4096x4096, .i32⟩
  | 96 => ⟨S4096x4096, .i32⟩
  | 97 => ⟨S_, .i32⟩
  | 98 => ⟨S4096x4096, .i32⟩
  | 99 => ⟨S4096x4096, .i32⟩
  | 100 => ⟨S_, .i32⟩
  | 101 => ⟨S4096x4096, .i32⟩
  | 102 => ⟨S4096x4096, .i32⟩
  | 103 => ⟨S4096x4096, .i32⟩
  | 104 => ⟨S4096x4096, .i32⟩
  | 105 => ⟨S4096x4096, .i32⟩
  | 106 => ⟨S_, .i32⟩
  | 107 => ⟨S4096x4096, .i32⟩
  | 108 => ⟨S4096x4096, .i32⟩
  | 109 => ⟨S_, .i32⟩
  | 110 => ⟨S4096x4096, .i32⟩
  | 111 => ⟨S4096x4096, .i32⟩
  | 112 => ⟨S4096x4096, .i32⟩
  | 113 => ⟨S4096x4096, .i32⟩
  | 114 => ⟨S4096x4096, .i32⟩
  | 115 => ⟨S_, .i32⟩
  | 116 => ⟨S4096x4096, .i32⟩
  | 117 => ⟨S4096x4096, .i32⟩
  | 118 => ⟨S_, .i32⟩
  | 119 => ⟨S4096x4096, .i32⟩
  | 120 => ⟨S4096x4096, .i32⟩
  | 121 => ⟨S4096x4096, .i32⟩
  | 122 => ⟨S4096x4096, .i32⟩
  | 123 => ⟨S4096x4096, .i32⟩
  | 124 => ⟨S_, .i32⟩
  | 125 => ⟨S4096x4096, .i32⟩
  | 126 => ⟨S4096x4096, .i32⟩
  | 127 => ⟨S_, .i32⟩
  | _ => ⟨S1x128, .f32⟩

abbrev hbmTy0_2 (i : Nat) : BufTy := match i % 128 with
  | 0 => ⟨S4096x4096, .i32⟩
  | 1 => ⟨S4096x4096, .i32⟩
  | 2 => ⟨S4096x4096, .i32⟩
  | 3 => ⟨S4096x4096, .i32⟩
  | 4 => ⟨S4096x4096, .i32⟩
  | 5 => ⟨S4096x4096, .i32⟩
  | 6 => ⟨S4096x4096, .i32⟩
  | 7 => ⟨S4096x4096, .i32⟩
  | 8 => ⟨S_, .i32⟩
  | 9 => ⟨S4096x4096, .i32⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S_, .i32⟩
  | 16 => ⟨S4096x4096, .i32⟩
  | 17 => ⟨S4096x4096, .i32⟩
  | 18 => ⟨S4096x4096, .i32⟩
  | 19 => ⟨S4096x4096, .i32⟩
  | 20 => ⟨S4096x4096, .i32⟩
  | 21 => ⟨S_, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S4096x4096, .i32⟩
  | 28 => ⟨S4096x4096, .i32⟩
  | 29 => ⟨S4096x4096, .i32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S4096x4096, .i32⟩
  | 37 => ⟨S4096x4096, .i32⟩
  | 38 => ⟨S4096x4096, .i32⟩
  | 39 => ⟨S_, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S4096x4096, .i32⟩
  | 46 => ⟨S4096x4096, .i32⟩
  | 47 => ⟨S4096x4096, .i32⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S4096x4096, .f32⟩
  | 62 => ⟨S_, .f32⟩
  | 63 => ⟨S4096x4096, .f32⟩
  | 64 => ⟨S4096x4096, .f32⟩
  | 65 => ⟨S1x1, .f32⟩
  | 66 => ⟨S4096x4096, .f32⟩
  | 67 => ⟨S4096x4096, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S4096x4096, .f32⟩
  | 76 => ⟨S1x4096, .f32⟩
  | 77 => ⟨S4096x1, .i32⟩
  | 78 => ⟨S4096, .i32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S1, .i32⟩
  | 88 => ⟨S_, .i32⟩
  | 89 => ⟨S4096x1, .i32⟩
  | 90 => ⟨S4096x1, .i1⟩
  | 91 => ⟨S1x1, .i32⟩
  | 92 => ⟨S4096x1, .i32⟩
  | 93 => ⟨S4096x1, .i1⟩
  | 94 => ⟨S4096x1, .i1⟩
  | 95 => ⟨S_, .i1⟩
  | 96 => ⟨S4096, .i1⟩
  | 97 => ⟨S4096x64, .f32⟩
  | 98 => ⟨S4096x64, .i1⟩
  | 99 => ⟨S_, .f32⟩
  | 100 => ⟨S4096x64, .f32⟩
  | 101 => ⟨S4096x64, .f32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S1, .i32⟩
  | 111 => ⟨S_, .i32⟩
  | 112 => ⟨S4096x1, .i32⟩
  | 113 => ⟨S4096x1, .i1⟩
  | 114 => ⟨S1x1, .i32⟩
  | 115 => ⟨S4096x1, .i32⟩
  | 116 => ⟨S4096x1, .i1⟩
  | 117 => ⟨S4096x1, .i1⟩
  | 118 => ⟨S_, .i1⟩
  | 119 => ⟨S4096, .i1⟩
  | 120 => ⟨S4096x51x64, .f32⟩
  | 121 => ⟨S4096x51x64, .i1⟩
  | 122 => ⟨S_, .f32⟩
  | 123 => ⟨S4096x51x64, .f32⟩
  | 124 => ⟨S4096x51x64, .f32⟩
  | 125 => ⟨S4096x1x64, .f32⟩
  | 126 => ⟨S4096x52x64, .f32⟩
  | _ => ⟨S1x128, .f32⟩

abbrev hbmTy (i : Nat) : BufTy := match i / 128 with
  | 0 => hbmTy0_0 i
  | 1 => hbmTy0_1 i
  | 2 => hbmTy0_2 i
  | _ => ⟨S1x128, .f32⟩

abbrev bufTy : (tb : Table) → Fin (tcTables nBuf tb) → BufTy
  | .hbm, ⟨i, _⟩ => hbmTy i
  | .local _ .vmem, ⟨0, _⟩ => ⟨S512x3264, .f32⟩
  | .local _ .vmem, ⟨1, _⟩ => ⟨S512x3264, .f32⟩
  | .local _ .vmem, ⟨2, _⟩ => ⟨S1x128, .f32⟩
  | .local _ .vmem, ⟨3, _⟩ => ⟨S3264x512, .f32⟩
  | .local _ .vmem, ⟨4, _⟩ => ⟨S512, .f32⟩
  | .local _ .vmem, ⟨5, _⟩ => ⟨S512x64, .f32⟩
  | .local _ .vmem, ⟨6, _⟩ => ⟨S64, .f32⟩
  | .local _ .vmem, ⟨7, _⟩ => ⟨S64x256, .f32⟩
  | .local _ .vmem, ⟨8, _⟩ => ⟨S256, .f32⟩
  | .local _ .vmem, ⟨9, _⟩ => ⟨S256x1, .f32⟩
  | .local _ .vmem, ⟨10, _⟩ => ⟨S1, .f32⟩
  | .local _ .vmem, ⟨11, _⟩ => ⟨S64x256, .f32⟩
  | .local _ .vmem, ⟨12, _⟩ => ⟨S256, .f32⟩
  | .local _ .vmem, ⟨13, _⟩ => ⟨S256x128, .f32⟩
  | .local _ .vmem, ⟨14, _⟩ => ⟨S128, .f32⟩
  | .local _ .vmem, ⟨15, _⟩ => ⟨S512x64, .f32⟩
  | .local _ .vmem, ⟨16, _⟩ => ⟨S512x64, .f32⟩
  | .local _ .vmem, ⟨17, _⟩ => ⟨S512x128, .f32⟩
  | .local _ .vmem, ⟨18, _⟩ => ⟨S512x128, .f32⟩
  | .local _ .vmem, ⟨19, _⟩ => ⟨S512x1, .f32⟩
  | .local _ .vmem, ⟨20, _⟩ => ⟨S512x1, .f32⟩
  | .local _ .vmem, ⟨21, _⟩ => ⟨S512x4096, .f32⟩
  | .local _ .vmem, ⟨22, _⟩ => ⟨S512x4096, .f32⟩
  | .local _ .vmem, ⟨23, _⟩ => ⟨S1x4096, .f32⟩
  | .local _ .vmem, ⟨24, _⟩ => ⟨S512x1, .i32⟩
  | .local _ .vmem, ⟨25, _⟩ => ⟨S512x1, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_8 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c : Ref sig .tc := ⟨.hbm, 55, rfl⟩
abbrev main_c_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_10 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call1_cst : Ref sig .tc := ⟨.hbm, 65, rfl⟩
abbrev main_call1_cst_0 : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_v8 : Ref sig .tc := ⟨.hbm, 75, rfl⟩
abbrev main_call1_call0_c : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_c_0 : Ref sig .tc := ⟨.hbm, 79, rfl⟩
abbrev main_call1_call0_v11 : Ref sig .tc := ⟨.hbm, 80, rfl⟩
abbrev main_call1_call0_v12 : Ref sig .tc := ⟨.hbm, 81, rfl⟩
abbrev main_call1_call0_v13 : Ref sig .tc := ⟨.hbm, 82, rfl⟩
abbrev main_call1_call0_c_1 : Ref sig .tc := ⟨.hbm, 83, rfl⟩
abbrev main_call1_call0_v14 : Ref sig .tc := ⟨.hbm, 84, rfl⟩
abbrev main_call1_call0_v15 : Ref sig .tc := ⟨.hbm, 85, rfl⟩
abbrev main_call1_call0_v16 : Ref sig .tc := ⟨.hbm, 86, rfl⟩
abbrev main_call1_call0_v17 : Ref sig .tc := ⟨.hbm, 87, rfl⟩
abbrev main_call1_call0_call0_v0 : Ref sig .tc := ⟨.hbm, 88, rfl⟩
abbrev main_call1_call0_call0_c : Ref sig .tc := ⟨.hbm, 89, rfl⟩
abbrev main_call1_call0_call0_v1 : Ref sig .tc := ⟨.hbm, 90, rfl⟩
abbrev main_call1_call0_call0_v2 : Ref sig .tc := ⟨.hbm, 91, rfl⟩
abbrev main_call1_call0_call0_v3 : Ref sig .tc := ⟨.hbm, 92, rfl⟩
abbrev main_call1_call0_call0_v4 : Ref sig .tc := ⟨.hbm, 93, rfl⟩
abbrev main_call1_call0_call0_v5 : Ref sig .tc := ⟨.hbm, 94, rfl⟩
abbrev main_call1_call0_call0_v6 : Ref sig .tc := ⟨.hbm, 95, rfl⟩
abbrev main_call1_call0_call0_c_0 : Ref sig .tc := ⟨.hbm, 96, rfl⟩
abbrev main_call1_call0_call0_v7 : Ref sig .tc := ⟨.hbm, 97, rfl⟩
abbrev main_call1_call0_call0_v8 : Ref sig .tc := ⟨.hbm, 98, rfl⟩
abbrev main_call1_call0_call0_c_1 : Ref sig .tc := ⟨.hbm, 99, rfl⟩
abbrev main_call1_call0_call0_v9 : Ref sig .tc := ⟨.hbm, 100, rfl⟩
abbrev main_call1_call0_call0_v10 : Ref sig .tc := ⟨.hbm, 101, rfl⟩
abbrev main_call1_call0_call0_v11 : Ref sig .tc := ⟨.hbm, 102, rfl⟩
abbrev main_call1_call0_call0_v12 : Ref sig .tc := ⟨.hbm, 103, rfl⟩
abbrev main_call1_call0_call0_v13 : Ref sig .tc := ⟨.hbm, 104, rfl⟩
abbrev main_call1_call0_call0_c_2 : Ref sig .tc := ⟨.hbm, 105, rfl⟩
abbrev main_call1_call0_call0_v14 : Ref sig .tc := ⟨.hbm, 106, rfl⟩
abbrev main_call1_call0_call0_v15 : Ref sig .tc := ⟨.hbm, 107, rfl⟩
abbrev main_call1_call0_call0_c_3 : Ref sig .tc := ⟨.hbm, 108, rfl⟩
abbrev main_call1_call0_call0_v16 : Ref sig .tc := ⟨.hbm, 109, rfl⟩
abbrev main_call1_call0_call0_v17 : Ref sig .tc := ⟨.hbm, 110, rfl⟩
abbrev main_call1_call0_call0_v18 : Ref sig .tc := ⟨.hbm, 111, rfl⟩
abbrev main_call1_call0_call0_v19 : Ref sig .tc := ⟨.hbm, 112, rfl⟩
abbrev main_call1_call0_call0_v20 : Ref sig .tc := ⟨.hbm, 113, rfl⟩
abbrev main_call1_call0_call0_c_4 : Ref sig .tc := ⟨.hbm, 114, rfl⟩
abbrev main_call1_call0_call0_v21 : Ref sig .tc := ⟨.hbm, 115, rfl⟩
abbrev main_call1_call0_call0_v22 : Ref sig .tc := ⟨.hbm, 116, rfl⟩
abbrev main_call1_call0_call0_c_5 : Ref sig .tc := ⟨.hbm, 117, rfl⟩
abbrev main_call1_call0_call0_v23 : Ref sig .tc := ⟨.hbm, 118, rfl⟩
abbrev main_call1_call0_call0_v24 : Ref sig .tc := ⟨.hbm, 119, rfl⟩
abbrev main_call1_call0_call0_v25 : Ref sig .tc := ⟨.hbm, 120, rfl⟩
abbrev main_call1_call0_call0_v26 : Ref sig .tc := ⟨.hbm, 121, rfl⟩
abbrev main_call1_call0_call0_v27 : Ref sig .tc := ⟨.hbm, 122, rfl⟩
abbrev main_call1_call0_call0_c_6 : Ref sig .tc := ⟨.hbm, 123, rfl⟩
abbrev main_call1_call0_call0_v28 : Ref sig .tc := ⟨.hbm, 124, rfl⟩
abbrev main_call1_call0_call0_v29 : Ref sig .tc := ⟨.hbm, 125, rfl⟩
abbrev main_call1_call0_call0_c_7 : Ref sig .tc := ⟨.hbm, 126, rfl⟩
abbrev main_call1_call0_call0_v30 : Ref sig .tc := ⟨.hbm, 127, rfl⟩
abbrev main_call1_call0_call0_v31 : Ref sig .tc := ⟨.hbm, 128, rfl⟩
abbrev main_call1_call0_call0_v32 : Ref sig .tc := ⟨.hbm, 129, rfl⟩
abbrev main_call1_call0_call0_v33 : Ref sig .tc := ⟨.hbm, 130, rfl⟩
abbrev main_call1_call0_call0_v34 : Ref sig .tc := ⟨.hbm, 131, rfl⟩
abbrev main_call1_call0_call0_v35 : Ref sig .tc := ⟨.hbm, 132, rfl⟩
abbrev main_call1_call0_call0_v36 : Ref sig .tc := ⟨.hbm, 133, rfl⟩
abbrev main_call1_call0_call0_v37 : Ref sig .tc := ⟨.hbm, 134, rfl⟩
abbrev main_call1_call0_call0_c_8 : Ref sig .tc := ⟨.hbm, 135, rfl⟩
abbrev main_call1_call0_call0_v38 : Ref sig .tc := ⟨.hbm, 136, rfl⟩
abbrev main_call1_call0_call0_v39 : Ref sig .tc := ⟨.hbm, 137, rfl⟩
abbrev main_call1_call0_call0_v40 : Ref sig .tc := ⟨.hbm, 138, rfl⟩
abbrev main_call1_call0_call0_c_9 : Ref sig .tc := ⟨.hbm, 139, rfl⟩
abbrev main_call1_call0_call0_v41 : Ref sig .tc := ⟨.hbm, 140, rfl⟩
abbrev main_call1_call0_call0_v42 : Ref sig .tc := ⟨.hbm, 141, rfl⟩
abbrev main_call1_call0_call0_c_10 : Ref sig .tc := ⟨.hbm, 142, rfl⟩
abbrev main_call1_call0_call0_v43 : Ref sig .tc := ⟨.hbm, 143, rfl⟩
abbrev main_call1_call0_call0_v44 : Ref sig .tc := ⟨.hbm, 144, rfl⟩
abbrev main_call1_call0_call0_v45 : Ref sig .tc := ⟨.hbm, 145, rfl⟩
abbrev main_call1_call0_call0_v46 : Ref sig .tc := ⟨.hbm, 146, rfl⟩
abbrev main_call1_call0_call0_v47 : Ref sig .tc := ⟨.hbm, 147, rfl⟩
abbrev main_call1_call0_call0_c_11 : Ref sig .tc := ⟨.hbm, 148, rfl⟩
abbrev main_call1_call0_call0_v48 : Ref sig .tc := ⟨.hbm, 149, rfl⟩
abbrev main_call1_call0_call0_v49 : Ref sig .tc := ⟨.hbm, 150, rfl⟩
abbrev main_call1_call0_call0_c_12 : Ref sig .tc := ⟨.hbm, 151, rfl⟩
abbrev main_call1_call0_call0_v50 : Ref sig .tc := ⟨.hbm, 152, rfl⟩
abbrev main_call1_call0_call0_v51 : Ref sig .tc := ⟨.hbm, 153, rfl⟩
abbrev main_call1_call0_call0_v52 : Ref sig .tc := ⟨.hbm, 154, rfl⟩
abbrev main_call1_call0_call0_v53 : Ref sig .tc := ⟨.hbm, 155, rfl⟩
abbrev main_call1_call0_call0_v54 : Ref sig .tc := ⟨.hbm, 156, rfl⟩
abbrev main_call1_call0_call0_c_13 : Ref sig .tc := ⟨.hbm, 157, rfl⟩
abbrev main_call1_call0_call0_v55 : Ref sig .tc := ⟨.hbm, 158, rfl⟩
abbrev main_call1_call0_call0_v56 : Ref sig .tc := ⟨.hbm, 159, rfl⟩
abbrev main_call1_call0_call0_c_14 : Ref sig .tc := ⟨.hbm, 160, rfl⟩
abbrev main_call1_call0_call0_v57 : Ref sig .tc := ⟨.hbm, 161, rfl⟩
abbrev main_call1_call0_call0_v58 : Ref sig .tc := ⟨.hbm, 162, rfl⟩
abbrev main_call1_call0_call0_v59 : Ref sig .tc := ⟨.hbm, 163, rfl⟩
abbrev main_call1_call0_call0_v60 : Ref sig .tc := ⟨.hbm, 164, rfl⟩
abbrev main_call1_call0_call0_v61 : Ref sig .tc := ⟨.hbm, 165, rfl⟩
abbrev main_call1_call0_call0_c_15 : Ref sig .tc := ⟨.hbm, 166, rfl⟩
abbrev main_call1_call0_call0_v62 : Ref sig .tc := ⟨.hbm, 167, rfl⟩
abbrev main_call1_call0_call0_v63 : Ref sig .tc := ⟨.hbm, 168, rfl⟩
abbrev main_call1_call0_call0_c_16 : Ref sig .tc := ⟨.hbm, 169, rfl⟩
abbrev main_call1_call0_call0_v64 : Ref sig .tc := ⟨.hbm, 170, rfl⟩
abbrev main_call1_call0_call0_v65 : Ref sig .tc := ⟨.hbm, 171, rfl⟩
abbrev main_call1_call0_call0_v66 : Ref sig .tc := ⟨.hbm, 172, rfl⟩
abbrev main_call1_call0_call0_v67 : Ref sig .tc := ⟨.hbm, 173, rfl⟩
abbrev main_call1_call0_call0_v68 : Ref sig .tc := ⟨.hbm, 174, rfl⟩
abbrev main_call1_call0_call0_v69 : Ref sig .tc := ⟨.hbm, 175, rfl⟩
abbrev main_call1_call0_call0_v70 : Ref sig .tc := ⟨.hbm, 176, rfl⟩
abbrev main_call1_call0_call0_v71 : Ref sig .tc := ⟨.hbm, 177, rfl⟩
abbrev main_call1_call0_call0_c_17 : Ref sig .tc := ⟨.hbm, 178, rfl⟩
abbrev main_call1_call0_call0_v72 : Ref sig .tc := ⟨.hbm, 179, rfl⟩
abbrev main_call1_call0_call0_v73 : Ref sig .tc := ⟨.hbm, 180, rfl⟩
abbrev main_call1_call0_call0_v74 : Ref sig .tc := ⟨.hbm, 181, rfl⟩
abbrev main_call1_call0_call0_c_18 : Ref sig .tc := ⟨.hbm, 182, rfl⟩
abbrev main_call1_call0_call0_v75 : Ref sig .tc := ⟨.hbm, 183, rfl⟩
abbrev main_call1_call0_call0_v76 : Ref sig .tc := ⟨.hbm, 184, rfl⟩
abbrev main_call1_call0_call0_c_19 : Ref sig .tc := ⟨.hbm, 185, rfl⟩
abbrev main_call1_call0_call0_v77 : Ref sig .tc := ⟨.hbm, 186, rfl⟩
abbrev main_call1_call0_call0_v78 : Ref sig .tc := ⟨.hbm, 187, rfl⟩
abbrev main_call1_call0_call0_v79 : Ref sig .tc := ⟨.hbm, 188, rfl⟩
abbrev main_call1_call0_call0_v80 : Ref sig .tc := ⟨.hbm, 189, rfl⟩
abbrev main_call1_call0_call0_v81 : Ref sig .tc := ⟨.hbm, 190, rfl⟩
abbrev main_call1_call0_call0_c_20 : Ref sig .tc := ⟨.hbm, 191, rfl⟩
abbrev main_call1_call0_call0_v82 : Ref sig .tc := ⟨.hbm, 192, rfl⟩
abbrev main_call1_call0_call0_v83 : Ref sig .tc := ⟨.hbm, 193, rfl⟩
abbrev main_call1_call0_call0_c_21 : Ref sig .tc := ⟨.hbm, 194, rfl⟩
abbrev main_call1_call0_call0_v84 : Ref sig .tc := ⟨.hbm, 195, rfl⟩
abbrev main_call1_call0_call0_v85 : Ref sig .tc := ⟨.hbm, 196, rfl⟩
abbrev main_call1_call0_call0_v86 : Ref sig .tc := ⟨.hbm, 197, rfl⟩
abbrev main_call1_call0_call0_v87 : Ref sig .tc := ⟨.hbm, 198, rfl⟩
abbrev main_call1_call0_call0_v88 : Ref sig .tc := ⟨.hbm, 199, rfl⟩
abbrev main_call1_call0_call0_c_22 : Ref sig .tc := ⟨.hbm, 200, rfl⟩
abbrev main_call1_call0_call0_v89 : Ref sig .tc := ⟨.hbm, 201, rfl⟩
abbrev main_call1_call0_call0_v90 : Ref sig .tc := ⟨.hbm, 202, rfl⟩
abbrev main_call1_call0_call0_c_23 : Ref sig .tc := ⟨.hbm, 203, rfl⟩
abbrev main_call1_call0_call0_v91 : Ref sig .tc := ⟨.hbm, 204, rfl⟩
abbrev main_call1_call0_call0_v92 : Ref sig .tc := ⟨.hbm, 205, rfl⟩
abbrev main_call1_call0_call0_v93 : Ref sig .tc := ⟨.hbm, 206, rfl⟩
abbrev main_call1_call0_call0_v94 : Ref sig .tc := ⟨.hbm, 207, rfl⟩
abbrev main_call1_call0_call0_v95 : Ref sig .tc := ⟨.hbm, 208, rfl⟩
abbrev main_call1_call0_call0_c_24 : Ref sig .tc := ⟨.hbm, 209, rfl⟩
abbrev main_call1_call0_call0_v96 : Ref sig .tc := ⟨.hbm, 210, rfl⟩
abbrev main_call1_call0_call0_v97 : Ref sig .tc := ⟨.hbm, 211, rfl⟩
abbrev main_call1_call0_call0_c_25 : Ref sig .tc := ⟨.hbm, 212, rfl⟩
abbrev main_call1_call0_call0_v98 : Ref sig .tc := ⟨.hbm, 213, rfl⟩
abbrev main_call1_call0_call0_v99 : Ref sig .tc := ⟨.hbm, 214, rfl⟩
abbrev main_call1_call0_call0_v100 : Ref sig .tc := ⟨.hbm, 215, rfl⟩
abbrev main_call1_call0_call0_v101 : Ref sig .tc := ⟨.hbm, 216, rfl⟩
abbrev main_call1_call0_call0_v102 : Ref sig .tc := ⟨.hbm, 217, rfl⟩
abbrev main_call1_call0_call0_v103 : Ref sig .tc := ⟨.hbm, 218, rfl⟩
abbrev main_call1_call0_call0_v104 : Ref sig .tc := ⟨.hbm, 219, rfl⟩
abbrev main_call1_call0_call0_v105 : Ref sig .tc := ⟨.hbm, 220, rfl⟩
abbrev main_call1_call0_call0_c_26 : Ref sig .tc := ⟨.hbm, 221, rfl⟩
abbrev main_call1_call0_call0_v106 : Ref sig .tc := ⟨.hbm, 222, rfl⟩
abbrev main_call1_call0_call0_v107 : Ref sig .tc := ⟨.hbm, 223, rfl⟩
abbrev main_call1_call0_call0_v108 : Ref sig .tc := ⟨.hbm, 224, rfl⟩
abbrev main_call1_call0_call0_c_27 : Ref sig .tc := ⟨.hbm, 225, rfl⟩
abbrev main_call1_call0_call0_v109 : Ref sig .tc := ⟨.hbm, 226, rfl⟩
abbrev main_call1_call0_call0_v110 : Ref sig .tc := ⟨.hbm, 227, rfl⟩
abbrev main_call1_call0_call0_c_28 : Ref sig .tc := ⟨.hbm, 228, rfl⟩
abbrev main_call1_call0_call0_v111 : Ref sig .tc := ⟨.hbm, 229, rfl⟩
abbrev main_call1_call0_call0_v112 : Ref sig .tc := ⟨.hbm, 230, rfl⟩
abbrev main_call1_call0_call0_v113 : Ref sig .tc := ⟨.hbm, 231, rfl⟩
abbrev main_call1_call0_call0_v114 : Ref sig .tc := ⟨.hbm, 232, rfl⟩
abbrev main_call1_call0_call0_v115 : Ref sig .tc := ⟨.hbm, 233, rfl⟩
abbrev main_call1_call0_call0_c_29 : Ref sig .tc := ⟨.hbm, 234, rfl⟩
abbrev main_call1_call0_call0_v116 : Ref sig .tc := ⟨.hbm, 235, rfl⟩
abbrev main_call1_call0_call0_v117 : Ref sig .tc := ⟨.hbm, 236, rfl⟩
abbrev main_call1_call0_call0_c_30 : Ref sig .tc := ⟨.hbm, 237, rfl⟩
abbrev main_call1_call0_call0_v118 : Ref sig .tc := ⟨.hbm, 238, rfl⟩
abbrev main_call1_call0_call0_v119 : Ref sig .tc := ⟨.hbm, 239, rfl⟩
abbrev main_call1_call0_call0_v120 : Ref sig .tc := ⟨.hbm, 240, rfl⟩
abbrev main_call1_call0_call0_v121 : Ref sig .tc := ⟨.hbm, 241, rfl⟩
abbrev main_call1_call0_call0_v122 : Ref sig .tc := ⟨.hbm, 242, rfl⟩
abbrev main_call1_call0_call0_c_31 : Ref sig .tc := ⟨.hbm, 243, rfl⟩
abbrev main_call1_call0_call0_v123 : Ref sig .tc := ⟨.hbm, 244, rfl⟩
abbrev main_call1_call0_call0_v124 : Ref sig .tc := ⟨.hbm, 245, rfl⟩
abbrev main_call1_call0_call0_c_32 : Ref sig .tc := ⟨.hbm, 246, rfl⟩
abbrev main_call1_call0_call0_v125 : Ref sig .tc := ⟨.hbm, 247, rfl⟩
abbrev main_call1_call0_call0_v126 : Ref sig .tc := ⟨.hbm, 248, rfl⟩
abbrev main_call1_call0_call0_v127 : Ref sig .tc := ⟨.hbm, 249, rfl⟩
abbrev main_call1_call0_call0_v128 : Ref sig .tc := ⟨.hbm, 250, rfl⟩
abbrev main_call1_call0_call0_v129 : Ref sig .tc := ⟨.hbm, 251, rfl⟩
abbrev main_call1_call0_call0_c_33 : Ref sig .tc := ⟨.hbm, 252, rfl⟩
abbrev main_call1_call0_call0_v130 : Ref sig .tc := ⟨.hbm, 253, rfl⟩
abbrev main_call1_call0_call0_v131 : Ref sig .tc := ⟨.hbm, 254, rfl⟩
abbrev main_call1_call0_call0_c_34 : Ref sig .tc := ⟨.hbm, 255, rfl⟩
abbrev main_call1_call0_call0_v132 : Ref sig .tc := ⟨.hbm, 256, rfl⟩
abbrev main_call1_call0_call0_v133 : Ref sig .tc := ⟨.hbm, 257, rfl⟩
abbrev main_call1_call0_call0_v134 : Ref sig .tc := ⟨.hbm, 258, rfl⟩
abbrev main_call1_call0_call0_v135 : Ref sig .tc := ⟨.hbm, 259, rfl⟩
abbrev main_call1_call0_call0_v136 : Ref sig .tc := ⟨.hbm, 260, rfl⟩
abbrev main_call1_call0_call0_v137 : Ref sig .tc := ⟨.hbm, 261, rfl⟩
abbrev main_call1_call0_call0_v138 : Ref sig .tc := ⟨.hbm, 262, rfl⟩
abbrev main_call1_call0_call0_v139 : Ref sig .tc := ⟨.hbm, 263, rfl⟩
abbrev main_call1_call0_call0_c_35 : Ref sig .tc := ⟨.hbm, 264, rfl⟩
abbrev main_call1_call0_call0_v140 : Ref sig .tc := ⟨.hbm, 265, rfl⟩
abbrev main_call1_call0_call0_v141 : Ref sig .tc := ⟨.hbm, 266, rfl⟩
abbrev main_call1_call0_call0_v142 : Ref sig .tc := ⟨.hbm, 267, rfl⟩
abbrev main_call1_call0_call0_c_36 : Ref sig .tc := ⟨.hbm, 268, rfl⟩
abbrev main_call1_call0_call0_v143 : Ref sig .tc := ⟨.hbm, 269, rfl⟩
abbrev main_call1_call0_call0_v144 : Ref sig .tc := ⟨.hbm, 270, rfl⟩
abbrev main_call1_call0_call0_c_37 : Ref sig .tc := ⟨.hbm, 271, rfl⟩
abbrev main_call1_call0_call0_v145 : Ref sig .tc := ⟨.hbm, 272, rfl⟩
abbrev main_call1_call0_call0_v146 : Ref sig .tc := ⟨.hbm, 273, rfl⟩
abbrev main_call1_call0_call0_v147 : Ref sig .tc := ⟨.hbm, 274, rfl⟩
abbrev main_call1_call0_call0_v148 : Ref sig .tc := ⟨.hbm, 275, rfl⟩
abbrev main_call1_call0_call0_v149 : Ref sig .tc := ⟨.hbm, 276, rfl⟩
abbrev main_call1_call0_call0_c_38 : Ref sig .tc := ⟨.hbm, 277, rfl⟩
abbrev main_call1_call0_call0_v150 : Ref sig .tc := ⟨.hbm, 278, rfl⟩
abbrev main_call1_call0_call0_v151 : Ref sig .tc := ⟨.hbm, 279, rfl⟩
abbrev main_call1_call0_call0_c_39 : Ref sig .tc := ⟨.hbm, 280, rfl⟩
abbrev main_call1_call0_call0_v152 : Ref sig .tc := ⟨.hbm, 281, rfl⟩
abbrev main_call1_call0_call0_v153 : Ref sig .tc := ⟨.hbm, 282, rfl⟩
abbrev main_call1_call0_call0_v154 : Ref sig .tc := ⟨.hbm, 283, rfl⟩
abbrev main_call1_call0_call0_v155 : Ref sig .tc := ⟨.hbm, 284, rfl⟩
abbrev main_call1_call0_call0_v156 : Ref sig .tc := ⟨.hbm, 285, rfl⟩
abbrev main_call1_call0_call0_c_40 : Ref sig .tc := ⟨.hbm, 286, rfl⟩
abbrev main_call1_call0_call0_v157 : Ref sig .tc := ⟨.hbm, 287, rfl⟩
abbrev main_call1_call0_call0_v158 : Ref sig .tc := ⟨.hbm, 288, rfl⟩
abbrev main_call1_call0_call0_c_41 : Ref sig .tc := ⟨.hbm, 289, rfl⟩
abbrev main_call1_call0_call0_v159 : Ref sig .tc := ⟨.hbm, 290, rfl⟩
abbrev main_call1_call0_call0_v160 : Ref sig .tc := ⟨.hbm, 291, rfl⟩
abbrev main_call1_call0_call0_v161 : Ref sig .tc := ⟨.hbm, 292, rfl⟩
abbrev main_call1_call0_call0_v162 : Ref sig .tc := ⟨.hbm, 293, rfl⟩
abbrev main_call1_call0_call0_v163 : Ref sig .tc := ⟨.hbm, 294, rfl⟩
abbrev main_call1_call0_call0_c_42 : Ref sig .tc := ⟨.hbm, 295, rfl⟩
abbrev main_call1_call0_call0_v164 : Ref sig .tc := ⟨.hbm, 296, rfl⟩
abbrev main_call1_call0_call0_v165 : Ref sig .tc := ⟨.hbm, 297, rfl⟩
abbrev main_call1_call0_call0_c_43 : Ref sig .tc := ⟨.hbm, 298, rfl⟩
abbrev main_call1_call0_call0_v166 : Ref sig .tc := ⟨.hbm, 299, rfl⟩
abbrev main_call1_call0_call0_v167 : Ref sig .tc := ⟨.hbm, 300, rfl⟩
abbrev main_call1_call0_call0_v168 : Ref sig .tc := ⟨.hbm, 301, rfl⟩
abbrev main_call1_call0_call0_v169 : Ref sig .tc := ⟨.hbm, 302, rfl⟩
abbrev main_call1_call0_call0_v170 : Ref sig .tc := ⟨.hbm, 303, rfl⟩
abbrev main_call1_call0_v18_0 : Ref sig .tc := ⟨.hbm, 304, rfl⟩
abbrev main_call1_call0_call0_v172 : Ref sig .tc := ⟨.hbm, 305, rfl⟩
abbrev main_call1_call0_call0_v173 : Ref sig .tc := ⟨.hbm, 306, rfl⟩
abbrev main_call1_call0_call0_c_44 : Ref sig .tc := ⟨.hbm, 307, rfl⟩
abbrev main_call1_call0_call0_v174 : Ref sig .tc := ⟨.hbm, 308, rfl⟩
abbrev main_call1_call0_v18_1 : Ref sig .tc := ⟨.hbm, 309, rfl⟩
abbrev main_call1_call0_v19 : Ref sig .tc := ⟨.hbm, 310, rfl⟩
abbrev main_call1_call0_c_2 : Ref sig .tc := ⟨.hbm, 311, rfl⟩
abbrev main_call1_call0_v20 : Ref sig .tc := ⟨.hbm, 312, rfl⟩
abbrev main_call1_call0_v21 : Ref sig .tc := ⟨.hbm, 313, rfl⟩
abbrev main_call1_call0_c_3 : Ref sig .tc := ⟨.hbm, 314, rfl⟩
abbrev main_call1_call0_v22 : Ref sig .tc := ⟨.hbm, 315, rfl⟩
abbrev main_call1_call0_v23 : Ref sig .tc := ⟨.hbm, 316, rfl⟩
abbrev main_call1_call0_v24 : Ref sig .tc := ⟨.hbm, 317, rfl⟩
abbrev main_call1_call0_cst : Ref sig .tc := ⟨.hbm, 318, rfl⟩
abbrev main_call1_call0_v25 : Ref sig .tc := ⟨.hbm, 319, rfl⟩
abbrev main_call1_call0_v26 : Ref sig .tc := ⟨.hbm, 320, rfl⟩
abbrev main_call1_call0_v27 : Ref sig .tc := ⟨.hbm, 321, rfl⟩
abbrev main_call1_call0_v28 : Ref sig .tc := ⟨.hbm, 322, rfl⟩
abbrev main_call1_call0_v29 : Ref sig .tc := ⟨.hbm, 323, rfl⟩
abbrev main_call1_call0_v30 : Ref sig .tc := ⟨.hbm, 324, rfl⟩
abbrev main_call1_call0_v31 : Ref sig .tc := ⟨.hbm, 325, rfl⟩
abbrev main_call1_call0_v32 : Ref sig .tc := ⟨.hbm, 326, rfl⟩
abbrev main_call1_v0 : Ref sig .tc := ⟨.hbm, 327, rfl⟩
abbrev main_call1_v1 : Ref sig .tc := ⟨.hbm, 328, rfl⟩
abbrev main_call1_v2 : Ref sig .tc := ⟨.hbm, 329, rfl⟩
abbrev main_call1_v3 : Ref sig .tc := ⟨.hbm, 330, rfl⟩
abbrev main_v36 : Ref sig .tc := ⟨.hbm, 331, rfl⟩
abbrev main_v37 : Ref sig .tc := ⟨.hbm, 332, rfl⟩
abbrev main_v38 : Ref sig .tc := ⟨.hbm, 333, rfl⟩
abbrev main_v39 : Ref sig .tc := ⟨.hbm, 334, rfl⟩
abbrev main_call2_c : Ref sig .tc := ⟨.hbm, 335, rfl⟩
abbrev main_call2_v0 : Ref sig .tc := ⟨.hbm, 336, rfl⟩
abbrev main_call2_v1 : Ref sig .tc := ⟨.hbm, 337, rfl⟩
abbrev main_call2_c_0 : Ref sig .tc := ⟨.hbm, 338, rfl⟩
abbrev main_call2_v2 : Ref sig .tc := ⟨.hbm, 339, rfl⟩
abbrev main_call2_v3 : Ref sig .tc := ⟨.hbm, 340, rfl⟩
abbrev main_call2_v4 : Ref sig .tc := ⟨.hbm, 341, rfl⟩
abbrev main_call2_v5 : Ref sig .tc := ⟨.hbm, 342, rfl⟩
abbrev main_call2_c_1 : Ref sig .tc := ⟨.hbm, 343, rfl⟩
abbrev main_call2_c_2 : Ref sig .tc := ⟨.hbm, 344, rfl⟩
abbrev main_call2_v6 : Ref sig .tc := ⟨.hbm, 345, rfl⟩
abbrev main_call2_v7 : Ref sig .tc := ⟨.hbm, 346, rfl⟩
abbrev main_call2_v8 : Ref sig .tc := ⟨.hbm, 347, rfl⟩
abbrev main_call2_v9 : Ref sig .tc := ⟨.hbm, 348, rfl⟩
abbrev main_call2_v10 : Ref sig .tc := ⟨.hbm, 349, rfl⟩
abbrev main_call2_v11 : Ref sig .tc := ⟨.hbm, 350, rfl⟩
abbrev main_call2_c_3 : Ref sig .tc := ⟨.hbm, 351, rfl⟩
abbrev main_call2_v12 : Ref sig .tc := ⟨.hbm, 352, rfl⟩
abbrev main_call2_v13 : Ref sig .tc := ⟨.hbm, 353, rfl⟩
abbrev main_call2_v14 : Ref sig .tc := ⟨.hbm, 354, rfl⟩
abbrev main_call2_cst : Ref sig .tc := ⟨.hbm, 355, rfl⟩
abbrev main_call2_v15 : Ref sig .tc := ⟨.hbm, 356, rfl⟩
abbrev main_v40 : Ref sig .tc := ⟨.hbm, 357, rfl⟩
abbrev main_call3_c : Ref sig .tc := ⟨.hbm, 358, rfl⟩
abbrev main_call3_v0 : Ref sig .tc := ⟨.hbm, 359, rfl⟩
abbrev main_call3_v1 : Ref sig .tc := ⟨.hbm, 360, rfl⟩
abbrev main_call3_c_0 : Ref sig .tc := ⟨.hbm, 361, rfl⟩
abbrev main_call3_v2 : Ref sig .tc := ⟨.hbm, 362, rfl⟩
abbrev main_call3_v3 : Ref sig .tc := ⟨.hbm, 363, rfl⟩
abbrev main_call3_v4 : Ref sig .tc := ⟨.hbm, 364, rfl⟩
abbrev main_call3_v5 : Ref sig .tc := ⟨.hbm, 365, rfl⟩
abbrev main_call3_c_1 : Ref sig .tc := ⟨.hbm, 366, rfl⟩
abbrev main_call3_c_2 : Ref sig .tc := ⟨.hbm, 367, rfl⟩
abbrev main_call3_v6 : Ref sig .tc := ⟨.hbm, 368, rfl⟩
abbrev main_call3_v7 : Ref sig .tc := ⟨.hbm, 369, rfl⟩
abbrev main_call3_v8 : Ref sig .tc := ⟨.hbm, 370, rfl⟩
abbrev main_call3_v9 : Ref sig .tc := ⟨.hbm, 371, rfl⟩
abbrev main_call3_v10 : Ref sig .tc := ⟨.hbm, 372, rfl⟩
abbrev main_call3_v11 : Ref sig .tc := ⟨.hbm, 373, rfl⟩
abbrev main_call3_c_3 : Ref sig .tc := ⟨.hbm, 374, rfl⟩
abbrev main_call3_v12 : Ref sig .tc := ⟨.hbm, 375, rfl⟩
abbrev main_call3_v13 : Ref sig .tc := ⟨.hbm, 376, rfl⟩
abbrev main_call3_v14 : Ref sig .tc := ⟨.hbm, 377, rfl⟩
abbrev main_call3_cst : Ref sig .tc := ⟨.hbm, 378, rfl⟩
abbrev main_call3_v15 : Ref sig .tc := ⟨.hbm, 379, rfl⟩
abbrev main_v41 : Ref sig .tc := ⟨.hbm, 380, rfl⟩
abbrev main_v42 : Ref sig .tc := ⟨.hbm, 381, rfl⟩
abbrev main_v43 : Ref sig .tc := ⟨.hbm, 382, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem2_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3264x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1x128 : Shape := ⟨2, ![1, 128]⟩
abbrev S4096x51x64 : Shape := ⟨3, ![4096, 51, 64]⟩
abbrev S3264x512 : Shape := ⟨2, ![3264, 512]⟩
abbrev S512 : Shape := ⟨1, ![512]⟩
abbrev S512x64 : Shape := ⟨2, ![512, 64]⟩
abbrev S64 : Shape := ⟨1, ![64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S4096x3264 : Shape := ⟨2, ![4096, 3264]⟩
abbrev S4096x512 : Shape := ⟨2, ![4096, 512]⟩
abbrev S1x512 : Shape := ⟨2, ![1, 512]⟩
abbrev S4096x64 : Shape := ⟨2, ![4096, 64]⟩
abbrev S1x64 : Shape := ⟨2, ![1, 64]⟩
abbrev S4096x256 : Shape := ⟨2, ![4096, 256]⟩
abbrev S1x256 : Shape := ⟨2, ![1, 256]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S2 : Shape := ⟨1, ![2]⟩
abbrev S4096x4096 : Shape := ⟨2, ![4096, 4096]⟩
abbrev S1x4096 : Shape := ⟨2, ![1, 4096]⟩
abbrev S4096x1x64 : Shape := ⟨3, ![4096, 1, 64]⟩
abbrev S4096x52x64 : Shape := ⟨3, ![4096, 52, 64]⟩

abbrev nBuf : Space → Nat
  | .hbm => 412
  | .vmem => 0
  | .smem => 0
  | _ => 0

abbrev hbmTy0_0 (i : Nat) : BufTy := match i % 128 with
  | 0 => ⟨S1x128, .f32⟩
  | 1 => ⟨S4096x51x64, .f32⟩
  | 2 => ⟨S3264x512, .f32⟩
  | 3 => ⟨S512, .f32⟩
  | 4 => ⟨S512x64, .f32⟩
  | 5 => ⟨S64, .f32⟩
  | 6 => ⟨S64x256, .f32⟩
  | 7 => ⟨S256, .f32⟩
  | 8 => ⟨S256x1, .f32⟩
  | 9 => ⟨S1, .f32⟩
  | 10 => ⟨S64x256, .f32⟩
  | 11 => ⟨S256, .f32⟩
  | 12 => ⟨S256x128, .f32⟩
  | 13 => ⟨S128, .f32⟩
  | 14 => ⟨S4096x3264, .f32⟩
  | 15 => ⟨S4096x512, .f32⟩
  | 16 => ⟨S1x512, .f32⟩
  | 17 => ⟨S4096x512, .f32⟩
  | 18 => ⟨S4096x512, .f32⟩
  | 19 => ⟨S4096x512, .f32⟩
  | 20 => ⟨S4096x64, .f32⟩
  | 21 => ⟨S1x64, .f32⟩
  | 22 => ⟨S4096x64, .f32⟩
  | 23 => ⟨S4096x64, .f32⟩
  | 24 => ⟨S4096x256, .f32⟩
  | 25 => ⟨S1x256, .f32⟩
  | 26 => ⟨S4096x256, .f32⟩
  | 27 => ⟨S4096x256, .f32⟩
  | 28 => ⟨S4096x256, .f32⟩
  | 29 => ⟨S4096x128, .f32⟩
  | 30 => ⟨S1x128, .f32⟩
  | 31 => ⟨S4096x128, .f32⟩
  | 32 => ⟨S4096x128, .f32⟩
  | 33 => ⟨S4096x128, .f32⟩
  | 34 => ⟨S4096x128, .f32⟩
  | 35 => ⟨S4096x128, .f32⟩
  | 36 => ⟨S_, .f32⟩
  | 37 => ⟨S4096, .f32⟩
  | 38 => ⟨S_, .f32⟩
  | 39 => ⟨S4096, .f32⟩
  | 40 => ⟨S4096, .f32⟩
  | 41 => ⟨S_, .f32⟩
  | 42 => ⟨S4096, .f32⟩
  | 43 => ⟨S4096, .f32⟩
  | 44 => ⟨S4096, .f32⟩
  | 45 => ⟨S4096x256, .f32⟩
  | 46 => ⟨S1x256, .f32⟩
  | 47 => ⟨S4096x256, .f32⟩
  | 48 => ⟨S4096x256, .f32⟩
  | 49 => ⟨S4096x256, .f32⟩
  | 50 => ⟨S4096x1, .f32⟩
  | 51 => ⟨S1x1, .f32⟩
  | 52 => ⟨S4096x1, .f32⟩
  | 53 => ⟨S4096x1, .f32⟩
  | 54 => ⟨S4096, .f32⟩
  | 55 => ⟨S_, .f32⟩
  | 56 => ⟨S4096, .f32⟩
  | 57 => ⟨S4096, .i1⟩
  | 58 => ⟨S4096, .f32⟩
  | 59 => ⟨S_, .f32⟩
  | 60 => ⟨S_, .f32⟩
  | 61 => ⟨S_, .f32⟩
  | 62 => ⟨S_, .i1⟩
  | 63 => ⟨S_, .f32⟩
  | 64 => ⟨S4096, .f32⟩
  | 65 => ⟨S4096, .f32⟩
  | 66 => ⟨S4096, .f32⟩
  | 67 => ⟨S_, .f32⟩
  | 68 => ⟨S4096, .f32⟩
  | 69 => ⟨S4096, .f32⟩
  | 70 => ⟨S4096, .f32⟩
  | 71 => ⟨S_, .f32⟩
  | 72 => ⟨S_, .f32⟩
  | 73 => ⟨S4096, .f32⟩
  | 74 => ⟨S4096, .f32⟩
  | 75 => ⟨S_, .i32⟩
  | 76 => ⟨S_, .i32⟩
  | 77 => ⟨S_, .i32⟩
  | 78 => ⟨S_, .i32⟩
  | 79 => ⟨S1, .i32⟩
  | 80 => ⟨S_, .i32⟩
  | 81 => ⟨S_, .i32⟩
  | 82 => ⟨S_, .i32⟩
  | 83 => ⟨S1, .i32⟩
  | 84 => ⟨S2, .i32⟩
  | 85 => ⟨S_, .f32⟩
  | 86 => ⟨S4096, .f32⟩
  | 87 => ⟨S4096, .f32⟩
  | 88 => ⟨S4096, .f32⟩
  | 89 => ⟨S_, .f32⟩
  | 90 => ⟨S_, .f32⟩
  | 91 => ⟨S_, .f32⟩
  | 92 => ⟨S1x1, .f32⟩
  | 93 => ⟨S1x1, .f32⟩
  | 94 => ⟨S1, .i32⟩
  | 95 => ⟨S_, .i32⟩
  | 96 => ⟨S1, .i32⟩
  | 97 => ⟨S_, .i32⟩
  | 98 => ⟨S4096x4096, .i64⟩
  | 99 => ⟨S4096x4096, .i64⟩
  | 100 => ⟨S_, .i64⟩
  | 101 => ⟨S4096x4096, .i64⟩
  | 102 => ⟨S4096x4096, .i64⟩
  | 103 => ⟨S_, .i64⟩
  | 104 => ⟨S4096x4096, .i64⟩
  | 105 => ⟨S4096x4096, .i64⟩
  | 106 => ⟨S4096x4096, .i64⟩
  | 107 => ⟨S_, .i64⟩
  | 108 => ⟨S4096x4096, .i64⟩
  | 109 => ⟨S4096x4096, .i64⟩
  | 110 => ⟨S4096x4096, .i32⟩
  | 111 => ⟨S4096x4096, .i32⟩
  | 112 => ⟨S_, .i32⟩
  | 113 => ⟨S_, .i32⟩
  | 114 => ⟨S_, .i32⟩
  | 115 => ⟨S4096x4096, .i32⟩
  | 116 => ⟨S4096x4096, .i32⟩
  | 117 => ⟨S4096x4096, .i32⟩
  | 118 => ⟨S4096x4096, .i32⟩
  | 119 => ⟨S4096x4096, .i32⟩
  | 120 => ⟨S_, .i32⟩
  | 121 => ⟨S4096x4096, .i32⟩
  | 122 => ⟨S4096x4096, .i32⟩
  | 123 => ⟨S_, .i32⟩
  | 124 => ⟨S4096x4096, .i32⟩
  | 125 => ⟨S4096x4096, .i32⟩
  | 126 => ⟨S4096x4096, .i32⟩
  | 127 => ⟨S4096x4096, .i32⟩
  | _ => ⟨S1x128, .f32⟩

abbrev hbmTy0_1 (i : Nat) : BufTy := match i % 128 with
  | 0 => ⟨S4096x4096, .i32⟩
  | 1 => ⟨S_, .i32⟩
  | 2 => ⟨S4096x4096, .i32⟩
  | 3 => ⟨S4096x4096, .i32⟩
  | 4 => ⟨S_, .i32⟩
  | 5 => ⟨S4096x4096, .i32⟩
  | 6 => ⟨S4096x4096, .i32⟩
  | 7 => ⟨S4096x4096, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S_, .i32⟩
  | 14 => ⟨S4096x4096, .i32⟩
  | 15 => ⟨S4096x4096, .i32⟩
  | 16 => ⟨S4096x4096, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S4096x4096, .i32⟩
  | 26 => ⟨S4096x4096, .i32⟩
  | 27 => ⟨S4096x4096, .i32⟩
  | 28 => ⟨S4096x4096, .i32⟩
  | 29 => ⟨S4096x4096, .i32⟩
  | 30 => ⟨S4096x4096, .i32⟩
  | 31 => ⟨S_, .i32⟩
  | 32 => ⟨S4096x4096, .i32⟩
  | 33 => ⟨S4096x4096, .i32⟩
  | 34 => ⟨S4096x4096, .i32⟩
  | 35 => ⟨S_, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S_, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .i32⟩
  | 51 => ⟨S4096x4096, .i32⟩
  | 52 => ⟨S4096x4096, .i32⟩
  | 53 => ⟨S_, .i32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S4096x4096, .i32⟩
  | 60 => ⟨S4096x4096, .i32⟩
  | 61 => ⟨S4096x4096, .i32⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S4096x4096, .i32⟩
  | 69 => ⟨S4096x4096, .i32⟩
  | 70 => ⟨S4096x4096, .i32⟩
  | 71 => ⟨S4096x4096, .i32⟩
  | 72 => ⟨S4096x4096, .i32⟩
  | 73 => ⟨S4096x4096, .i32⟩
  | 74 => ⟨S_, .i32⟩
  | 75 => ⟨S4096x4096, .i32⟩
  | 76 => ⟨S4096x4096, .i32⟩
  | 77 => ⟨S4096x4096, .i32⟩
  | 78 => ⟨S_, .i32⟩
  | 79 => ⟨S4096x4096, .i32⟩
  | 80 => ⟨S4096x4096, .i32⟩
  | 81 => ⟨S_, .i32⟩
  | 82 => ⟨S4096x4096, .i32⟩
  | 83 => ⟨S4096x4096, .i32⟩
  | 84 => ⟨S4096x4096, .i32⟩
  | 85 => ⟨S4096x4096, .i32⟩
  | 86 => ⟨S4096x4096, .i32⟩
  | 87 => ⟨S_, .i32⟩
  | 88 => ⟨S4096x4096, .i32⟩
  | 89 => ⟨S4096x4096, .i32⟩
  | 90 => ⟨S_, .i32⟩
  | 91 => ⟨S4096x4096, .i32⟩
  | 92 => ⟨S4096x4096, .i32⟩
  | 93 => ⟨S4096x4096, .i32⟩
  | 94 => ⟨S4096x4096, .i32⟩
  | 95 => ⟨S4096x4096, .i32⟩
  | 96 => ⟨S_, .i32⟩
  | 97 => ⟨S4096x4096, .i32⟩
  | 98 => ⟨S4096x4096, .i32⟩
  | 99 => ⟨S_, .i32⟩
  | 100 => ⟨S4096x4096, .i32⟩
  | 101 => ⟨S4096x4096, .i32⟩
  | 102 => ⟨S4096x4096, .i32⟩
  | 103 => ⟨S4096x4096, .i32⟩
  | 104 => ⟨S4096x4096, .i32⟩
  | 105 => ⟨S_, .i32⟩
  | 106 => ⟨S4096x4096, .i32⟩
  | 107 => ⟨S4096x4096, .i32⟩
  | 108 => ⟨S_, .i32⟩
  | 109 => ⟨S4096x4096, .i32⟩
  | 110 => ⟨S4096x4096, .i32⟩
  | 111 => ⟨S4096x4096, .i32⟩
  | 112 => ⟨S4096x4096, .i32⟩
  | 113 => ⟨S4096x4096, .i32⟩
  | 114 => ⟨S4096x4096, .i32⟩
  | 115 => ⟨S4096x4096, .i32⟩
  | 116 => ⟨S4096x4096, .i32⟩
  | 117 => ⟨S_, .i32⟩
  | 118 => ⟨S4096x4096, .i32⟩
  | 119 => ⟨S4096x4096, .i32⟩
  | 120 => ⟨S4096x4096, .i32⟩
  | 121 => ⟨S_, .i32⟩
  | 122 => ⟨S4096x4096, .i32⟩
  | 123 => ⟨S4096x4096, .i32⟩
  | 124 => ⟨S_, .i32⟩
  | 125 => ⟨S4096x4096, .i32⟩
  | 126 => ⟨S4096x4096, .i32⟩
  | 127 => ⟨S4096x4096, .i32⟩
  | _ => ⟨S1x128, .f32⟩

abbrev hbmTy0_2 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i32⟩
  | 5 => ⟨S_, .i32⟩
  | 6 => ⟨S4096x4096, .i32⟩
  | 7 => ⟨S4096x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S4096x4096, .i32⟩
  | 27 => ⟨S4096x4096, .i32⟩
  | 28 => ⟨S4096x4096, .i32⟩
  | 29 => ⟨S4096x4096, .i32⟩
  | 30 => ⟨S4096x4096, .i32⟩
  | 31 => ⟨S4096x4096, .i32⟩
  | 32 => ⟨S_, .i32⟩
  | 33 => ⟨S4096x4096, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S_, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S4096x4096, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S_, .i32⟩
  | 67 => ⟨S4096x4096, .i32⟩
  | 68 => ⟨S4096x4096, .i32⟩
  | 69 => ⟨S4096x4096, .i32⟩
  | 70 => ⟨S4096x4096, .i32⟩
  | 71 => ⟨S4096x4096, .i32⟩
  | 72 => ⟨S4096x4096, .i32⟩
  | 73 => ⟨S4096x4096, .i32⟩
  | 74 => ⟨S4096x4096, .i32⟩
  | 75 => ⟨S_, .i32⟩
  | 76 => ⟨S4096x4096, .i32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S_, .i32⟩
  | 83 => ⟨S4096x4096, .i32⟩
  | 84 => ⟨S4096x4096, .i32⟩
  | 85 => ⟨S4096x4096, .f32⟩
  | 86 => ⟨S_, .f32⟩
  | 87 => ⟨S4096x4096, .f32⟩
  | 88 => ⟨S4096x4096, .f32⟩
  | 89 => ⟨S1x1, .f32⟩
  | 90 => ⟨S4096x4096, .f32⟩
  | 91 => ⟨S4096x4096, .f32⟩
  | 92 => ⟨S4096x4096, .f32⟩
  | 93 => ⟨S4096x4096, .f32⟩
  | 94 => ⟨S4096x4096, .f32⟩
  | 95 => ⟨S4096x4096, .f32⟩
  | 96 => ⟨S4096x4096, .f32⟩
  | 97 => ⟨S4096x4096, .f32⟩
  | 98 => ⟨S4096x4096, .f32⟩
  | 99 => ⟨S4096x4096, .f32⟩
  | 100 => ⟨S1x4096, .f32⟩
  | 101 => ⟨S4096x4096, .f32⟩
  | 102 => ⟨S4096x4096, .f32⟩
  | 103 => ⟨S4096x4096, .i32⟩
  | 104 => ⟨S_, .f32⟩
  | 105 => ⟨S_, .i32⟩
  | 106 => ⟨S4096, .f32⟩
  | 107 => ⟨S4096, .i32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S1, .i32⟩
  | 117 => ⟨S_, .i32⟩
  | 118 => ⟨S4096x1, .i32⟩
  | 119 => ⟨S4096x1, .i1⟩
  | 120 => ⟨S1x1, .i32⟩
  | 121 => ⟨S4096x1, .i32⟩
  | 122 => ⟨S4096x1, .i1⟩
  | 123 => ⟨S4096x1, .i1⟩
  | 124 => ⟨S_, .i1⟩
  | 125 => ⟨S4096, .i1⟩
  | 126 => ⟨S4096x64, .f32⟩
  | 127 => ⟨S4096x64, .i1⟩
  | _ => ⟨S1x128, .f32⟩

abbrev hbmTy0_3 (i : Nat) : BufTy := match i % 128 with
  | 0 => ⟨S_, .f32⟩
  | 1 => ⟨S4096x64, .f32⟩
  | 2 => ⟨S4096x64, .f32⟩
  | 3 => ⟨S_, .i32⟩
  | 4 => ⟨S4096, .i32⟩
  | 5 => ⟨S4096, .i1⟩
  | 6 => ⟨S_, .i32⟩
  | 7 => ⟨S4096, .i32⟩
  | 8 => ⟨S4096, .i32⟩
  | 9 => ⟨S4096, .i32⟩
  | 10 => ⟨S4096x1, .i32⟩
  | 11 => ⟨S1, .i32⟩
  | 12 => ⟨S_, .i32⟩
  | 13 => ⟨S4096x1, .i32⟩
  | 14 => ⟨S4096x1, .i1⟩
  | 15 => ⟨S1x1, .i32⟩
  | 16 => ⟨S4096x1, .i32⟩
  | 17 => ⟨S4096x1, .i1⟩
  | 18 => ⟨S4096x1, .i1⟩
  | 19 => ⟨S_, .i1⟩
  | 20 => ⟨S4096, .i1⟩
  | 21 => ⟨S4096x51x64, .f32⟩
  | 22 => ⟨S4096x51x64, .i1⟩
  | 23 => ⟨S_, .f32⟩
  | 24 => ⟨S4096x51x64, .f32⟩
  | 25 => ⟨S4096x51x64, .f32⟩
  | 26 => ⟨S4096x1x64, .f32⟩
  | 27 => ⟨S4096x52x64, .f32⟩
  | _ => ⟨S1x128, .f32⟩

abbrev hbmTy (i : Nat) : BufTy := match i / 128 with
  | 0 => hbmTy0_0 i
  | 1 => hbmTy0_1 i
  | 2 => hbmTy0_2 i
  | 3 => hbmTy0_3 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_c_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_cst_0 : Ref sig .tc := ⟨.hbm, 90, rfl⟩
abbrev main_call1_call0_v0 : Ref sig .tc := ⟨.hbm, 91, rfl⟩
abbrev main_call1_call0_v1 : Ref sig .tc := ⟨.hbm, 92, rfl⟩
abbrev main_call1_call0_v2 : Ref sig .tc := ⟨.hbm, 93, rfl⟩
abbrev main_call1_call0_v3 : Ref sig .tc := ⟨.hbm, 94, rfl⟩
abbrev main_call1_call0_v4 : Ref sig .tc := ⟨.hbm, 95, rfl⟩
abbrev main_call1_call0_v5 : Ref sig .tc := ⟨.hbm, 96, rfl⟩
abbrev main_call1_call0_v6 : Ref sig .tc := ⟨.hbm, 97, rfl⟩
abbrev main_call1_call0_v7 : Ref sig .tc := ⟨.hbm, 98, rfl⟩
abbrev main_call1_call0_v8 : Ref sig .tc := ⟨.hbm, 99, rfl⟩
abbrev main_call1_call0_c : Ref sig .tc := ⟨.hbm, 100, rfl⟩
abbrev main_call1_call0_v9 : Ref sig .tc := ⟨.hbm, 101, rfl⟩
abbrev main_call1_call0_v10 : Ref sig .tc := ⟨.hbm, 102, rfl⟩
abbrev main_call1_call0_c_0 : Ref sig .tc := ⟨.hbm, 103, rfl⟩
abbrev main_call1_call0_v11 : Ref sig .tc := ⟨.hbm, 104, rfl⟩
abbrev main_call1_call0_v12 : Ref sig .tc := ⟨.hbm, 105, rfl⟩
abbrev main_call1_call0_v13 : Ref sig .tc := ⟨.hbm, 106, rfl⟩
abbrev main_call1_call0_c_1 : Ref sig .tc := ⟨.hbm, 107, rfl⟩
abbrev main_call1_call0_v14 : Ref sig .tc := ⟨.hbm, 108, rfl⟩
abbrev main_call1_call0_v15 : Ref sig .tc := ⟨.hbm, 109, rfl⟩
abbrev main_call1_call0_v16 : Ref sig .tc := ⟨.hbm, 110, rfl⟩
abbrev main_call1_call0_v17 : Ref sig .tc := ⟨.hbm, 111, rfl⟩
abbrev main_call1_call0_call0_v0 : Ref sig .tc := ⟨.hbm, 112, rfl⟩
abbrev main_call1_call0_call0_c : Ref sig .tc := ⟨.hbm, 113, rfl⟩
abbrev main_call1_call0_call0_v1 : Ref sig .tc := ⟨.hbm, 114, rfl⟩
abbrev main_call1_call0_call0_v2 : Ref sig .tc := ⟨.hbm, 115, rfl⟩
abbrev main_call1_call0_call0_v3 : Ref sig .tc := ⟨.hbm, 116, rfl⟩
abbrev main_call1_call0_call0_v4 : Ref sig .tc := ⟨.hbm, 117, rfl⟩
abbrev main_call1_call0_call0_v5 : Ref sig .tc := ⟨.hbm, 118, rfl⟩
abbrev main_call1_call0_call0_v6 : Ref sig .tc := ⟨.hbm, 119, rfl⟩
abbrev main_call1_call0_call0_c_0 : Ref sig .tc := ⟨.hbm, 120, rfl⟩
abbrev main_call1_call0_call0_v7 : Ref sig .tc := ⟨.hbm, 121, rfl⟩
abbrev main_call1_call0_call0_v8 : Ref sig .tc := ⟨.hbm, 122, rfl⟩
abbrev main_call1_call0_call0_c_1 : Ref sig .tc := ⟨.hbm, 123, rfl⟩
abbrev main_call1_call0_call0_v9 : Ref sig .tc := ⟨.hbm, 124, rfl⟩
abbrev main_call1_call0_call0_v10 : Ref sig .tc := ⟨.hbm, 125, rfl⟩
abbrev main_call1_call0_call0_v11 : Ref sig .tc := ⟨.hbm, 126, rfl⟩
abbrev main_call1_call0_call0_v12 : Ref sig .tc := ⟨.hbm, 127, rfl⟩
abbrev main_call1_call0_call0_v13 : Ref sig .tc := ⟨.hbm, 128, rfl⟩
abbrev main_call1_call0_call0_c_2 : Ref sig .tc := ⟨.hbm, 129, rfl⟩
abbrev main_call1_call0_call0_v14 : Ref sig .tc := ⟨.hbm, 130, rfl⟩
abbrev main_call1_call0_call0_v15 : Ref sig .tc := ⟨.hbm, 131, rfl⟩
abbrev main_call1_call0_call0_c_3 : Ref sig .tc := ⟨.hbm, 132, rfl⟩
abbrev main_call1_call0_call0_v16 : Ref sig .tc := ⟨.hbm, 133, rfl⟩
abbrev main_call1_call0_call0_v17 : Ref sig .tc := ⟨.hbm, 134, rfl⟩
abbrev main_call1_call0_call0_v18 : Ref sig .tc := ⟨.hbm, 135, rfl⟩
abbrev main_call1_call0_call0_v19 : Ref sig .tc := ⟨.hbm, 136, rfl⟩
abbrev main_call1_call0_call0_v20 : Ref sig .tc := ⟨.hbm, 137, rfl⟩
abbrev main_call1_call0_call0_c_4 : Ref sig .tc := ⟨.hbm, 138, rfl⟩
abbrev main_call1_call0_call0_v21 : Ref sig .tc := ⟨.hbm, 139, rfl⟩
abbrev main_call1_call0_call0_v22 : Ref sig .tc := ⟨.hbm, 140, rfl⟩
abbrev main_call1_call0_call0_c_5 : Ref sig .tc := ⟨.hbm, 141, rfl⟩
abbrev main_call1_call0_call0_v23 : Ref sig .tc := ⟨.hbm, 142, rfl⟩
abbrev main_call1_call0_call0_v24 : Ref sig .tc := ⟨.hbm, 143, rfl⟩
abbrev main_call1_call0_call0_v25 : Ref sig .tc := ⟨.hbm, 144, rfl⟩
abbrev main_call1_call0_call0_v26 : Ref sig .tc := ⟨.hbm, 145, rfl⟩
abbrev main_call1_call0_call0_v27 : Ref sig .tc := ⟨.hbm, 146, rfl⟩
abbrev main_call1_call0_call0_c_6 : Ref sig .tc := ⟨.hbm, 147, rfl⟩
abbrev main_call1_call0_call0_v28 : Ref sig .tc := ⟨.hbm, 148, rfl⟩
abbrev main_call1_call0_call0_v29 : Ref sig .tc := ⟨.hbm, 149, rfl⟩
abbrev main_call1_call0_call0_c_7 : Ref sig .tc := ⟨.hbm, 150, rfl⟩
abbrev main_call1_call0_call0_v30 : Ref sig .tc := ⟨.hbm, 151, rfl⟩
abbrev main_call1_call0_call0_v31 : Ref sig .tc := ⟨.hbm, 152, rfl⟩
abbrev main_call1_call0_call0_v32 : Ref sig .tc := ⟨.hbm, 153, rfl⟩
abbrev main_call1_call0_call0_v33 : Ref sig .tc := ⟨.hbm, 154, rfl⟩
abbrev main_call1_call0_call0_v34 : Ref sig .tc := ⟨.hbm, 155, rfl⟩
abbrev main_call1_call0_call0_v35 : Ref sig .tc := ⟨.hbm, 156, rfl⟩
abbrev main_call1_call0_call0_v36 : Ref sig .tc := ⟨.hbm, 157, rfl⟩
abbrev main_call1_call0_call0_v37 : Ref sig .tc := ⟨.hbm, 158, rfl⟩
abbrev main_call1_call0_call0_c_8 : Ref sig .tc := ⟨.hbm, 159, rfl⟩
abbrev main_call1_call0_call0_v38 : Ref sig .tc := ⟨.hbm, 160, rfl⟩
abbrev main_call1_call0_call0_v39 : Ref sig .tc := ⟨.hbm, 161, rfl⟩
abbrev main_call1_call0_call0_v40 : Ref sig .tc := ⟨.hbm, 162, rfl⟩
abbrev main_call1_call0_call0_c_9 : Ref sig .tc := ⟨.hbm, 163, rfl⟩
abbrev main_call1_call0_call0_v41 : Ref sig .tc := ⟨.hbm, 164, rfl⟩
abbrev main_call1_call0_call0_v42 : Ref sig .tc := ⟨.hbm, 165, rfl⟩
abbrev main_call1_call0_call0_c_10 : Ref sig .tc := ⟨.hbm, 166, rfl⟩
abbrev main_call1_call0_call0_v43 : Ref sig .tc := ⟨.hbm, 167, rfl⟩
abbrev main_call1_call0_call0_v44 : Ref sig .tc := ⟨.hbm, 168, rfl⟩
abbrev main_call1_call0_call0_v45 : Ref sig .tc := ⟨.hbm, 169, rfl⟩
abbrev main_call1_call0_call0_v46 : Ref sig .tc := ⟨.hbm, 170, rfl⟩
abbrev main_call1_call0_call0_v47 : Ref sig .tc := ⟨.hbm, 171, rfl⟩
abbrev main_call1_call0_call0_c_11 : Ref sig .tc := ⟨.hbm, 172, rfl⟩
abbrev main_call1_call0_call0_v48 : Ref sig .tc := ⟨.hbm, 173, rfl⟩
abbrev main_call1_call0_call0_v49 : Ref sig .tc := ⟨.hbm, 174, rfl⟩
abbrev main_call1_call0_call0_c_12 : Ref sig .tc := ⟨.hbm, 175, rfl⟩
abbrev main_call1_call0_call0_v50 : Ref sig .tc := ⟨.hbm, 176, rfl⟩
abbrev main_call1_call0_call0_v51 : Ref sig .tc := ⟨.hbm, 177, rfl⟩
abbrev main_call1_call0_call0_v52 : Ref sig .tc := ⟨.hbm, 178, rfl⟩
abbrev main_call1_call0_call0_v53 : Ref sig .tc := ⟨.hbm, 179, rfl⟩
abbrev main_call1_call0_call0_v54 : Ref sig .tc := ⟨.hbm, 180, rfl⟩
abbrev main_call1_call0_call0_c_13 : Ref sig .tc := ⟨.hbm, 181, rfl⟩
abbrev main_call1_call0_call0_v55 : Ref sig .tc := ⟨.hbm, 182, rfl⟩
abbrev main_call1_call0_call0_v56 : Ref sig .tc := ⟨.hbm, 183, rfl⟩
abbrev main_call1_call0_call0_c_14 : Ref sig .tc := ⟨.hbm, 184, rfl⟩
abbrev main_call1_call0_call0_v57 : Ref sig .tc := ⟨.hbm, 185, rfl⟩
abbrev main_call1_call0_call0_v58 : Ref sig .tc := ⟨.hbm, 186, rfl⟩
abbrev main_call1_call0_call0_v59 : Ref sig .tc := ⟨.hbm, 187, rfl⟩
abbrev main_call1_call0_call0_v60 : Ref sig .tc := ⟨.hbm, 188, rfl⟩
abbrev main_call1_call0_call0_v61 : Ref sig .tc := ⟨.hbm, 189, rfl⟩
abbrev main_call1_call0_call0_c_15 : Ref sig .tc := ⟨.hbm, 190, rfl⟩
abbrev main_call1_call0_call0_v62 : Ref sig .tc := ⟨.hbm, 191, rfl⟩
abbrev main_call1_call0_call0_v63 : Ref sig .tc := ⟨.hbm, 192, rfl⟩
abbrev main_call1_call0_call0_c_16 : Ref sig .tc := ⟨.hbm, 193, rfl⟩
abbrev main_call1_call0_call0_v64 : Ref sig .tc := ⟨.hbm, 194, rfl⟩
abbrev main_call1_call0_call0_v65 : Ref sig .tc := ⟨.hbm, 195, rfl⟩
abbrev main_call1_call0_call0_v66 : Ref sig .tc := ⟨.hbm, 196, rfl⟩
abbrev main_call1_call0_call0_v67 : Ref sig .tc := ⟨.hbm, 197, rfl⟩
abbrev main_call1_call0_call0_v68 : Ref sig .tc := ⟨.hbm, 198, rfl⟩
abbrev main_call1_call0_call0_v69 : Ref sig .tc := ⟨.hbm, 199, rfl⟩
abbrev main_call1_call0_call0_v70 : Ref sig .tc := ⟨.hbm, 200, rfl⟩
abbrev main_call1_call0_call0_v71 : Ref sig .tc := ⟨.hbm, 201, rfl⟩
abbrev main_call1_call0_call0_c_17 : Ref sig .tc := ⟨.hbm, 202, rfl⟩
abbrev main_call1_call0_call0_v72 : Ref sig .tc := ⟨.hbm, 203, rfl⟩
abbrev main_call1_call0_call0_v73 : Ref sig .tc := ⟨.hbm, 204, rfl⟩
abbrev main_call1_call0_call0_v74 : Ref sig .tc := ⟨.hbm, 205, rfl⟩
abbrev main_call1_call0_call0_c_18 : Ref sig .tc := ⟨.hbm, 206, rfl⟩
abbrev main_call1_call0_call0_v75 : Ref sig .tc := ⟨.hbm, 207, rfl⟩
abbrev main_call1_call0_call0_v76 : Ref sig .tc := ⟨.hbm, 208, rfl⟩
abbrev main_call1_call0_call0_c_19 : Ref sig .tc := ⟨.hbm, 209, rfl⟩
abbrev main_call1_call0_call0_v77 : Ref sig .tc := ⟨.hbm, 210, rfl⟩
abbrev main_call1_call0_call0_v78 : Ref sig .tc := ⟨.hbm, 211, rfl⟩
abbrev main_call1_call0_call0_v79 : Ref sig .tc := ⟨.hbm, 212, rfl⟩
abbrev main_call1_call0_call0_v80 : Ref sig .tc := ⟨.hbm, 213, rfl⟩
abbrev main_call1_call0_call0_v81 : Ref sig .tc := ⟨.hbm, 214, rfl⟩
abbrev main_call1_call0_call0_c_20 : Ref sig .tc := ⟨.hbm, 215, rfl⟩
abbrev main_call1_call0_call0_v82 : Ref sig .tc := ⟨.hbm, 216, rfl⟩
abbrev main_call1_call0_call0_v83 : Ref sig .tc := ⟨.hbm, 217, rfl⟩
abbrev main_call1_call0_call0_c_21 : Ref sig .tc := ⟨.hbm, 218, rfl⟩
abbrev main_call1_call0_call0_v84 : Ref sig .tc := ⟨.hbm, 219, rfl⟩
abbrev main_call1_call0_call0_v85 : Ref sig .tc := ⟨.hbm, 220, rfl⟩
abbrev main_call1_call0_call0_v86 : Ref sig .tc := ⟨.hbm, 221, rfl⟩
abbrev main_call1_call0_call0_v87 : Ref sig .tc := ⟨.hbm, 222, rfl⟩
abbrev main_call1_call0_call0_v88 : Ref sig .tc := ⟨.hbm, 223, rfl⟩
abbrev main_call1_call0_call0_c_22 : Ref sig .tc := ⟨.hbm, 224, rfl⟩
abbrev main_call1_call0_call0_v89 : Ref sig .tc := ⟨.hbm, 225, rfl⟩
abbrev main_call1_call0_call0_v90 : Ref sig .tc := ⟨.hbm, 226, rfl⟩
abbrev main_call1_call0_call0_c_23 : Ref sig .tc := ⟨.hbm, 227, rfl⟩
abbrev main_call1_call0_call0_v91 : Ref sig .tc := ⟨.hbm, 228, rfl⟩
abbrev main_call1_call0_call0_v92 : Ref sig .tc := ⟨.hbm, 229, rfl⟩
abbrev main_call1_call0_call0_v93 : Ref sig .tc := ⟨.hbm, 230, rfl⟩
abbrev main_call1_call0_call0_v94 : Ref sig .tc := ⟨.hbm, 231, rfl⟩
abbrev main_call1_call0_call0_v95 : Ref sig .tc := ⟨.hbm, 232, rfl⟩
abbrev main_call1_call0_call0_c_24 : Ref sig .tc := ⟨.hbm, 233, rfl⟩
abbrev main_call1_call0_call0_v96 : Ref sig .tc := ⟨.hbm, 234, rfl⟩
abbrev main_call1_call0_call0_v97 : Ref sig .tc := ⟨.hbm, 235, rfl⟩
abbrev main_call1_call0_call0_c_25 : Ref sig .tc := ⟨.hbm, 236, rfl⟩
abbrev main_call1_call0_call0_v98 : Ref sig .tc := ⟨.hbm, 237, rfl⟩
abbrev main_call1_call0_call0_v99 : Ref sig .tc := ⟨.hbm, 238, rfl⟩
abbrev main_call1_call0_call0_v100 : Ref sig .tc := ⟨.hbm, 239, rfl⟩
abbrev main_call1_call0_call0_v101 : Ref sig .tc := ⟨.hbm, 240, rfl⟩
abbrev main_call1_call0_call0_v102 : Ref sig .tc := ⟨.hbm, 241, rfl⟩
abbrev main_call1_call0_call0_v103 : Ref sig .tc := ⟨.hbm, 242, rfl⟩
abbrev main_call1_call0_call0_v104 : Ref sig .tc := ⟨.hbm, 243, rfl⟩
abbrev main_call1_call0_call0_v105 : Ref sig .tc := ⟨.hbm, 244, rfl⟩
abbrev main_call1_call0_call0_c_26 : Ref sig .tc := ⟨.hbm, 245, rfl⟩
abbrev main_call1_call0_call0_v106 : Ref sig .tc := ⟨.hbm, 246, rfl⟩
abbrev main_call1_call0_call0_v107 : Ref sig .tc := ⟨.hbm, 247, rfl⟩
abbrev main_call1_call0_call0_v108 : Ref sig .tc := ⟨.hbm, 248, rfl⟩
abbrev main_call1_call0_call0_c_27 : Ref sig .tc := ⟨.hbm, 249, rfl⟩
abbrev main_call1_call0_call0_v109 : Ref sig .tc := ⟨.hbm, 250, rfl⟩
abbrev main_call1_call0_call0_v110 : Ref sig .tc := ⟨.hbm, 251, rfl⟩
abbrev main_call1_call0_call0_c_28 : Ref sig .tc := ⟨.hbm, 252, rfl⟩
abbrev main_call1_call0_call0_v111 : Ref sig .tc := ⟨.hbm, 253, rfl⟩
abbrev main_call1_call0_call0_v112 : Ref sig .tc := ⟨.hbm, 254, rfl⟩
abbrev main_call1_call0_call0_v113 : Ref sig .tc := ⟨.hbm, 255, rfl⟩
abbrev main_call1_call0_call0_v114 : Ref sig .tc := ⟨.hbm, 256, rfl⟩
abbrev main_call1_call0_call0_v115 : Ref sig .tc := ⟨.hbm, 257, rfl⟩
abbrev main_call1_call0_call0_c_29 : Ref sig .tc := ⟨.hbm, 258, rfl⟩
abbrev main_call1_call0_call0_v116 : Ref sig .tc := ⟨.hbm, 259, rfl⟩
abbrev main_call1_call0_call0_v117 : Ref sig .tc := ⟨.hbm, 260, rfl⟩
abbrev main_call1_call0_call0_c_30 : Ref sig .tc := ⟨.hbm, 261, rfl⟩
abbrev main_call1_call0_call0_v118 : Ref sig .tc := ⟨.hbm, 262, rfl⟩
abbrev main_call1_call0_call0_v119 : Ref sig .tc := ⟨.hbm, 263, rfl⟩
abbrev main_call1_call0_call0_v120 : Ref sig .tc := ⟨.hbm, 264, rfl⟩
abbrev main_call1_call0_call0_v121 : Ref sig .tc := ⟨.hbm, 265, rfl⟩
abbrev main_call1_call0_call0_v122 : Ref sig .tc := ⟨.hbm, 266, rfl⟩
abbrev main_call1_call0_call0_c_31 : Ref sig .tc := ⟨.hbm, 267, rfl⟩
abbrev main_call1_call0_call0_v123 : Ref sig .tc := ⟨.hbm, 268, rfl⟩
abbrev main_call1_call0_call0_v124 : Ref sig .tc := ⟨.hbm, 269, rfl⟩
abbrev main_call1_call0_call0_c_32 : Ref sig .tc := ⟨.hbm, 270, rfl⟩
abbrev main_call1_call0_call0_v125 : Ref sig .tc := ⟨.hbm, 271, rfl⟩
abbrev main_call1_call0_call0_v126 : Ref sig .tc := ⟨.hbm, 272, rfl⟩
abbrev main_call1_call0_call0_v127 : Ref sig .tc := ⟨.hbm, 273, rfl⟩
abbrev main_call1_call0_call0_v128 : Ref sig .tc := ⟨.hbm, 274, rfl⟩
abbrev main_call1_call0_call0_v129 : Ref sig .tc := ⟨.hbm, 275, rfl⟩
abbrev main_call1_call0_call0_c_33 : Ref sig .tc := ⟨.hbm, 276, rfl⟩
abbrev main_call1_call0_call0_v130 : Ref sig .tc := ⟨.hbm, 277, rfl⟩
abbrev main_call1_call0_call0_v131 : Ref sig .tc := ⟨.hbm, 278, rfl⟩
abbrev main_call1_call0_call0_c_34 : Ref sig .tc := ⟨.hbm, 279, rfl⟩
abbrev main_call1_call0_call0_v132 : Ref sig .tc := ⟨.hbm, 280, rfl⟩
abbrev main_call1_call0_call0_v133 : Ref sig .tc := ⟨.hbm, 281, rfl⟩
abbrev main_call1_call0_call0_v134 : Ref sig .tc := ⟨.hbm, 282, rfl⟩
abbrev main_call1_call0_call0_v135 : Ref sig .tc := ⟨.hbm, 283, rfl⟩
abbrev main_call1_call0_call0_v136 : Ref sig .tc := ⟨.hbm, 284, rfl⟩
abbrev main_call1_call0_call0_v137 : Ref sig .tc := ⟨.hbm, 285, rfl⟩
abbrev main_call1_call0_call0_v138 : Ref sig .tc := ⟨.hbm, 286, rfl⟩
abbrev main_call1_call0_call0_v139 : Ref sig .tc := ⟨.hbm, 287, rfl⟩
abbrev main_call1_call0_call0_c_35 : Ref sig .tc := ⟨.hbm, 288, rfl⟩
abbrev main_call1_call0_call0_v140 : Ref sig .tc := ⟨.hbm, 289, rfl⟩
abbrev main_call1_call0_call0_v141 : Ref sig .tc := ⟨.hbm, 290, rfl⟩
abbrev main_call1_call0_call0_v142 : Ref sig .tc := ⟨.hbm, 291, rfl⟩
abbrev main_call1_call0_call0_c_36 : Ref sig .tc := ⟨.hbm, 292, rfl⟩
abbrev main_call1_call0_call0_v143 : Ref sig .tc := ⟨.hbm, 293, rfl⟩
abbrev main_call1_call0_call0_v144 : Ref sig .tc := ⟨.hbm, 294, rfl⟩
abbrev main_call1_call0_call0_c_37 : Ref sig .tc := ⟨.hbm, 295, rfl⟩
abbrev main_call1_call0_call0_v145 : Ref sig .tc := ⟨.hbm, 296, rfl⟩
abbrev main_call1_call0_call0_v146 : Ref sig .tc := ⟨.hbm, 297, rfl⟩
abbrev main_call1_call0_call0_v147 : Ref sig .tc := ⟨.hbm, 298, rfl⟩
abbrev main_call1_call0_call0_v148 : Ref sig .tc := ⟨.hbm, 299, rfl⟩
abbrev main_call1_call0_call0_v149 : Ref sig .tc := ⟨.hbm, 300, rfl⟩
abbrev main_call1_call0_call0_c_38 : Ref sig .tc := ⟨.hbm, 301, rfl⟩
abbrev main_call1_call0_call0_v150 : Ref sig .tc := ⟨.hbm, 302, rfl⟩
abbrev main_call1_call0_call0_v151 : Ref sig .tc := ⟨.hbm, 303, rfl⟩
abbrev main_call1_call0_call0_c_39 : Ref sig .tc := ⟨.hbm, 304, rfl⟩
abbrev main_call1_call0_call0_v152 : Ref sig .tc := ⟨.hbm, 305, rfl⟩
abbrev main_call1_call0_call0_v153 : Ref sig .tc := ⟨.hbm, 306, rfl⟩
abbrev main_call1_call0_call0_v154 : Ref sig .tc := ⟨.hbm, 307, rfl⟩
abbrev main_call1_call0_call0_v155 : Ref sig .tc := ⟨.hbm, 308, rfl⟩
abbrev main_call1_call0_call0_v156 : Ref sig .tc := ⟨.hbm, 309, rfl⟩
abbrev main_call1_call0_call0_c_40 : Ref sig .tc := ⟨.hbm, 310, rfl⟩
abbrev main_call1_call0_call0_v157 : Ref sig .tc := ⟨.hbm, 311, rfl⟩
abbrev main_call1_call0_call0_v158 : Ref sig .tc := ⟨.hbm, 312, rfl⟩
abbrev main_call1_call0_call0_c_41 : Ref sig .tc := ⟨.hbm, 313, rfl⟩
abbrev main_call1_call0_call0_v159 : Ref sig .tc := ⟨.hbm, 314, rfl⟩
abbrev main_call1_call0_call0_v160 : Ref sig .tc := ⟨.hbm, 315, rfl⟩
abbrev main_call1_call0_call0_v161 : Ref sig .tc := ⟨.hbm, 316, rfl⟩
abbrev main_call1_call0_call0_v162 : Ref sig .tc := ⟨.hbm, 317, rfl⟩
abbrev main_call1_call0_call0_v163 : Ref sig .tc := ⟨.hbm, 318, rfl⟩
abbrev main_call1_call0_call0_c_42 : Ref sig .tc := ⟨.hbm, 319, rfl⟩
abbrev main_call1_call0_call0_v164 : Ref sig .tc := ⟨.hbm, 320, rfl⟩
abbrev main_call1_call0_call0_v165 : Ref sig .tc := ⟨.hbm, 321, rfl⟩
abbrev main_call1_call0_call0_c_43 : Ref sig .tc := ⟨.hbm, 322, rfl⟩
abbrev main_call1_call0_call0_v166 : Ref sig .tc := ⟨.hbm, 323, rfl⟩
abbrev main_call1_call0_call0_v167 : Ref sig .tc := ⟨.hbm, 324, rfl⟩
abbrev main_call1_call0_call0_v168 : Ref sig .tc := ⟨.hbm, 325, rfl⟩
abbrev main_call1_call0_call0_v169 : Ref sig .tc := ⟨.hbm, 326, rfl⟩
abbrev main_call1_call0_call0_v170 : Ref sig .tc := ⟨.hbm, 327, rfl⟩
abbrev main_call1_call0_v18_0 : Ref sig .tc := ⟨.hbm, 328, rfl⟩
abbrev main_call1_call0_call0_v172 : Ref sig .tc := ⟨.hbm, 329, rfl⟩
abbrev main_call1_call0_call0_v173 : Ref sig .tc := ⟨.hbm, 330, rfl⟩
abbrev main_call1_call0_call0_c_44 : Ref sig .tc := ⟨.hbm, 331, rfl⟩
abbrev main_call1_call0_call0_v174 : Ref sig .tc := ⟨.hbm, 332, rfl⟩
abbrev main_call1_call0_v18_1 : Ref sig .tc := ⟨.hbm, 333, rfl⟩
abbrev main_call1_call0_v19 : Ref sig .tc := ⟨.hbm, 334, rfl⟩
abbrev main_call1_call0_c_2 : Ref sig .tc := ⟨.hbm, 335, rfl⟩
abbrev main_call1_call0_v20 : Ref sig .tc := ⟨.hbm, 336, rfl⟩
abbrev main_call1_call0_v21 : Ref sig .tc := ⟨.hbm, 337, rfl⟩
abbrev main_call1_call0_c_3 : Ref sig .tc := ⟨.hbm, 338, rfl⟩
abbrev main_call1_call0_v22 : Ref sig .tc := ⟨.hbm, 339, rfl⟩
abbrev main_call1_call0_v23 : Ref sig .tc := ⟨.hbm, 340, rfl⟩
abbrev main_call1_call0_v24 : Ref sig .tc := ⟨.hbm, 341, rfl⟩
abbrev main_call1_call0_cst : Ref sig .tc := ⟨.hbm, 342, rfl⟩
abbrev main_call1_call0_v25 : Ref sig .tc := ⟨.hbm, 343, rfl⟩
abbrev main_call1_call0_v26 : Ref sig .tc := ⟨.hbm, 344, rfl⟩
abbrev main_call1_call0_v27 : Ref sig .tc := ⟨.hbm, 345, rfl⟩
abbrev main_call1_call0_v28 : Ref sig .tc := ⟨.hbm, 346, rfl⟩
abbrev main_call1_call0_v29 : Ref sig .tc := ⟨.hbm, 347, rfl⟩
abbrev main_call1_call0_v30 : Ref sig .tc := ⟨.hbm, 348, rfl⟩
abbrev main_call1_call0_v31 : Ref sig .tc := ⟨.hbm, 349, rfl⟩
abbrev main_call1_call0_v32 : Ref sig .tc := ⟨.hbm, 350, rfl⟩
abbrev main_call1_v0 : Ref sig .tc := ⟨.hbm, 351, rfl⟩
abbrev main_call1_v1 : Ref sig .tc := ⟨.hbm, 352, rfl⟩
abbrev main_call1_v2 : Ref sig .tc := ⟨.hbm, 353, rfl⟩
abbrev main_call1_v3 : Ref sig .tc := ⟨.hbm, 354, rfl⟩
abbrev main_v62 : Ref sig .tc := ⟨.hbm, 355, rfl⟩
abbrev main_v63 : Ref sig .tc := ⟨.hbm, 356, rfl⟩
abbrev main_v64 : Ref sig .tc := ⟨.hbm, 357, rfl⟩
abbrev main_v65 : Ref sig .tc := ⟨.hbm, 358, rfl⟩
abbrev main_call2_v0 : Ref sig .tc := ⟨.hbm, 359, rfl⟩
abbrev main_call2_cst : Ref sig .tc := ⟨.hbm, 360, rfl⟩
abbrev main_call2_c : Ref sig .tc := ⟨.hbm, 361, rfl⟩
abbrev main_call2_v1_0 : Ref sig .tc := ⟨.hbm, 362, rfl⟩
abbrev main_v66 : Ref sig .tc := ⟨.hbm, 363, rfl⟩
abbrev main_call3_c : Ref sig .tc := ⟨.hbm, 364, rfl⟩
abbrev main_call3_v0 : Ref sig .tc := ⟨.hbm, 365, rfl⟩
abbrev main_call3_v1 : Ref sig .tc := ⟨.hbm, 366, rfl⟩
abbrev main_call3_c_0 : Ref sig .tc := ⟨.hbm, 367, rfl⟩
abbrev main_call3_v2 : Ref sig .tc := ⟨.hbm, 368, rfl⟩
abbrev main_call3_v3 : Ref sig .tc := ⟨.hbm, 369, rfl⟩
abbrev main_call3_v4 : Ref sig .tc := ⟨.hbm, 370, rfl⟩
abbrev main_call3_v5 : Ref sig .tc := ⟨.hbm, 371, rfl⟩
abbrev main_call3_c_1 : Ref sig .tc := ⟨.hbm, 372, rfl⟩
abbrev main_call3_c_2 : Ref sig .tc := ⟨.hbm, 373, rfl⟩
abbrev main_call3_v6 : Ref sig .tc := ⟨.hbm, 374, rfl⟩
abbrev main_call3_v7 : Ref sig .tc := ⟨.hbm, 375, rfl⟩
abbrev main_call3_v8 : Ref sig .tc := ⟨.hbm, 376, rfl⟩
abbrev main_call3_v9 : Ref sig .tc := ⟨.hbm, 377, rfl⟩
abbrev main_call3_v10 : Ref sig .tc := ⟨.hbm, 378, rfl⟩
abbrev main_call3_v11 : Ref sig .tc := ⟨.hbm, 379, rfl⟩
abbrev main_call3_c_3 : Ref sig .tc := ⟨.hbm, 380, rfl⟩
abbrev main_call3_v12 : Ref sig .tc := ⟨.hbm, 381, rfl⟩
abbrev main_call3_v13 : Ref sig .tc := ⟨.hbm, 382, rfl⟩
abbrev main_call3_v14 : Ref sig .tc := ⟨.hbm, 383, rfl⟩
abbrev main_call3_cst : Ref sig .tc := ⟨.hbm, 384, rfl⟩
abbrev main_call3_v15 : Ref sig .tc := ⟨.hbm, 385, rfl⟩
abbrev main_v67 : Ref sig .tc := ⟨.hbm, 386, rfl⟩
abbrev main_call4_c : Ref sig .tc := ⟨.hbm, 387, rfl⟩
abbrev main_call4_v0 : Ref sig .tc := ⟨.hbm, 388, rfl⟩
abbrev main_call4_v1 : Ref sig .tc := ⟨.hbm, 389, rfl⟩
abbrev main_call4_c_0 : Ref sig .tc := ⟨.hbm, 390, rfl⟩
abbrev main_call4_v2 : Ref sig .tc := ⟨.hbm, 391, rfl⟩
abbrev main_call4_v3 : Ref sig .tc := ⟨.hbm, 392, rfl⟩
abbrev main_call4_v4 : Ref sig .tc := ⟨.hbm, 393, rfl⟩
abbrev main_call4_v5 : Ref sig .tc := ⟨.hbm, 394, rfl⟩
abbrev main_call4_c_1 : Ref sig .tc := ⟨.hbm, 395, rfl⟩
abbrev main_call4_c_2 : Ref sig .tc := ⟨.hbm, 396, rfl⟩
abbrev main_call4_v6 : Ref sig .tc := ⟨.hbm, 397, rfl⟩
abbrev main_call4_v7 : Ref sig .tc := ⟨.hbm, 398, rfl⟩
abbrev main_call4_v8 : Ref sig .tc := ⟨.hbm, 399, rfl⟩
abbrev main_call4_v9 : Ref sig .tc := ⟨.hbm, 400, rfl⟩
abbrev main_call4_v10 : Ref sig .tc := ⟨.hbm, 401, rfl⟩
abbrev main_call4_v11 : Ref sig .tc := ⟨.hbm, 402, rfl⟩
abbrev main_call4_c_3 : Ref sig .tc := ⟨.hbm, 403, rfl⟩
abbrev main_call4_v12 : Ref sig .tc := ⟨.hbm, 404, rfl⟩
abbrev main_call4_v13 : Ref sig .tc := ⟨.hbm, 405, rfl⟩
abbrev main_call4_v14 : Ref sig .tc := ⟨.hbm, 406, rfl⟩
abbrev main_call4_cst : Ref sig .tc := ⟨.hbm, 407, rfl⟩
abbrev main_call4_v15 : Ref sig .tc := ⟨.hbm, 408, rfl⟩
abbrev main_v68 : Ref sig .tc := ⟨.hbm, 409, rfl⟩
abbrev main_v69 : Ref sig .tc := ⟨.hbm, 410, rfl⟩
abbrev main_v70 : Ref sig .tc := ⟨.hbm, 411, rfl⟩

abbrev nD : Nat := 1
abbrev τ : Topo := Topo.v7x

variable {F : FTy → Type} [FloatOps F]
-- ==== Proof.RefRun.lean ====
/-
  The reference as a straight line: its `main` written as the lists of its host operations, one list per stage, the run of
  that line, and the arguments it leaves unchanged.
-/
module

public import proofs.«01_k».proof.Proof.Gen.ReferenceIdeal
public import Idealize.ShloMosaic.Lib.StableHlo
public import Idealize.ShloMosaic.Lib.StableHlo.Run
public import Idealize.ShloMosaic.Lib.Pipeline.Frame
public import Idealize.ShloMosaic.Lib.Pipeline.Regions
public import Idealize.ShloMosaic.Lib.Quiescent

@[expose] public section

-- the noise table's stage is one list of some hundreds of operations
set_option maxRecDepth 8000

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The stages -/

/-- The two encoder layers and the mean head: `%0` to `%18`. -/
abbrev refA : List (HloOp τ sig (Elt F)) :=
  [ reshape main_arg1 main_v0 (rfl : (.f32 : EltTy) = .f32) shapeCasts_S4096x51x64_S4096x3264,
    binary main_v0 main_arg2 main_v1 ((fun l r => Host.dotGeneral dot_S4096x3264_S3264x512_S4096x512_1_0_0_1_n_n none l r) : (⟨S4096x3264, .f32⟩ : BufTy).Contents (Elt F) → (⟨S3264x512, .f32⟩ : BufTy).Contents (Elt F) → (⟨S4096x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S4096x512 ![0, 1] bcast_S1x512_S4096x512_0_1 : (⟨S1x512, .f32⟩ : BufTy).Contents (Elt F) → (⟨S4096x512, .f32⟩ : BufTy).Contents (Elt F)),
    binary main_v1 main_v3 main_v4 (addf : (⟨S4096x512, .f32⟩ : BufTy).Contents (Elt F) → (⟨S4096x512, .f32⟩ : BufTy).Contents (Elt F) → (⟨S4096x512, .f32⟩ : BufTy).Contents (Elt F)),
    unary main_v4 main_v5 (Host.tanh : (⟨S4096x512, .f32⟩ : BufTy).Contents (Elt F) → (⟨S4096x512, .f32⟩ : BufTy).Contents (Elt F)),
    binary main_v5 main_arg4 main_v6 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_arg5 main_v7 (broadcastInDim S1x64 ![1] bcast_S64_S1x64_1 : (⟨S64, .f32⟩ : BufTy).Contents (Elt F) → (⟨S1x64, .f32⟩ : BufTy).Contents (Elt F)),
    unary main_v7 main_v8 (broadcastInDim S4096x64 ![0, 1] bcast_S1x64_S4096x64_0_1 : (⟨S1x64, .f32⟩ : BufTy).Contents (Elt F) → (⟨S4096x64, .f32⟩ : BufTy).Contents (Elt F)),
    binary main_v6 main_v8 main_v9 (addf : (⟨S4096x64, .f32⟩ : BufTy).Contents (Elt F) → (⟨S4096x64, .f32⟩ : BufTy).Contents (Elt F) → (⟨S4096x64, .f32⟩ : BufTy).Contents (Elt F)),
    binary main_v9 main_arg10 main_v10 ((fun l r => Host.dotGeneral dot_S4096x64_S64x256_S4096x256_1_0_0_1_n_n none l r) : (⟨S4096x64, .f32⟩ : BufTy).Contents (Elt F) → (⟨S64x256, .f32⟩ : BufTy).Contents (Elt F) → (⟨S4096x256, .f32⟩ : BufTy).Contents (Elt F)),
    unary main_arg11 main_v11 (broadcastInDim S1x256 ![1] bcast_S256_S1x256_1 : (⟨S256, .f32⟩ : BufTy).Contents (Elt F) → (⟨S1x256, .f32⟩ : BufTy).Contents (Elt F)),
    unary main_v11 main_v12 (broadcastInDim S4096x256 ![0, 1] bcast_S1x256_S4096x256_0_1 : (⟨S1x256, .f32⟩ : BufTy).Contents (Elt F) → (⟨S4096x256, .f32⟩ : BufTy).Contents (Elt F)),
    binary main_v10 main_v12 main_v13 (addf : (⟨S4096x256, .f32⟩ : BufTy).Contents (Elt F) → (⟨S4096x256, .f32⟩ : BufTy).Contents (Elt F) → (⟨S4096x256, .f32⟩ : BufTy).Contents (Elt F)),
    unary main_v13 main_v14 (Host.tanh : (⟨S4096x256, .f32⟩ : BufTy).Contents (Elt F) → (⟨S4096x256, .f32⟩ : BufTy).Contents (Elt F)),
    binary main_v14 main_arg12 main_v15 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg13 main_v16 (broadcastInDim S1x128 ![1] bcast_S128_S1x128_1 : (⟨S128, .f32⟩ : BufTy).Contents (Elt F) → (⟨S1x128, .f32⟩ : BufTy).Contents (Elt F)),
    unary main_v16 main_v17 (broadcastInDim S4096x128 ![0, 1] bcast_S1x128_S4096x128_0_1 : (⟨S1x128, .f32⟩ : BufTy).Contents (Elt F) → (⟨S4096x128, .f32⟩ : BufTy).Contents (Elt F)),
    binary main_v15 main_v17 main_v18 (addf : (⟨S4096x128, .f32⟩ : BufTy).Contents (Elt F) → (⟨S4096x128, .f32⟩ : BufTy).Contents (Elt F) → (⟨S4096x128, .f32⟩ : BufTy).Contents (Elt F)) ]

/-- The squared distance and its exponential: `%19` to `%27`. -/
abbrev refB : List (HloOp τ sig (Elt F)) :=
  [ unary main_arg0 main_v19 (broadcastInDim S4096x128 ![0, 1] bcast_S1x128_S4096x128_0_1 : (⟨S1x128, .f32⟩ : BufTy).Contents (Elt F) → (⟨S4096x128, .f32⟩ : BufTy).Contents (Elt F)),
    binary main_v19 main_v18 main_v20 (subf : (⟨S4096x128, .f32⟩ : BufTy).Contents (Elt F) → (⟨S4096x128, .f32⟩ : BufTy).Contents (Elt F) → (⟨S4096x128, .f32⟩ : BufTy).Contents (Elt F)),
    binary main_v20 main_v20 main_v21 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v21 main_cst main_v22 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    nullary main_cst_0 (constant S_ .f32 0x43000000#32),
    unary main_cst_0 main_v23 (broadcastInDim S4096 ![] bcast_S_S4096 : (⟨S_, .f32⟩ : BufTy).Contents (Elt F) → (⟨S4096, .f32⟩ : BufTy).Contents (Elt F)),
    binary main_v22 main_v23 main_v24 (Host.divf : (⟨S4096, .f32⟩ : BufTy).Contents (Elt F) → (⟨S4096, .f32⟩ : BufTy).Contents (Elt F) → (⟨S4096, .f32⟩ : BufTy).Contents (Elt F)),
    nullary main_cst_1 (constant S_ .f32 0xBF000000#32),
    unary main_cst_1 main_v25 (broadcastInDim S4096 ![] bcast_S_S4096 : (⟨S_, .f32⟩ : BufTy).Contents (Elt F) → (⟨S4096, .f32⟩ : BufTy).Contents (Elt F)),
    binary main_v25 main_v24 main_v26 (mulf : (⟨S4096, .f32⟩ : BufTy).Contents (Elt F) → (⟨S4096, .f32⟩ : BufTy).Contents (Elt F) → (⟨S4096, .f32⟩ : BufTy).Contents (Elt F)),
    unary main_v26 main_v27 (Host.exp : (⟨S4096, .f32⟩ : BufTy).Contents (Elt F) → (⟨S4096, .f32⟩ : BufTy).Contents (Elt F)) ]

/-- The logit head: `%28` to `%36`. -/
abbrev refC : List (HloOp τ sig (Elt F)) :=
  [ binary main_v9 main_arg6 main_v28 ((fun l r => Host.dotGeneral dot_S4096x64_S64x256_S4096x256_1_0_0_1_n_n none l r) : (⟨S4096x64, .f32⟩ : BufTy).Contents (Elt F) → (⟨S64x256, .f32⟩ : BufTy).Contents (Elt F) → (⟨S4096x256, .f32⟩ : BufTy).Contents (Elt F)),
    unary main_arg7 main_v29 (broadcastInDim S1x256 ![1] bcast_S256_S1x256_1 : (⟨S256, .f32⟩ : BufTy).Contents (Elt F) → (⟨S1x256, .f32⟩ : BufTy).Contents (Elt F)),
    unary main_v29 main_v30 (broadcastInDim S4096x256 ![0, 1] bcast_S1x256_S4096x256_0_1 : (⟨S1x256, .f32⟩ : BufTy).Contents (Elt F) → (⟨S4096x256, .f32⟩ : BufTy).Contents (Elt F)),
    binary main_v28 main_v30 main_v31 (addf : (⟨S4096x256, .f32⟩ : BufTy).Contents (Elt F) → (⟨S4096x256, .f32⟩ : BufTy).Contents (Elt F) → (⟨S4096x256, .f32⟩ : BufTy).Contents (Elt F)),
    unary main_v31 main_v32 (Host.tanh : (⟨S4096x256, .f32⟩ : BufTy).Contents (Elt F) → (⟨S4096x256, .f32⟩ : BufTy).Contents (Elt F)),
    binary main_v32 main_arg8 main_v33 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_arg9 main_v34 (broadcastInDim S1x1 ![1] bcast_S1_S1x1_1 : (⟨S1, .f32⟩ : BufTy).Contents (Elt F) → (⟨S1x1, .f32⟩ : BufTy).Contents (Elt F)),
    unary main_v34 main_v35 (broadcastInDim S4096x1 ![0, 1] bcast_S1x1_S4096x1_0_1 : (⟨S1x1, .f32⟩ : BufTy).Contents (Elt F) → (⟨S4096x1, .f32⟩ : BufTy).Contents (Elt F)),
    binary main_v33 main_v35 main_v36 (addf : (⟨S4096x1, .f32⟩ : BufTy).Contents (Elt F) → (⟨S4096x1, .f32⟩ : BufTy).Contents (Elt F) → (⟨S4096x1, .f32⟩ : BufTy).Contents (Elt F)) ]

/-- The two candidate weightings: `%37` to `%47`. -/
abbrev refD : List (HloOp τ sig (Elt F)) :=
  [ reshape main_v36 main_v37 (rfl : (.f32 : EltTy) = .f32) shapeCasts_S4096x1_S4096,
    nullary main_cst_2 (constant S_ .f32 0x00000000#32),
    unary main_cst_2 main_v38 (broadcastInDim S4096 ![] bcast_S_S4096 : (⟨S_, .f32⟩ : BufTy).Contents (Elt F) → (⟨S4096, .f32⟩ : BufTy).Contents (Elt F)),
    binary main_v37 main_v38 main_v39 (cmpf .ogt : (⟨S4096, .f32⟩ : BufTy).Contents (Elt F) → (⟨S4096, .f32⟩ : BufTy).Contents (Elt F) → (⟨S4096, .i1⟩ : BufTy).Contents (Elt F)),
    unary main_v39 main_v40 (uitofp .f32 : (⟨S4096, .i1⟩ : BufTy).Contents (Elt F) → (⟨S4096, .f32⟩ : BufTy).Contents (Elt F)),
    nullary main_cst_3 (constant S_ .f32 0x00000000#32),
    binary main_v40 main_cst_3 main_v41 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_4 (constant S_ .f32 0x00000000#32),
    binary main_v41 main_cst_4 main_v42 (cmpf .oeq : (⟨S_, .f32⟩ : BufTy).Contents (Elt F) → (⟨S_, .f32⟩ : BufTy).Contents (Elt F) → (⟨S_, .i1⟩ : BufTy).Contents (Elt F)),
    nullary main_cst_5 (constant S_ .f32 0x3089705F#32),
    unary main_cst_5 main_v43 (broadcastInDim S4096 ![] bcast_S_S4096 : (⟨S_, .f32⟩ : BufTy).Contents (Elt F) → (⟨S4096, .f32⟩ : BufTy).Contents (Elt F)),
    binary main_v27 main_v43 main_v44 (addf : (⟨S4096, .f32⟩ : BufTy).Contents (Elt F) → (⟨S4096, .f32⟩ : BufTy).Contents (Elt F) → (⟨S4096, .f32⟩ : BufTy).Contents (Elt F)),
    binary main_v27 main_v40 main_v45 (mulf : (⟨S4096, .f32⟩ : BufTy).Contents (Elt F) → (⟨S4096, .f32⟩ : BufTy).Contents (Elt F) → (⟨S4096, .f32⟩ : BufTy).Contents (Elt F)),
    nullary main_cst_6 (constant S_ .f32 0x3089705F#32),
    unary main_cst_6 main_v46 (broadcastInDim S4096 ![] bcast_S_S4096 : (⟨S_, .f32⟩ : BufTy).Contents (Elt F) → (⟨S4096, .f32⟩ : BufTy).Contents (Elt F)),
    binary main_v45 main_v46 main_v47 (addf : (⟨S4096, .f32⟩ : BufTy).Contents (Elt F) → (⟨S4096, .f32⟩ : BufTy).Contents (Elt F) → (⟨S4096, .f32⟩ : BufTy).Contents (Elt F)) ]

/-- The choice between them: `%48`. -/
abbrev refE : List (HloOp τ sig (Elt F)) :=
  [ TRef.ternary (.of main_v42 : TRef sig ⟨S_, .i1⟩) (.of main_v44 : TRef sig ⟨S4096, .f32⟩) (.of main_v47 : TRef sig ⟨S4096, .f32⟩) main_call0.v0 (fun p a b => select (broadcastInDim S4096 ![] bcast_S_S4096 p) a b) ]

/-- The total weight: `%49`, `%50`. -/
abbrev refF0 : List (HloOp τ sig (Elt F)) :=
  [ nullary main_cst_7 (constant S_ .f32 0x00000000#32),
    binary main_v48 main_cst_7 main_v49 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v49 main_v50 (broadcastInDim S4096 ![] bcast_S_S4096 : (⟨S_, .f32⟩ : BufTy).Contents (Elt F) → (⟨S4096, .f32⟩ : BufTy).Contents (Elt F)) ]

/-- The normalised weights, the seed words and the logarithm: `%51` to `%61`. -/
abbrev refF1 : List (HloOp τ sig (Elt F)) :=
  [ binary main_v48 main_v50 main_v51 (Host.divf : (⟨S4096, .f32⟩ : BufTy).Contents (Elt F) → (⟨S4096, .f32⟩ : BufTy).Contents (Elt F) → (⟨S4096, .f32⟩ : BufTy).Contents (Elt F)),
    nullary main_c (constantI S_ 32 42#32),
    nullary main_c_8 (constantI S_ 32 32#32),
    binary main_c main_c_8 main_v52 (Host.shrui : (⟨S_, .i32⟩ : BufTy).Contents (Elt F) → (⟨S_, .i32⟩ : BufTy).Contents (Elt F) → (⟨S_, .i32⟩ : BufTy).Contents (Elt F)),
    unary main_v52 main_v53 (id : (⟨S_, .i32⟩ : BufTy).Contents (Elt F) → (⟨S_, .i32⟩ : BufTy).Contents (Elt F)),
    unary main_v53 main_v54 (broadcastInDim S1 ![] bcast_S_S1 : (⟨S_, .i32⟩ : BufTy).Contents (Elt F) → (⟨S1, .i32⟩ : BufTy).Contents (Elt F)),
    nullary main_c_9 (constantI S_ 32 4294967295#32),
    binary main_c main_c_9 main_v55 (andi : (⟨S_, .i32⟩ : BufTy).Contents (Elt F) → (⟨S_, .i32⟩ : BufTy).Contents (Elt F) → (⟨S_, .i32⟩ : BufTy).Contents (Elt F)),
    unary main_v55 main_v56 (id : (⟨S_, .i32⟩ : BufTy).Contents (Elt F) → (⟨S_, .i32⟩ : BufTy).Contents (Elt F)),
    unary main_v56 main_v57 (broadcastInDim S1 ![] bcast_S_S1 : (⟨S_, .i32⟩ : BufTy).Contents (Elt F) → (⟨S1, .i32⟩ : BufTy).Contents (Elt F)),
    binary main_v54 main_v57 main_v58 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_10 (constant S_ .f32 0x0DA24260#32),
    unary main_cst_10 main_v59 (broadcastInDim S4096 ![] bcast_S_S4096 : (⟨S_, .f32⟩ : BufTy).Contents (Elt F) → (⟨S4096, .f32⟩ : BufTy).Contents (Elt F)),
    binary main_v51 main_v59 main_v60 (addf : (⟨S4096, .f32⟩ : BufTy).Contents (Elt F) → (⟨S4096, .f32⟩ : BufTy).Contents (Elt F) → (⟨S4096, .f32⟩ : BufTy).Contents (Elt F)),
    unary main_v60 main_v61 (Host.log : (⟨S4096, .f32⟩ : BufTy).Contents (Elt F) → (⟨S4096, .f32⟩ : BufTy).Contents (Elt F)) ]

set_option maxHeartbeats 40000000 in
/-- The noise table: `%62`. -/
abbrev refG : List (HloOp τ sig (Elt F)) :=
  TRef.nullary (.of main_call1_cst : TRef sig ⟨S_, .f32⟩) (constant S_ .f32 0x3F800000#32)
  :: TRef.nullary (.of main_call1_cst_0 : TRef sig ⟨S_, .f32⟩) (constant S_ .f32 0x00800000#32)
  :: TRef.unary (.of main_call1_cst : TRef sig ⟨S_, .f32⟩) (.of main_call1_call0_v0 : TRef sig ⟨S_, .f32⟩) id
  :: TRef.unary (.of main_call1_cst_0 : TRef sig ⟨S_, .f32⟩) (.of main_call1_call0_v1 : TRef sig ⟨S1x1, .f32⟩) (broadcastInDim S1x1 ![] bcast_S_S1x1)
  :: TRef.unary (.of main_call1_call0_v0 : TRef sig ⟨S_, .f32⟩) (.of main_call1_call0_v2 : TRef sig ⟨S1x1, .f32⟩) (broadcastInDim S1x1 ![] bcast_S_S1x1)
  :: TRef.unary (.of main_v58 : TRef sig ⟨S2, .i32⟩) (.of main_call1_call0_v3 : TRef sig ⟨S1, .i32⟩) (extractStridedSlice S1 ![0] · slices_S2_S1_0)
  :: TRef.reshape (.of main_call1_call0_v3 : TRef sig ⟨S1, .i32⟩) (.of main_call1_call0_v4 : TRef sig ⟨S_, .i32⟩) (rfl : (.i32 : EltTy) = .i32) shapeCasts_S1_S_
  :: TRef.unary (.of main_v58 : TRef sig ⟨S2, .i32⟩) (.of main_call1_call0_v5 : TRef sig ⟨S1, .i32⟩) (extractStridedSlice S1 ![1] · slices_S2_S1_1)
  :: TRef.reshape (.of main_call1_call0_v5 : TRef sig ⟨S1, .i32⟩) (.of main_call1_call0_v6 : TRef sig ⟨S_, .i32⟩) (rfl : (.i32 : EltTy) = .i32) shapeCasts_S1_S_
  :: TRef.nullary (.of main_call1_call0_v7 : TRef sig ⟨S4096x4096, .i64⟩) (iotaInDim S4096x4096 64 0)
  :: TRef.nullary (.of main_call1_call0_v8 : TRef sig ⟨S4096x4096, .i64⟩) (iotaInDim S4096x4096 64 1)
  :: TRef.nullary (.of main_call1_call0_c : TRef sig ⟨S_, .i64⟩) (constantI S_ 64 4096#64)
  :: TRef.unary (.of main_call1_call0_c : TRef sig ⟨S_, .i64⟩) (.of main_call1_call0_v9 : TRef sig ⟨S4096x4096, .i64⟩) (broadcastInDim S4096x4096 ![] bcast_S_S4096x4096)
  :: TRef.binary (.of main_call1_call0_v9 : TRef sig ⟨S4096x4096, .i64⟩) (.of main_call1_call0_v7 : TRef sig ⟨S4096x4096, .i64⟩) (.of main_call1_call0_v10 : TRef sig ⟨S4096x4096, .i64⟩) muli
  :: TRef.nullary (.of main_call1_call0_c_0 : TRef sig ⟨S_, .i64⟩) (constantI S_ 64 1#64)
  :: TRef.unary (.of main_call1_call0_c_0 : TRef sig ⟨S_, .i64⟩) (.of main_call1_call0_v11 : TRef sig ⟨S4096x4096, .i64⟩) (broadcastInDim S4096x4096 ![] bcast_S_S4096x4096)
  :: TRef.binary (.of main_call1_call0_v11 : TRef sig ⟨S4096x4096, .i64⟩) (.of main_call1_call0_v8 : TRef sig ⟨S4096x4096, .i64⟩) (.of main_call1_call0_v12 : TRef sig ⟨S4096x4096, .i64⟩) muli
  :: TRef.binary (.of main_call1_call0_v10 : TRef sig ⟨S4096x4096, .i64⟩) (.of main_call1_call0_v12 : TRef sig ⟨S4096x4096, .i64⟩) (.of main_call1_call0_v13 : TRef sig ⟨S4096x4096, .i64⟩) addi
  :: TRef.nullary (.of main_call1_call0_c_1 : TRef sig ⟨S_, .i64⟩) (constantI S_ 64 32#64)
  :: TRef.unary (.of main_call1_call0_c_1 : TRef sig ⟨S_, .i64⟩) (.of main_call1_call0_v14 : TRef sig ⟨S4096x4096, .i64⟩) (broadcastInDim S4096x4096 ![] bcast_S_S4096x4096)
  :: TRef.binary (.of main_call1_call0_v13 : TRef sig ⟨S4096x4096, .i64⟩) (.of main_call1_call0_v14 : TRef sig ⟨S4096x4096, .i64⟩) (.of main_call1_call0_v15 : TRef sig ⟨S4096x4096, .i64⟩) Host.shrui
  :: TRef.unary (.of main_call1_call0_v13 : TRef sig ⟨S4096x4096, .i64⟩) (.of main_call1_call0_v16 : TRef sig ⟨S4096x4096, .i32⟩) (trunci 32 · natLt_32_64)
  :: TRef.unary (.of main_call1_call0_v15 : TRef sig ⟨S4096x4096, .i64⟩) (.of main_call1_call0_v17 : TRef sig ⟨S4096x4096, .i32⟩) (trunci 32 · natLt_32_64)
  :: TRef.binary (.of main_call1_call0_v4 : TRef sig ⟨S_, .i32⟩) (.of main_call1_call0_v6 : TRef sig ⟨S_, .i32⟩) (.of main_call1_call0_call0_v0 : TRef sig ⟨S_, .i32⟩) xori
  :: TRef.nullary (.of main_call1_call0_call0_c : TRef sig ⟨S_, .i32⟩) (constantI S_ 32 466688986#32)
  :: TRef.binary (.of main_call1_call0_call0_v0 : TRef sig ⟨S_, .i32⟩) (.of main_call1_call0_call0_c : TRef sig ⟨S_, .i32⟩) (.of main_call1_call0_call0_v1 : TRef sig ⟨S_, .i32⟩) xori
  :: TRef.unary (.of main_call1_call0_v4 : TRef sig ⟨S_, .i32⟩) (.of main_call1_call0_call0_v2 : TRef sig ⟨S4096x4096, .i32⟩) (broadcastInDim S4096x4096 ![] bcast_S_S4096x4096)
  :: TRef.binary (.of main_call1_call0_v17 : TRef sig ⟨S4096x4096, .i32⟩) (.of main_call1_call0_call0_v2 : TRef sig ⟨S4096x4096, .i32⟩) (.of main_call1_call0_call0_v3 : TRef sig ⟨S4096x4096, .i32⟩) addi
  :: TRef.unary (.of main_call1_call0_v6 : TRef sig ⟨S_, .i32⟩) (.of main_call1_call0_call0_v4 : TRef sig ⟨S4096x4096, .i32⟩) (broadcastInDim S4096x4096 ![] bcast_S_S4096x4096)
  :: TRef.binary (.of main_call1_call0_v16 : TRef sig ⟨S4096x4096, .i32⟩) (.of main_call1_call0_call0_v4 : TRef sig ⟨S4096x4096, .i32⟩) (.of main_call1_call0_call0_v5 : TRef sig ⟨S4096x4096, .i32⟩) addi
  :: TRef.binary (.of main_call1_call0_call0_v3 : TRef sig ⟨S4096x4096, .i32⟩) (.of main_call1_call0_call0_v5 : TRef sig ⟨S4096x4096, .i32⟩) (.of main_call1_call0_call0_v6 : TRef sig ⟨S4096x4096, .i32⟩) addi
  :: TRef.nullary (.of main_call1_call0_call0_c_0 : TRef sig ⟨S_, .i32⟩) (constantI S_ 32 13#32)
  :: TRef.unary (.of main_call1_call0_call0_c_0 : TRef sig ⟨S_, .i32⟩) (.of main_call1_call0_call0_v7 : TRef sig ⟨S4096x4096, .i32⟩) (broadcastInDim S4096x4096 ![] bcast_S_S4096x4096)
  :: TRef.binary (.of main_call1_call0_call0_v5 : TRef sig ⟨S4096x4096, .i32⟩) (.of main_call1_call0_call0_v7 : TRef sig ⟨S4096x4096, .i32⟩) (.of main_call1_call0_call0_v8 : TRef sig ⟨S4096x4096, .i32⟩) Host.shli
  :: TRef.nullary (.of main_call1_call0_call0_c_1 : TRef sig ⟨S_, .i32⟩) (constantI S_ 32 19#32)
  :: TRef.unary (.of main_call1_call0_call0_c_1 : TRef sig ⟨S_, .i32⟩) (.of main_call1_call0_call0_v9 : TRef sig ⟨S4096x4096, .i32⟩) (broadcastInDim S4096x4096 ![] bcast_S_S4096x4096)
  :: TRef.binary (.of main_call1_call0_call0_v5 : TRef sig ⟨S4096x4096, .i32⟩) (.of main_call1_call0_call0_v9 : TRef sig ⟨S4096x4096, .i32⟩) (.of main_call1_call0_call0_v10 : TRef sig ⟨S4096x4096, .i32⟩) Host.shrui
  :: TRef.binary (.of main_call1_call0_call0_v8 : TRef sig ⟨S4096x4096, .i32⟩) (.of main_call1_call0_call0_v10 : TRef sig ⟨S4096x4096, .i32⟩) (.of main_call1_call0_call0_v11 : TRef sig ⟨S4096x4096, .i32⟩) ori
  :: TRef.binary (.of main_call1_call0_call0_v6 : TRef sig ⟨S4096x4096, .i32⟩) (.of main_call1_call0_call0_v11 : TRef sig ⟨S4096x4096, .i32⟩) (.of main_call1_call0_call0_v12 : TRef sig ⟨S4096x4096, .i32⟩) xori
  :: TRef.binary (.of main_call1_call0_call0_v6 : TRef sig ⟨S4096x4096, .i32⟩) (.of main_call1_call0_call0_v12 : TRef sig ⟨S4096x4096, .i32⟩) (.of main_call1_call0_call0_v13 : TRef sig ⟨S4096x4096, .i32⟩) addi
  :: TRef.nullary (.of main_call1_call0_call0_c_2 : TRef sig ⟨S_, .i32⟩) (constantI S_ 32 15#32)
  :: TRef.unary (.of main_call1_call0_call0_c_2 : TRef sig ⟨S_, .i32⟩) (.of main_call1_call0_call0_v14 : TRef sig ⟨S4096x4096, .i32⟩) (broadcastInDim S4096x4096 ![] bcast_S_S4096x4096)
  :: TRef.binary (.of main_call1_call0_call0_v12 : TRef sig ⟨S4096x4096, .i32⟩) (.of main_call1_call0_call0_v14 : TRef sig ⟨S4096x4096, .i32⟩) (.of main_call1_call0_call0_v15 : TRef sig ⟨S4096x4096, .i32⟩) Host.shli
  :: TRef.nullary (.of main_call1_call0_call0_c_3 : TRef sig ⟨S_, .i32⟩) (constantI S_ 32 17#32)
  :: TRef.unary (.of main_call1_call0_call0_c_3 : TRef sig ⟨S_, .i32⟩) (.of main_call1_call0_call0_v16 : TRef sig ⟨S4096x4096, .i32⟩) (broadcastInDim S4096x4096 ![] bcast_S_S4096x4096)
  :: TRef.binary (.of main_call1_call0_call0_v12 : TRef sig ⟨S4096x4096, .i32⟩) (.of main_call1_call0_call0_v16 : TRef sig ⟨S4096x4096, .i32⟩) (.of main_call1_call0_call0_v17 : TRef sig ⟨S4096x4096, .i32⟩) Host.shrui
  :: TRef.binary (.of main_call1_call0_call0_v15 : TRef sig ⟨S4096x4096, .i32⟩) (.of main_call1_call0_call0_v17 : TRef sig ⟨S4096x4096, .i32⟩) (.of main_call1_call0_call0_v18 : TRef sig ⟨S4096x4096, .i32⟩) ori
  :: TRef.binary (.of main_call1_call0_call0_v13 : TRef sig ⟨S4096x4096, .i32⟩) (.of main_call1_call0_call0_v18 : TRef sig ⟨S4096x4096, .i32⟩) (.of main_call1_call0_call0_v19 : TRef sig ⟨S4096x4096, .i32⟩) xori
  :: TRef.binary (.of main_call1_call0_call0_v13 : TRef sig ⟨S4096x4096, .i32⟩) (.of main_call1_call0_call0_v19 : TRef sig ⟨S4096x4096, .i32⟩) (.of main_call1_call0_call0_v20 : TRef sig ⟨S4096x4096, .i32⟩) addi
  :: TRef.nullary (.of main_call1_call0_call0_c_4 : TRef sig ⟨S_, .i32⟩) (constantI S_ 32 26#32)
  :: TRef.unary (.of main_call1_call0_call0_c_4 : TRef sig ⟨S_, .i32⟩) (.of main_call1_call0_call0_v21 : TRef sig ⟨S4096x4096, .i32⟩) (broadcastInDim S4096x4096 ![] bcast_S_S4096x4096)
  :: TRef.binary (.of main_call1_call0_call0_v19 : TRef sig ⟨S4096x4096, .i32⟩) (.of main_call1_call0_call0_v21 : TRef sig ⟨S4096x4096, .i32⟩) (.of main_call1_call0_call0_v22 : TRef sig ⟨S4096x4096, .i32⟩) Host.shli
  :: TRef.nullary (.of main_call1_call0_call0_c_5 : TRef sig ⟨S_, .i32⟩) (constantI S_ 32 6#32)
  :: TRef.unary (.of main_call1_call0_call0_c_5 : TRef sig ⟨S_, .i32⟩) (.of main_call1_call0_call0_v23 : TRef sig ⟨S4096x4096, .i32⟩) (broadcastInDim S4096x4096 ![] bcast_S_S4096x4096)
  :: TRef.binary (.of main_call1_call0_call0_v19 : TRef sig ⟨S4096x4096, .i32⟩) (.of main_call1_call0_call0_v23 : TRef sig ⟨S4096x4096, .i32⟩) (.of main_call1_call0_call0_v24 : TRef sig ⟨S4096x4096, .i32⟩) Host.shrui
  :: TRef.binary (.of main_call1_call0_call0_v22 : TRef sig ⟨S4096x4096, .i32⟩) (.of main_call1_call0_call0_v24 : TRef sig ⟨S4096x4096, .i32⟩) (.of main_call1_call0_call0_v25 : TRef sig ⟨S4096x4096, .i32⟩) ori
  :: TRef.binary (.of main_call1_call0_call0_v20 : TRef sig ⟨S4096x4096, .i32⟩) (.of main_call1_call0_call0_v25 : TRef sig ⟨S4096x4096, .i32⟩) (.of main_call1_call0_call0_v26 : TRef sig ⟨S4096x4096, .i32⟩) xori
  :: TRef.binary (.of main_call1_call0_call0_v20 : TRef sig ⟨S4096x4096, .i32⟩) (.of main_call1_call0_call0_v26 : TRef sig ⟨S4096x4096, .i32⟩) (.of main_call1_call0_call0_v27 : TRef sig ⟨S4096x4096, .i32⟩) addi
  :: TRef.nullary (.of main_call1_call0_call0_c_6 : TRef sig ⟨S_, .i32⟩) (constantI S_ 32 6#32)
  :: TRef.unary (.of main_call1_call0_call0_c_6 : TRef sig ⟨S_, .i32⟩) (.of main_call1_call0_call0_v28 : TRef sig ⟨S4096x4096, .i32⟩) (broadcastInDim S4096x4096 ![] bcast_S_S4096x4096)
  :: TRef.binary (.of main_call1_call0_call0_v26 : TRef sig ⟨S4096x4096, .i32⟩) (.of main_call1_call0_call0_v28 : TRef sig ⟨S4096x4096, .i32⟩) (.of main_call1_call0_call0_v29 : TRef sig ⟨S4096x4096, .i32⟩) Host.shli
  :: TRef.nullary (.of main_call1_call0_call0_c_7 : TRef sig ⟨S_, .i32⟩) (constantI S_ 32 26#32)
  :: TRef.unary (.of main_call1_call0_call0_c_7 : TRef sig ⟨S_, .i32⟩) (.of main_call1_call0_call0_v30 : TRef sig ⟨S4096x4096, .i32⟩) (broadcastInDim S4096x4096 ![] bcast_S_S4096x4096)
  :: TRef.binary (.of main_call1_call0_call0_v26 : TRef sig ⟨S4096x4096, .i32⟩) (.of main_call1_call0_call0_v30 : TRef sig ⟨S4096x4096, .i32⟩) (.of main_call1_call0_call0_v31 : TRef sig ⟨S4096x4096, .i32⟩) Host.shrui
  :: TRef.binary (.of main_call1_call0_call0_v29 : TRef sig ⟨S4096x4096, .i32⟩) (.of main_call1_call0_call0_v31 : TRef sig ⟨S4096x4096, .i32⟩) (.of main_call1_call0_call0_v32 : TRef sig ⟨S4096x4096, .i32⟩) ori
  :: TRef.binary (.of main_call1_call0_call0_v27 : TRef sig ⟨S4096x4096, .i32⟩) (.of main_call1_call0_call0_v32 : TRef sig ⟨S4096x4096, .i32⟩) (.of main_call1_call0_call0_v33 : TRef sig ⟨S4096x4096, .i32⟩) xori
  :: TRef.unary (.of main_call1_call0_v6 : TRef sig ⟨S_, .i32⟩) (.of main_call1_call0_call0_v34 : TRef sig ⟨S4096x4096, .i32⟩) (broadcastInDim S4096x4096 ![] bcast_S_S4096x4096)
  :: TRef.binary (.of main_call1_call0_call0_v27 : TRef sig ⟨S4096x4096, .i32⟩) (.of main_call1_call0_call0_v34 : TRef sig ⟨S4096x4096, .i32⟩) (.of main_call1_call0_call0_v35 : TRef sig ⟨S4096x4096, .i32⟩) addi
  :: TRef.unary (.of main_call1_call0_call0_v1 : TRef sig ⟨S_, .i32⟩) (.of main_call1_call0_call0_v36 : TRef sig ⟨S4096x4096, .i32⟩) (broadcastInDim S4096x4096 ![] bcast_S_S4096x4096)
  :: TRef.binary (.of main_call1_call0_call0_v33 : TRef sig ⟨S4096x4096, .i32⟩) (.of main_call1_call0_call0_v36 : TRef sig ⟨S4096x4096, .i32⟩) (.of main_call1_call0_call0_v37 : TRef sig ⟨S4096x4096, .i32⟩) addi
  :: TRef.nullary (.of main_call1_call0_call0_c_8 : TRef sig ⟨S_, .i32⟩) (constantI S_ 32 1#32)
  :: TRef.unary (.of main_call1_call0_call0_c_8 : TRef sig ⟨S_, .i32⟩) (.of main_call1_call0_call0_v38 : TRef sig ⟨S4096x4096, .i32⟩) (broadcastInDim S4096x4096 ![] bcast_S_S4096x4096)
  :: TRef.binary (.of main_call1_call0_call0_v37 : TRef sig ⟨S4096x4096, .i32⟩) (.of main_call1_call0_call0_v38 : TRef sig ⟨S4096x4096, .i32⟩) (.of main_call1_call0_call0_v39 : TRef sig ⟨S4096x4096, .i32⟩) addi
  :: TRef.binary (.of main_call1_call0_call0_v35 : TRef sig ⟨S4096x4096, .i32⟩) (.of main_call1_call0_call0_v39 : TRef sig ⟨S4096x4096, .i32⟩) (.of main_call1_call0_call0_v40 : TRef sig ⟨S4096x4096, .i32⟩) addi
  :: TRef.nullary (.of main_call1_call0_call0_c_9 : TRef sig ⟨S_, .i32⟩) (constantI S_ 32 17#32)
  :: TRef.unary (.of main_call1_call0_call0_c_9 : TRef sig ⟨S_, .i32⟩) (.of main_call1_call0_call0_v41 : TRef sig ⟨S4096x4096, .i32⟩) (broadcastInDim S4096x4096 ![] bcast_S_S4096x4096)
  :: TRef.binary (.of main_call1_call0_call0_v39 : TRef sig ⟨S4096x4096, .i32⟩) (.of main_call1_call0_call0_v41 : TRef sig ⟨S4096x4096, .i32⟩) (.of main_call1_call0_call0_v42 : TRef sig ⟨S4096x4096, .i32⟩) Host.shli
  :: TRef.nullary (.of main_call1_call0_call0_c_10 : TRef sig ⟨S_, .i32⟩) (constantI S_ 32 15#32)
  :: TRef.unary (.of main_call1_call0_call0_c_10 : TRef sig ⟨S_, .i32⟩) (.of main_call1_call0_call0_v43 : TRef sig ⟨S4096x4096, .i32⟩) (broadcastInDim S4096x4096 ![] bcast_S_S4096x4096)
  :: TRef.binary (.of main_call1_call0_call0_v39 : TRef sig ⟨S4096x4096, .i32⟩) (.of main_call1_call0_call0_v43 : TRef sig ⟨S4096x4096, .i32⟩) (.of main_call1_call0_call0_v44 : TRef sig ⟨S4096x4096, .i32⟩) Host.shrui
  :: TRef.binary (.of main_call1_call0_call0_v42 : TRef sig ⟨S4096x4096, .i32⟩) (.of main_call1_call0_call0_v44 : TRef sig ⟨S4096x4096, .i32⟩) (.of main_call1_call0_call0_v45 : TRef sig ⟨S4096x4096, .i32⟩) ori
  :: TRef.binary (.of main_call1_call0_call0_v40 : TRef sig ⟨S4096x4096, .i32⟩) (.of main_call1_call0_call0_v45 : TRef sig ⟨S4096x4096, .i32⟩) (.of main_call1_call0_call0_v46 : TRef sig ⟨S4096x4096, .i32⟩) xori
  :: TRef.binary (.of main_call1_call0_call0_v40 : TRef sig ⟨S4096x4096, .i32⟩) (.of main_call1_call0_call0_v46 : TRef sig ⟨S4096x4096, .i32⟩) (.of main_call1_call0_call0_v47 : TRef sig ⟨S4096x4096, .i32⟩) addi
  :: TRef.nullary (.of main_call1_call0_call0_c_11 : TRef sig ⟨S_, .i32⟩) (constantI S_ 32 29#32)
  :: TRef.unary (.of main_call1_call0_call0_c_11 : TRef sig ⟨S_, .i32⟩) (.of main_call1_call0_call0_v48 : TRef sig ⟨S4096x4096, .i32⟩) (broadcastInDim S4096x4096 ![] bcast_S_S4096x4096)
  :: TRef.binary (.of main_call1_call0_call0_v46 : TRef sig ⟨S4096x4096, .i32⟩) (.of main_call1_call0_call0_v48 : TRef sig ⟨S4096x4096, .i32⟩) (.of main_call1_call0_call0_v49 : TRef sig ⟨S4096x4096, .i32⟩) Host.shli
  :: TRef.nullary (.of main_call1_call0_call0_c_12 : TRef sig ⟨S_, .i32⟩) (constantI S_ 32 3#32)
  :: TRef.unary (.of main_call1_call0_call0_c_12 : TRef sig ⟨S_, .i32⟩) (.of main_call1_call0_call0_v50 : TRef sig ⟨S4096x4096, .i32⟩) (broadcastInDim S4096x4096 ![] bcast_S_S4096x4096)
  :: TRef.binary (.of main_call1_call0_call0_v46 : TRef sig ⟨S4096x4096, .i32⟩) (.of main_call1_call0_call0_v50 : TRef sig ⟨S4096x4096, .i32⟩) (.of main_call1_call0_call0_v51 : TRef sig ⟨S4096x4096, .i32⟩) Host.shrui
  :: TRef.binary (.of main_call1_call0_call0_v49 : TRef sig ⟨S4096x4096, .i32⟩) (.of main_call1_call0_call0_v51 : TRef sig ⟨S4096x4096, .i32⟩) (.of main_call1_call0_call0_v52 : TRef sig ⟨S4096x4096, .i32⟩) ori
  :: TRef.binary (.of main_call1_call0_call0_v47 : TRef sig ⟨S4096x4096, .i32⟩) (.of main_call1_call0_call0_v52 : TRef sig ⟨S4096x4096, .i32⟩) (.of main_call1_call0_call0_v53 : TRef sig ⟨S4096x4096, .i32⟩) xori
  :: TRef.binary (.of main_call1_call0_call0_v47 : TRef sig ⟨S4096x4096, .i32⟩) (.of main_call1_call0_call0_v53 : TRef sig ⟨S4096x4096, .i32⟩) (.of main_call1_call0_call0_v54 : TRef sig ⟨S4096x4096, .i32⟩) addi
  :: TRef.nullary (.of main_call1_call0_call0_c_13 : TRef sig ⟨S_, .i32⟩) (constantI S_ 32 16#32)
  :: TRef.unary (.of main_call1_call0_call0_c_13 : TRef sig ⟨S_, .i32⟩) (.of main_call1_call0_call0_v55 : TRef sig ⟨S4096x4096, .i32⟩) (broadcastInDim S4096x4096 ![] bcast_S_S4096x4096)
  :: TRef.binary (.of main_call1_call0_call0_v53 : TRef sig ⟨S4096x4096, .i32⟩) (.of main_call1_call0_call0_v55 : TRef sig ⟨S4096x4096, .i32⟩) (.of main_call1_call0_call0_v56 : TRef sig ⟨S4096x4096, .i32⟩) Host.shli
  :: TRef.nullary (.of main_call1_call0_call0_c_14 : TRef sig ⟨S_, .i32⟩) (constantI S_ 32 16#32)
  :: TRef.unary (.of main_call1_call0_call0_c_14 : TRef sig ⟨S_, .i32⟩) (.of main_call1_call0_call0_v57 : TRef sig ⟨S4096x4096, .i32⟩) (broadcastInDim S4096x4096 ![] bcast_S_S4096x4096)
  :: TRef.binary (.of main_call1_call0_call0_v53 : TRef sig ⟨S4096x4096, .i32⟩) (.of main_call1_call0_call0_v57 : TRef sig ⟨S4096x4096, .i32⟩) (.of main_call1_call0_call0_v58 : TRef sig ⟨S4096x4096, .i32⟩) Host.shrui
  :: TRef.binary (.of main_call1_call0_call0_v56 : TRef sig ⟨S4096x4096, .i32⟩) (.of main_call1_call0_call0_v58 : TRef sig ⟨S4096x4096, .i32⟩) (.of main_call1_call0_call0_v59 : TRef sig ⟨S4096x4096, .i32⟩) ori
  :: TRef.binary (.of main_call1_call0_call0_v54 : TRef sig ⟨S4096x4096, .i32⟩) (.of main_call1_call0_call0_v59 : TRef sig ⟨S4096x4096, .i32⟩) (.of main_call1_call0_call0_v60 : TRef sig ⟨S4096x4096, .i32⟩) xori
  :: TRef.binary (.of main_call1_call0_call0_v54 : TRef sig ⟨S4096x4096, .i32⟩) (.of main_call1_call0_call0_v60 : TRef sig ⟨S4096x4096, .i32⟩) (.of main_call1_call0_call0_v61 : TRef sig ⟨S4096x4096, .i32⟩) addi
  :: TRef.nullary (.of main_call1_call0_call0_c_15 : TRef sig ⟨S_, .i32⟩) (constantI S_ 32 24#32)
  :: TRef.unary (.of main_call1_call0_call0_c_15 : TRef sig ⟨S_, .i32⟩) (.of main_call1_call0_call0_v62 : TRef sig ⟨S4096x4096, .i32⟩) (broadcastInDim S4096x4096 ![] bcast_S_S4096x4096)
  :: TRef.binary (.of main_call1_call0_call0_v60 : TRef sig ⟨S4096x4096, .i32⟩) (.of main_call1_call0_call0_v62 : TRef sig ⟨S4096x4096, .i32⟩) (.of main_call1_call0_call0_v63 : TRef sig ⟨S4096x4096, .i32⟩) Host.shli
  :: TRef.nullary (.of main_call1_call0_call0_c_16 : TRef sig ⟨S_, .i32⟩) (constantI S_ 32 8#32)
  :: TRef.unary (.of main_call1_call0_call0_c_16 : TRef sig ⟨S_, .i32⟩) (.of main_call1_call0_call0_v64 : TRef sig ⟨S4096x4096, .i32⟩) (broadcastInDim S4096x4096 ![] bcast_S_S4096x4096)
  :: TRef.binary (.of main_call1_call0_call0_v60 : TRef sig ⟨S4096x4096, .i32⟩) (.of main_call1_call0_call0_v64 : TRef sig ⟨S4096x4096, .i32⟩) (.of main_call1_call0_call0_v65 : TRef sig ⟨S4096x4096, .i32⟩) Host.shrui
  :: TRef.binary (.of main_call1_call0_call0_v63 : TRef sig ⟨S4096x4096, .i32⟩) (.of main_call1_call0_call0_v65 : TRef sig ⟨S4096x4096, .i32⟩) (.of main_call1_call0_call0_v66 : TRef sig ⟨S4096x4096, .i32⟩) ori
  :: TRef.binary (.of main_call1_call0_call0_v61 : TRef sig ⟨S4096x4096, .i32⟩) (.of main_call1_call0_call0_v66 : TRef sig ⟨S4096x4096, .i32⟩) (.of main_call1_call0_call0_v67 : TRef sig ⟨S4096x4096, .i32⟩) xori
  :: TRef.unary (.of main_call1_call0_call0_v1 : TRef sig ⟨S_, .i32⟩) (.of main_call1_call0_call0_v68 : TRef sig ⟨S4096x4096, .i32⟩) (broadcastInDim S4096x4096 ![] bcast_S_S4096x4096)
  :: TRef.binary (.of main_call1_call0_call0_v61 : TRef sig ⟨S4096x4096, .i32⟩) (.of main_call1_call0_call0_v68 : TRef sig ⟨S4096x4096, .i32⟩) (.of main_call1_call0_call0_v69 : TRef sig ⟨S4096x4096, .i32⟩) addi
  :: TRef.unary (.of main_call1_call0_v4 : TRef sig ⟨S_, .i32⟩) (.of main_call1_call0_call0_v70 : TRef sig ⟨S4096x4096, .i32⟩) (broadcastInDim S4096x4096 ![] bcast_S_S4096x4096)
  :: TRef.binary (.of main_call1_call0_call0_v67 : TRef sig ⟨S4096x4096, .i32⟩) (.of main_call1_call0_call0_v70 : TRef sig ⟨S4096x4096, .i32⟩) (.of main_call1_call0_call0_v71 : TRef sig ⟨S4096x4096, .i32⟩) addi
  :: TRef.nullary (.of main_call1_call0_call0_c_17 : TRef sig ⟨S_, .i32⟩) (constantI S_ 32 2#32)
  :: TRef.unary (.of main_call1_call0_call0_c_17 : TRef sig ⟨S_, .i32⟩) (.of main_call1_call0_call0_v72 : TRef sig ⟨S4096x4096, .i32⟩) (broadcastInDim S4096x4096 ![] bcast_S_S4096x4096)
  :: TRef.binary (.of main_call1_call0_call0_v71 : TRef sig ⟨S4096x4096, .i32⟩) (.of main_call1_call0_call0_v72 : TRef sig ⟨S4096x4096, .i32⟩) (.of main_call1_call0_call0_v73 : TRef sig ⟨S4096x4096, .i32⟩) addi
  :: TRef.binary (.of main_call1_call0_call0_v69 : TRef sig ⟨S4096x4096, .i32⟩) (.of main_call1_call0_call0_v73 : TRef sig ⟨S4096x4096, .i32⟩) (.of main_call1_call0_call0_v74 : TRef sig ⟨S4096x4096, .i32⟩) addi
  :: TRef.nullary (.of main_call1_call0_call0_c_18 : TRef sig ⟨S_, .i32⟩) (constantI S_ 32 13#32)
  :: TRef.unary (.of main_call1_call0_call0_c_18 : TRef sig ⟨S_, .i32⟩) (.of main_call1_call0_call0_v75 : TRef sig ⟨S4096x4096, .i32⟩) (broadcastInDim S4096x4096 ![] bcast_S_S4096x4096)
  :: TRef.binary (.of main_call1_call0_call0_v73 : TRef sig ⟨S4096x4096, .i32⟩) (.of main_call1_call0_call0_v75 : TRef sig ⟨S4096x4096, .i32⟩) (.of main_call1_call0_call0_v76 : TRef sig ⟨S4096x4096, .i32⟩) Host.shli
  :: TRef.nullary (.of main_call1_call0_call0_c_19 : TRef sig ⟨S_, .i32⟩) (constantI S_ 32 19#32)
  :: TRef.unary (.of main_call1_call0_call0_c_19 : TRef sig ⟨S_, .i32⟩) (.of main_call1_call0_call0_v77 : TRef sig ⟨S4096x4096, .i32⟩) (broadcastInDim S4096x4096 ![] bcast_S_S4096x4096)
  :: TRef.binary (.of main_call1_call0_call0_v73 : TRef sig ⟨S4096x4096, .i32⟩) (.of main_call1_call0_call0_v77 : TRef sig ⟨S4096x4096, .i32⟩) (.of main_call1_call0_call0_v78 : TRef sig ⟨S4096x4096, .i32⟩) Host.shrui
  :: TRef.binary (.of main_call1_call0_call0_v76 : TRef sig ⟨S4096x4096, .i32⟩) (.of main_call1_call0_call0_v78 : TRef sig ⟨S4096x4096, .i32⟩) (.of main_call1_call0_call0_v79 : TRef sig ⟨S4096x4096, .i32⟩) ori
  :: TRef.binary (.of main_call1_call0_call0_v74 : TRef sig ⟨S4096x4096, .i32⟩) (.of main_call1_call0_call0_v79 : TRef sig ⟨S4096x4096, .i32⟩) (.of main_call1_call0_call0_v80 : TRef sig ⟨S4096x4096, .i32⟩) xori
  :: TRef.binary (.of main_call1_call0_call0_v74 : TRef sig ⟨S4096x4096, .i32⟩) (.of main_call1_call0_call0_v80 : TRef sig ⟨S4096x4096, .i32⟩) (.of main_call1_call0_call0_v81 : TRef sig ⟨S4096x4096, .i32⟩) addi
  :: TRef.nullary (.of main_call1_call0_call0_c_20 : TRef sig ⟨S_, .i32⟩) (constantI S_ 32 15#32)
  :: TRef.unary (.of main_call1_call0_call0_c_20 : TRef sig ⟨S_, .i32⟩) (.of main_call1_call0_call0_v82 : TRef sig ⟨S4096x4096, .i32⟩) (broadcastInDim S4096x4096 ![] bcast_S_S4096x4096)
  :: TRef.binary (.of main_call1_call0_call0_v80 : TRef sig ⟨S4096x4096, .i32⟩) (.of main_call1_call0_call0_v82 : TRef sig ⟨S4096x4096, .i32⟩) (.of main_call1_call0_call0_v83 : TRef sig ⟨S4096x4096, .i32⟩) Host.shli
  :: TRef.nullary (.of main_call1_call0_call0_c_21 : TRef sig ⟨S_, .i32⟩) (constantI S_ 32 17#32)
  :: TRef.unary (.of main_call1_call0_call0_c_21 : TRef sig ⟨S_, .i32⟩) (.of main_call1_call0_call0_v84 : TRef sig ⟨S4096x4096, .i32⟩) (broadcastInDim S4096x4096 ![] bcast_S_S4096x4096)
  :: TRef.binary (.of main_call1_call0_call0_v80 : TRef sig ⟨S4096x4096, .i32⟩) (.of main_call1_call0_call0_v84 : TRef sig ⟨S4096x4096, .i32⟩) (.of main_call1_call0_call0_v85 : TRef sig ⟨S4096x4096, .i32⟩) Host.shrui
  :: TRef.binary (.of main_call1_call0_call0_v83 : TRef sig ⟨S4096x4096, .i32⟩) (.of main_call1_call0_call0_v85 : TRef sig ⟨S4096x4096, .i32⟩) (.of main_call1_call0_call0_v86 : TRef sig ⟨S4096x4096, .i32⟩) ori
  :: TRef.binary (.of main_call1_call0_call0_v81 : TRef sig ⟨S4096x4096, .i32⟩) (.of main_call1_call0_call0_v86 : TRef sig ⟨S4096x4096, .i32⟩) (.of main_call1_call0_call0_v87 : TRef sig ⟨S4096x4096, .i32⟩) xori
  :: TRef.binary (.of main_call1_call0_call0_v81 : TRef sig ⟨S4096x4096, .i32⟩) (.of main_call1_call0_call0_v87 : TRef sig ⟨S4096x4096, .i32⟩) (.of main_call1_call0_call0_v88 : TRef sig ⟨S4096x4096, .i32⟩) addi
  :: TRef.nullary (.of main_call1_call0_call0_c_22 : TRef sig ⟨S_, .i32⟩) (constantI S_ 32 26#32)
  :: TRef.unary (.of main_call1_call0_call0_c_22 : TRef sig ⟨S_, .i32⟩) (.of main_call1_call0_call0_v89 : TRef sig ⟨S4096x4096, .i32⟩) (broadcastInDim S4096x4096 ![] bcast_S_S4096x4096)
  :: TRef.binary (.of main_call1_call0_call0_v87 : TRef sig ⟨S4096x4096, .i32⟩) (.of main_call1_call0_call0_v89 : TRef sig ⟨S4096x4096, .i32⟩) (.of main_call1_call0_call0_v90 : TRef sig ⟨S4096x4096, .i32⟩) Host.shli
  :: TRef.nullary (.of main_call1_call0_call0_c_23 : TRef sig ⟨S_, .i32⟩) (constantI S_ 32 6#32)
  :: TRef.unary (.of main_call1_call0_call0_c_23 : TRef sig ⟨S_, .i32⟩) (.of main_call1_call0_call0_v91 : TRef sig ⟨S4096x4096, .i32⟩) (broadcastInDim S4096x4096 ![] bcast_S_S4096x4096)
  :: TRef.binary (.of main_call1_call0_call0_v87 : TRef sig ⟨S4096x4096, .i32⟩) (.of main_call1_call0_call0_v91 : TRef sig ⟨S4096x4096, .i32⟩) (.of main_call1_call0_call0_v92 : TRef sig ⟨S4096x4096, .i32⟩) Host.shrui
  :: TRef.binary (.of main_call1_call0_call0_v90 : TRef sig ⟨S4096x4096, .i32⟩) (.of main_call1_call0_call0_v92 : TRef sig ⟨S4096x4096, .i32⟩) (.of main_call1_call0_call0_v93 : TRef sig ⟨S4096x4096, .i32⟩) ori
  :: TRef.binary (.of main_call1_call0_call0_v88 : TRef sig ⟨S4096x4096, .i32⟩) (.of main_call1_call0_call0_v93 : TRef sig ⟨S4096x4096, .i32⟩) (.of main_call1_call0_call0_v94 : TRef sig ⟨S4096x4096, .i32⟩) xori
  :: TRef.binary (.of main_call1_call0_call0_v88 : TRef sig ⟨S4096x4096, .i32⟩) (.of main_call1_call0_call0_v94 : TRef sig ⟨S4096x4096, .i32⟩) (.of main_call1_call0_call0_v95 : TRef sig ⟨S4096x4096, .i32⟩) addi
  :: TRef.nullary (.of main_call1_call0_call0_c_24 : TRef sig ⟨S_, .i32⟩) (constantI S_ 32 6#32)
  :: TRef.unary (.of main_call1_call0_call0_c_24 : TRef sig ⟨S_, .i32⟩) (.of main_call1_call0_call0_v96 : TRef sig ⟨S4096x4096, .i32⟩) (broadcastInDim S4096x4096 ![] bcast_S_S4096x4096)
  :: TRef.binary (.of main_call1_call0_call0_v94 : TRef sig ⟨S4096x4096, .i32⟩) (.of main_call1_call0_call0_v96 : TRef sig ⟨S4096x4096, .i32⟩) (.of main_call1_call0_call0_v97 : TRef sig ⟨S4096x4096, .i32⟩) Host.shli
  :: TRef.nullary (.of main_call1_call0_call0_c_25 : TRef sig ⟨S_, .i32⟩) (constantI S_ 32 26#32)
  :: TRef.unary (.of main_call1_call0_call0_c_25 : TRef sig ⟨S_, .i32⟩) (.of main_call1_call0_call0_v98 : TRef sig ⟨S4096x4096, .i32⟩) (broadcastInDim S4096x4096 ![] bcast_S_S4096x4096)
  :: TRef.binary (.of main_call1_call0_call0_v94 : TRef sig ⟨S4096x4096, .i32⟩) (.of main_call1_call0_call0_v98 : TRef sig ⟨S4096x4096, .i32⟩) (.of main_call1_call0_call0_v99 : TRef sig ⟨S4096x4096, .i32⟩) Host.shrui
  :: TRef.binary (.of main_call1_call0_call0_v97 : TRef sig ⟨S4096x4096, .i32⟩) (.of main_call1_call0_call0_v99 : TRef sig ⟨S4096x4096, .i32⟩) (.of main_call1_call0_call0_v100 : TRef sig ⟨S4096x4096, .i32⟩) ori
  :: TRef.binary (.of main_call1_call0_call0_v95 : TRef sig ⟨S4096x4096, .i32⟩) (.of main_call1_call0_call0_v100 : TRef sig ⟨S4096x4096, .i32⟩) (.of main_call1_call0_call0_v101 : TRef sig ⟨S4096x4096, .i32⟩) xori
  :: TRef.unary (.of main_call1_call0_v4 : TRef sig ⟨S_, .i32⟩) (.of main_call1_call0_call0_v102 : TRef sig ⟨S4096x4096, .i32⟩) (broadcastInDim S4096x4096 ![] bcast_S_S4096x4096)
  :: TRef.binary (.of main_call1_call0_call0_v95 : TRef sig ⟨S4096x4096, .i32⟩) (.of main_call1_call0_call0_v102 : TRef sig ⟨S4096x4096, .i32⟩) (.of main_call1_call0_call0_v103 : TRef sig ⟨S4096x4096, .i32⟩) addi
  :: TRef.unary (.of main_call1_call0_v6 : TRef sig ⟨S_, .i32⟩) (.of main_call1_call0_call0_v104 : TRef sig ⟨S4096x4096, .i32⟩) (broadcastInDim S4096x4096 ![] bcast_S_S4096x4096)
  :: TRef.binary (.of main_call1_call0_call0_v101 : TRef sig ⟨S4096x4096, .i32⟩) (.of main_call1_call0_call0_v104 : TRef sig ⟨S4096x4096, .i32⟩) (.of main_call1_call0_call0_v105 : TRef sig ⟨S4096x4096, .i32⟩) addi
  :: TRef.nullary (.of main_call1_call0_call0_c_26 : TRef sig ⟨S_, .i32⟩) (constantI S_ 32 3#32)
  :: TRef.unary (.of main_call1_call0_call0_c_26 : TRef sig ⟨S_, .i32⟩) (.of main_call1_call0_call0_v106 : TRef sig ⟨S4096x4096, .i32⟩) (broadcastInDim S4096x4096 ![] bcast_S_S4096x4096)
  :: TRef.binary (.of main_call1_call0_call0_v105 : TRef sig ⟨S4096x4096, .i32⟩) (.of main_call1_call0_call0_v106 : TRef sig ⟨S4096x4096, .i32⟩) (.of main_call1_call0_call0_v107 : TRef sig ⟨S4096x4096, .i32⟩) addi
  :: TRef.binary (.of main_call1_call0_call0_v103 : TRef sig ⟨S4096x4096, .i32⟩) (.of main_call1_call0_call0_v107 : TRef sig ⟨S4096x4096, .i32⟩) (.of main_call1_call0_call0_v108 : TRef sig ⟨S4096x4096, .i32⟩) addi
  :: TRef.nullary (.of main_call1_call0_call0_c_27 : TRef sig ⟨S_, .i32⟩) (constantI S_ 32 17#32)
  :: TRef.unary (.of main_call1_call0_call0_c_27 : TRef sig ⟨S_, .i32⟩) (.of main_call1_call0_call0_v109 : TRef sig ⟨S4096x4096, .i32⟩) (broadcastInDim S4096x4096 ![] bcast_S_S4096x4096)
  :: TRef.binary (.of main_call1_call0_call0_v107 : TRef sig ⟨S4096x4096, .i32⟩) (.of main_call1_call0_call0_v109 : TRef sig ⟨S4096x4096, .i32⟩) (.of main_call1_call0_call0_v110 : TRef sig ⟨S4096x4096, .i32⟩) Host.shli
  :: TRef.nullary (.of main_call1_call0_call0_c_28 : TRef sig ⟨S_, .i32⟩) (constantI S_ 32 15#32)
  :: TRef.unary (.of main_call1_call0_call0_c_28 : TRef sig ⟨S_, .i32⟩) (.of main_call1_call0_call0_v111 : TRef sig ⟨S4096x4096, .i32⟩) (broadcastInDim S4096x4096 ![] bcast_S_S4096x4096)
  :: TRef.binary (.of main_call1_call0_call0_v107 : TRef sig ⟨S4096x4096, .i32⟩) (.of main_call1_call0_call0_v111 : TRef sig ⟨S4096x4096, .i32⟩) (.of main_call1_call0_call0_v112 : TRef sig ⟨S4096x4096, .i32⟩) Host.shrui
  :: TRef.binary (.of main_call1_call0_call0_v110 : TRef sig ⟨S4096x4096, .i32⟩) (.of main_call1_call0_call0_v112 : TRef sig ⟨S4096x4096, .i32⟩) (.of main_call1_call0_call0_v113 : TRef sig ⟨S4096x4096, .i32⟩) ori
  :: TRef.binary (.of main_call1_call0_call0_v108 : TRef sig ⟨S4096x4096, .i32⟩) (.of main_call1_call0_call0_v113 : TRef sig ⟨S4096x4096, .i32⟩) (.of main_call1_call0_call0_v114 : TRef sig ⟨S4096x4096, .i32⟩) xori
  :: TRef.binary (.of main_call1_call0_call0_v108 : TRef sig ⟨S4096x4096, .i32⟩) (.of main_call1_call0_call0_v114 : TRef sig ⟨S4096x4096, .i32⟩) (.of main_call1_call0_call0_v115 : TRef sig ⟨S4096x4096, .i32⟩) addi
  :: TRef.nullary (.of main_call1_call0_call0_c_29 : TRef sig ⟨S_, .i32⟩) (constantI S_ 32 29#32)
  :: TRef.unary (.of main_call1_call0_call0_c_29 : TRef sig ⟨S_, .i32⟩) (.of main_call1_call0_call0_v116 : TRef sig ⟨S4096x4096, .i32⟩) (broadcastInDim S4096x4096 ![] bcast_S_S4096x4096)
  :: TRef.binary (.of main_call1_call0_call0_v114 : TRef sig ⟨S4096x4096, .i32⟩) (.of main_call1_call0_call0_v116 : TRef sig ⟨S4096x4096, .i32⟩) (.of main_call1_call0_call0_v117 : TRef sig ⟨S4096x4096, .i32⟩) Host.shli
  :: TRef.nullary (.of main_call1_call0_call0_c_30 : TRef sig ⟨S_, .i32⟩) (constantI S_ 32 3#32)
  :: TRef.unary (.of main_call1_call0_call0_c_30 : TRef sig ⟨S_, .i32⟩) (.of main_call1_call0_call0_v118 : TRef sig ⟨S4096x4096, .i32⟩) (broadcastInDim S4096x4096 ![] bcast_S_S4096x4096)
  :: TRef.binary (.of main_call1_call0_call0_v114 : TRef sig ⟨S4096x4096, .i32⟩) (.of main_call1_call0_call0_v118 : TRef sig ⟨S4096x4096, .i32⟩) (.of main_call1_call0_call0_v119 : TRef sig ⟨S4096x4096, .i32⟩) Host.shrui
  :: TRef.binary (.of main_call1_call0_call0_v117 : TRef sig ⟨S4096x4096, .i32⟩) (.of main_call1_call0_call0_v119 : TRef sig ⟨S4096x4096, .i32⟩) (.of main_call1_call0_call0_v120 : TRef sig ⟨S4096x4096, .i32⟩) ori
  :: TRef.binary (.of main_call1_call0_call0_v115 : TRef sig ⟨S4096x4096, .i32⟩) (.of main_call1_call0_call0_v120 : TRef sig ⟨S4096x4096, .i32⟩) (.of main_call1_call0_call0_v121 : TRef sig ⟨S4096x4096, .i32⟩) xori
  :: TRef.binary (.of main_call1_call0_call0_v115 : TRef sig ⟨S4096x4096, .i32⟩) (.of main_call1_call0_call0_v121 : TRef sig ⟨S4096x4096, .i32⟩) (.of main_call1_call0_call0_v122 : TRef sig ⟨S4096x4096, .i32⟩) addi
  :: TRef.nullary (.of main_call1_call0_call0_c_31 : TRef sig ⟨S_, .i32⟩) (constantI S_ 32 16#32)
  :: TRef.unary (.of main_call1_call0_call0_c_31 : TRef sig ⟨S_, .i32⟩) (.of main_call1_call0_call0_v123 : TRef sig ⟨S4096x4096, .i32⟩) (broadcastInDim S4096x4096 ![] bcast_S_S4096x4096)
  :: TRef.binary (.of main_call1_call0_call0_v121 : TRef sig ⟨S4096x4096, .i32⟩) (.of main_call1_call0_call0_v123 : TRef sig ⟨S4096x4096, .i32⟩) (.of main_call1_call0_call0_v124 : TRef sig ⟨S4096x4096, .i32⟩) Host.shli
  :: TRef.nullary (.of main_call1_call0_call0_c_32 : TRef sig ⟨S_, .i32⟩) (constantI S_ 32 16#32)
  :: TRef.unary (.of main_call1_call0_call0_c_32 : TRef sig ⟨S_, .i32⟩) (.of main_call1_call0_call0_v125 : TRef sig ⟨S4096x4096, .i32⟩) (broadcastInDim S4096x4096 ![] bcast_S_S4096x4096)
  :: TRef.binary (.of main_call1_call0_call0_v121 : TRef sig ⟨S4096x4096, .i32⟩) (.of main_call1_call0_call0_v125 : TRef sig ⟨S4096x4096, .i32⟩) (.of main_call1_call0_call0_v126 : TRef sig ⟨S4096x4096, .i32⟩) Host.shrui
  :: TRef.binary (.of main_call1_call0_call0_v124 : TRef sig ⟨S4096x4096, .i32⟩) (.of main_call1_call0_call0_v126 : TRef sig ⟨S4096x4096, .i32⟩) (.of main_call1_call0_call0_v127 : TRef sig ⟨S4096x4096, .i32⟩) ori
  :: TRef.binary (.of main_call1_call0_call0_v122 : TRef sig ⟨S4096x4096, .i32⟩) (.of main_call1_call0_call0_v127 : TRef sig ⟨S4096x4096, .i32⟩) (.of main_call1_call0_call0_v128 : TRef sig ⟨S4096x4096, .i32⟩) xori
  :: TRef.binary (.of main_call1_call0_call0_v122 : TRef sig ⟨S4096x4096, .i32⟩) (.of main_call1_call0_call0_v128 : TRef sig ⟨S4096x4096, .i32⟩) (.of main_call1_call0_call0_v129 : TRef sig ⟨S4096x4096, .i32⟩) addi
  :: TRef.nullary (.of main_call1_call0_call0_c_33 : TRef sig ⟨S_, .i32⟩) (constantI S_ 32 24#32)
  :: TRef.unary (.of main_call1_call0_call0_c_33 : TRef sig ⟨S_, .i32⟩) (.of main_call1_call0_call0_v130 : TRef sig ⟨S4096x4096, .i32⟩) (broadcastInDim S4096x4096 ![] bcast_S_S4096x4096)
  :: TRef.binary (.of main_call1_call0_call0_v128 : TRef sig ⟨S4096x4096, .i32⟩) (.of main_call1_call0_call0_v130 : TRef sig ⟨S4096x4096, .i32⟩) (.of main_call1_call0_call0_v131 : TRef sig ⟨S4096x4096, .i32⟩) Host.shli
  :: TRef.nullary (.of main_call1_call0_call0_c_34 : TRef sig ⟨S_, .i32⟩) (constantI S_ 32 8#32)
  :: TRef.unary (.of main_call1_call0_call0_c_34 : TRef sig ⟨S_, .i32⟩) (.of main_call1_call0_call0_v132 : TRef sig ⟨S4096x4096, .i32⟩) (broadcastInDim S4096x4096 ![] bcast_S_S4096x4096)
  :: TRef.binary (.of main_call1_call0_call0_v128 : TRef sig ⟨S4096x4096, .i32⟩) (.of main_call1_call0_call0_v132 : TRef sig ⟨S4096x4096, .i32⟩) (.of main_call1_call0_call0_v133 : TRef sig ⟨S4096x4096, .i32⟩) Host.shrui
  :: TRef.binary (.of main_call1_call0_call0_v131 : TRef sig ⟨S4096x4096, .i32⟩) (.of main_call1_call0_call0_v133 : TRef sig ⟨S4096x4096, .i32⟩) (.of main_call1_call0_call0_v134 : TRef sig ⟨S4096x4096, .i32⟩) ori
  :: TRef.binary (.of main_call1_call0_call0_v129 : TRef sig ⟨S4096x4096, .i32⟩) (.of main_call1_call0_call0_v134 : TRef sig ⟨S4096x4096, .i32⟩) (.of main_call1_call0_call0_v135 : TRef sig ⟨S4096x4096, .i32⟩) xori
  :: TRef.unary (.of main_call1_call0_v6 : TRef sig ⟨S_, .i32⟩) (.of main_call1_call0_call0_v136 : TRef sig ⟨S4096x4096, .i32⟩) (broadcastInDim S4096x4096 ![] bcast_S_S4096x4096)
  :: TRef.binary (.of main_call1_call0_call0_v129 : TRef sig ⟨S4096x4096, .i32⟩) (.of main_call1_call0_call0_v136 : TRef sig ⟨S4096x4096, .i32⟩) (.of main_call1_call0_call0_v137 : TRef sig ⟨S4096x4096, .i32⟩) addi
  :: TRef.unary (.of main_call1_call0_call0_v1 : TRef sig ⟨S_, .i32⟩) (.of main_call1_call0_call0_v138 : TRef sig ⟨S4096x4096, .i32⟩) (broadcastInDim S4096x4096 ![] bcast_S_S4096x4096)
  :: TRef.binary (.of main_call1_call0_call0_v135 : TRef sig ⟨S4096x4096, .i32⟩) (.of main_call1_call0_call0_v138 : TRef sig ⟨S4096x4096, .i32⟩) (.of main_call1_call0_call0_v139 : TRef sig ⟨S4096x4096, .i32⟩) addi
  :: TRef.nullary (.of main_call1_call0_call0_c_35 : TRef sig ⟨S_, .i32⟩) (constantI S_ 32 4#32)
  :: TRef.unary (.of main_call1_call0_call0_c_35 : TRef sig ⟨S_, .i32⟩) (.of main_call1_call0_call0_v140 : TRef sig ⟨S4096x4096, .i32⟩) (broadcastInDim S4096x4096 ![] bcast_S_S4096x4096)
  :: TRef.binary (.of main_call1_call0_call0_v139 : TRef sig ⟨S4096x4096, .i32⟩) (.of main_call1_call0_call0_v140 : TRef sig ⟨S4096x4096, .i32⟩) (.of main_call1_call0_call0_v141 : TRef sig ⟨S4096x4096, .i32⟩) addi
  :: TRef.binary (.of main_call1_call0_call0_v137 : TRef sig ⟨S4096x4096, .i32⟩) (.of main_call1_call0_call0_v141 : TRef sig ⟨S4096x4096, .i32⟩) (.of main_call1_call0_call0_v142 : TRef sig ⟨S4096x4096, .i32⟩) addi
  :: TRef.nullary (.of main_call1_call0_call0_c_36 : TRef sig ⟨S_, .i32⟩) (constantI S_ 32 13#32)
  :: TRef.unary (.of main_call1_call0_call0_c_36 : TRef sig ⟨S_, .i32⟩) (.of main_call1_call0_call0_v143 : TRef sig ⟨S4096x4096, .i32⟩) (broadcastInDim S4096x4096 ![] bcast_S_S4096x4096)
  :: TRef.binary (.of main_call1_call0_call0_v141 : TRef sig ⟨S4096x4096, .i32⟩) (.of main_call1_call0_call0_v143 : TRef sig ⟨S4096x4096, .i32⟩) (.of main_call1_call0_call0_v144 : TRef sig ⟨S4096x4096, .i32⟩) Host.shli
  :: TRef.nullary (.of main_call1_call0_call0_c_37 : TRef sig ⟨S_, .i32⟩) (constantI S_ 32 19#32)
  :: TRef.unary (.of main_call1_call0_call0_c_37 : TRef sig ⟨S_, .i32⟩) (.of main_call1_call0_call0_v145 : TRef sig ⟨S4096x4096, .i32⟩) (broadcastInDim S4096x4096 ![] bcast_S_S4096x4096)
  :: TRef.binary (.of main_call1_call0_call0_v141 : TRef sig ⟨S4096x4096, .i32⟩) (.of main_call1_call0_call0_v145 : TRef sig ⟨S4096x4096, .i32⟩) (.of main_call1_call0_call0_v146 : TRef sig ⟨S4096x4096, .i32⟩) Host.shrui
  :: TRef.binary (.of main_call1_call0_call0_v144 : TRef sig ⟨S4096x4096, .i32⟩) (.of main_call1_call0_call0_v146 : TRef sig ⟨S4096x4096, .i32⟩) (.of main_call1_call0_call0_v147 : TRef sig ⟨S4096x4096, .i32⟩) ori
  :: TRef.binary (.of main_call1_call0_call0_v142 : TRef sig ⟨S4096x4096, .i32⟩) (.of main_call1_call0_call0_v147 : TRef sig ⟨S4096x4096, .i32⟩) (.of main_call1_call0_call0_v148 : TRef sig ⟨S4096x4096, .i32⟩) xori
  :: TRef.binary (.of main_call1_call0_call0_v142 : TRef sig ⟨S4096x4096, .i32⟩) (.of main_call1_call0_call0_v148 : TRef sig ⟨S4096x4096, .i32⟩) (.of main_call1_call0_call0_v149 : TRef sig ⟨S4096x4096, .i32⟩) addi
  :: TRef.nullary (.of main_call1_call0_call0_c_38 : TRef sig ⟨S_, .i32⟩) (constantI S_ 32 15#32)
  :: TRef.unary (.of main_call1_call0_call0_c_38 : TRef sig ⟨S_, .i32⟩) (.of main_call1_call0_call0_v150 : TRef sig ⟨S4096x4096, .i32⟩) (broadcastInDim S4096x4096 ![] bcast_S_S4096x4096)
  :: TRef.binary (.of main_call1_call0_call0_v148 : TRef sig ⟨S4096x4096, .i32⟩) (.of main_call1_call0_call0_v150 : TRef sig ⟨S4096x4096, .i32⟩) (.of main_call1_call0_call0_v151 : TRef sig ⟨S4096x4096, .i32⟩) Host.shli
  :: TRef.nullary (.of main_call1_call0_call0_c_39 : TRef sig ⟨S_, .i32⟩) (constantI S_ 32 17#32)
  :: TRef.unary (.of main_call1_call0_call0_c_39 : TRef sig ⟨S_, .i32⟩) (.of main_call1_call0_call0_v152 : TRef sig ⟨S4096x4096, .i32⟩) (broadcastInDim S4096x4096 ![] bcast_S_S4096x4096)
  :: TRef.binary (.of main_call1_call0_call0_v148 : TRef sig ⟨S4096x4096, .i32⟩) (.of main_call1_call0_call0_v152 : TRef sig ⟨S4096x4096, .i32⟩) (.of main_call1_call0_call0_v153 : TRef sig ⟨S4096x4096, .i32⟩) Host.shrui
  :: TRef.binary (.of main_call1_call0_call0_v151 : TRef sig ⟨S4096x4096, .i32⟩) (.of main_call1_call0_call0_v153 : TRef sig ⟨S4096x4096, .i32⟩) (.of main_call1_call0_call0_v154 : TRef sig ⟨S4096x4096, .i32⟩) ori
  :: TRef.binary (.of main_call1_call0_call0_v149 : TRef sig ⟨S4096x4096, .i32⟩) (.of main_call1_call0_call0_v154 : TRef sig ⟨S4096x4096, .i32⟩) (.of main_call1_call0_call0_v155 : TRef sig ⟨S4096x4096, .i32⟩) xori
  :: TRef.binary (.of main_call1_call0_call0_v149 : TRef sig ⟨S4096x4096, .i32⟩) (.of main_call1_call0_call0_v155 : TRef sig ⟨S4096x4096, .i32⟩) (.of main_call1_call0_call0_v156 : TRef sig ⟨S4096x4096, .i32⟩) addi
  :: TRef.nullary (.of main_call1_call0_call0_c_40 : TRef sig ⟨S_, .i32⟩) (constantI S_ 32 26#32)
  :: TRef.unary (.of main_call1_call0_call0_c_40 : TRef sig ⟨S_, .i32⟩) (.of main_call1_call0_call0_v157 : TRef sig ⟨S4096x4096, .i32⟩) (broadcastInDim S4096x4096 ![] bcast_S_S4096x4096)
  :: TRef.binary (.of main_call1_call0_call0_v155 : TRef sig ⟨S4096x4096, .i32⟩) (.of main_call1_call0_call0_v157 : TRef sig ⟨S4096x4096, .i32⟩) (.of main_call1_call0_call0_v158 : TRef sig ⟨S4096x4096, .i32⟩) Host.shli
  :: TRef.nullary (.of main_call1_call0_call0_c_41 : TRef sig ⟨S_, .i32⟩) (constantI S_ 32 6#32)
  :: TRef.unary (.of main_call1_call0_call0_c_41 : TRef sig ⟨S_, .i32⟩) (.of main_call1_call0_call0_v159 : TRef sig ⟨S4096x4096, .i32⟩) (broadcastInDim S4096x4096 ![] bcast_S_S4096x4096)
  :: TRef.binary (.of main_call1_call0_call0_v155 : TRef sig ⟨S4096x4096, .i32⟩) (.of main_call1_call0_call0_v159 : TRef sig ⟨S4096x4096, .i32⟩) (.of main_call1_call0_call0_v160 : TRef sig ⟨S4096x4096, .i32⟩) Host.shrui
  :: TRef.binary (.of main_call1_call0_call0_v158 : TRef sig ⟨S4096x4096, .i32⟩) (.of main_call1_call0_call0_v160 : TRef sig ⟨S4096x4096, .i32⟩) (.of main_call1_call0_call0_v161 : TRef sig ⟨S4096x4096, .i32⟩) ori
  :: TRef.binary (.of main_call1_call0_call0_v156 : TRef sig ⟨S4096x4096, .i32⟩) (.of main_call1_call0_call0_v161 : TRef sig ⟨S4096x4096, .i32⟩) (.of main_call1_call0_call0_v162 : TRef sig ⟨S4096x4096, .i32⟩) xori
  :: TRef.binary (.of main_call1_call0_call0_v156 : TRef sig ⟨S4096x4096, .i32⟩) (.of main_call1_call0_call0_v162 : TRef sig ⟨S4096x4096, .i32⟩) (.of main_call1_call0_call0_v163 : TRef sig ⟨S4096x4096, .i32⟩) addi
  :: TRef.nullary (.of main_call1_call0_call0_c_42 : TRef sig ⟨S_, .i32⟩) (constantI S_ 32 6#32)
  :: TRef.unary (.of main_call1_call0_call0_c_42 : TRef sig ⟨S_, .i32⟩) (.of main_call1_call0_call0_v164 : TRef sig ⟨S4096x4096, .i32⟩) (broadcastInDim S4096x4096 ![] bcast_S_S4096x4096)
  :: TRef.binary (.of main_call1_call0_call0_v162 : TRef sig ⟨S4096x4096, .i32⟩) (.of main_call1_call0_call0_v164 : TRef sig ⟨S4096x4096, .i32⟩) (.of main_call1_call0_call0_v165 : TRef sig ⟨S4096x4096, .i32⟩) Host.shli
  :: TRef.nullary (.of main_call1_call0_call0_c_43 : TRef sig ⟨S_, .i32⟩) (constantI S_ 32 26#32)
  :: TRef.unary (.of main_call1_call0_call0_c_43 : TRef sig ⟨S_, .i32⟩) (.of main_call1_call0_call0_v166 : TRef sig ⟨S4096x4096, .i32⟩) (broadcastInDim S4096x4096 ![] bcast_S_S4096x4096)
  :: TRef.binary (.of main_call1_call0_call0_v162 : TRef sig ⟨S4096x4096, .i32⟩) (.of main_call1_call0_call0_v166 : TRef sig ⟨S4096x4096, .i32⟩) (.of main_call1_call0_call0_v167 : TRef sig ⟨S4096x4096, .i32⟩) Host.shrui
  :: TRef.binary (.of main_call1_call0_call0_v165 : TRef sig ⟨S4096x4096, .i32⟩) (.of main_call1_call0_call0_v167 : TRef sig ⟨S4096x4096, .i32⟩) (.of main_call1_call0_call0_v168 : TRef sig ⟨S4096x4096, .i32⟩) ori
  :: TRef.binary (.of main_call1_call0_call0_v163 : TRef sig ⟨S4096x4096, .i32⟩) (.of main_call1_call0_call0_v168 : TRef sig ⟨S4096x4096, .i32⟩) (.of main_call1_call0_call0_v169 : TRef sig ⟨S4096x4096, .i32⟩) xori
  :: TRef.unary (.of main_call1_call0_call0_v1 : TRef sig ⟨S_, .i32⟩) (.of main_call1_call0_call0_v170 : TRef sig ⟨S4096x4096, .i32⟩) (broadcastInDim S4096x4096 ![] bcast_S_S4096x4096)
  :: TRef.binary (.of main_call1_call0_call0_v163 : TRef sig ⟨S4096x4096, .i32⟩) (.of main_call1_call0_call0_v170 : TRef sig ⟨S4096x4096, .i32⟩) (.of main_call1_call0_v18_0 : TRef sig ⟨S4096x4096, .i32⟩) addi
  :: TRef.unary (.of main_call1_call0_v4 : TRef sig ⟨S_, .i32⟩) (.of main_call1_call0_call0_v172 : TRef sig ⟨S4096x4096, .i32⟩) (broadcastInDim S4096x4096 ![] bcast_S_S4096x4096)
  :: TRef.binary (.of main_call1_call0_call0_v169 : TRef sig ⟨S4096x4096, .i32⟩) (.of main_call1_call0_call0_v172 : TRef sig ⟨S4096x4096, .i32⟩) (.of main_call1_call0_call0_v173 : TRef sig ⟨S4096x4096, .i32⟩) addi
  :: TRef.nullary (.of main_call1_call0_call0_c_44 : TRef sig ⟨S_, .i32⟩) (constantI S_ 32 5#32)
  :: TRef.unary (.of main_call1_call0_call0_c_44 : TRef sig ⟨S_, .i32⟩) (.of main_call1_call0_call0_v174 : TRef sig ⟨S4096x4096, .i32⟩) (broadcastInDim S4096x4096 ![] bcast_S_S4096x4096)
  :: TRef.binary (.of main_call1_call0_call0_v173 : TRef sig ⟨S4096x4096, .i32⟩) (.of main_call1_call0_call0_v174 : TRef sig ⟨S4096x4096, .i32⟩) (.of main_call1_call0_v18_1 : TRef sig ⟨S4096x4096, .i32⟩) addi
  :: TRef.binary main_call1_call0_call0.v171 main_call1_call0_call0.v175 (.of main_call1_call0_v19 : TRef sig ⟨S4096x4096, .i32⟩) xori
  :: TRef.nullary (.of main_call1_call0_c_2 : TRef sig ⟨S_, .i32⟩) (constantI S_ 32 9#32)
  :: TRef.unary (.of main_call1_call0_c_2 : TRef sig ⟨S_, .i32⟩) (.of main_call1_call0_v20 : TRef sig ⟨S4096x4096, .i32⟩) (broadcastInDim S4096x4096 ![] bcast_S_S4096x4096)
  :: TRef.binary (.of main_call1_call0_v19 : TRef sig ⟨S4096x4096, .i32⟩) (.of main_call1_call0_v20 : TRef sig ⟨S4096x4096, .i32⟩) (.of main_call1_call0_v21 : TRef sig ⟨S4096x4096, .i32⟩) Host.shrui
  :: TRef.nullary (.of main_call1_call0_c_3 : TRef sig ⟨S_, .i32⟩) (constantI S_ 32 1065353216#32)
  :: TRef.unary (.of main_call1_call0_c_3 : TRef sig ⟨S_, .i32⟩) (.of main_call1_call0_v22 : TRef sig ⟨S4096x4096, .i32⟩) (broadcastInDim S4096x4096 ![] bcast_S_S4096x4096)
  :: TRef.binary (.of main_call1_call0_v21 : TRef sig ⟨S4096x4096, .i32⟩) (.of main_call1_call0_v22 : TRef sig ⟨S4096x4096, .i32⟩) (.of main_call1_call0_v23 : TRef sig ⟨S4096x4096, .i32⟩) ori
  :: TRef.unary (.of main_call1_call0_v23 : TRef sig ⟨S4096x4096, .i32⟩) (.of main_call1_call0_v24 : TRef sig ⟨S4096x4096, .f32⟩) (bitcastToFloat .f32)
  :: TRef.nullary (.of main_call1_call0_cst : TRef sig ⟨S_, .f32⟩) (constant S_ .f32 0x3F800000#32)
  :: TRef.unary (.of main_call1_call0_cst : TRef sig ⟨S_, .f32⟩) (.of main_call1_call0_v25 : TRef sig ⟨S4096x4096, .f32⟩) (broadcastInDim S4096x4096 ![] bcast_S_S4096x4096)
  :: TRef.binary (.of main_call1_call0_v24 : TRef sig ⟨S4096x4096, .f32⟩) (.of main_call1_call0_v25 : TRef sig ⟨S4096x4096, .f32⟩) (.of main_call1_call0_v26 : TRef sig ⟨S4096x4096, .f32⟩) subf
  :: TRef.binary (.of main_call1_call0_v2 : TRef sig ⟨S1x1, .f32⟩) (.of main_call1_call0_v1 : TRef sig ⟨S1x1, .f32⟩) (.of main_call1_call0_v27 : TRef sig ⟨S1x1, .f32⟩) subf
  :: TRef.unary (.of main_call1_call0_v27 : TRef sig ⟨S1x1, .f32⟩) (.of main_call1_call0_v28 : TRef sig ⟨S4096x4096, .f32⟩) (broadcastInDim S4096x4096 ![0, 1] bcast_S1x1_S4096x4096_0_1)
  :: TRef.binary (.of main_call1_call0_v26 : TRef sig ⟨S4096x4096, .f32⟩) (.of main_call1_call0_v28 : TRef sig ⟨S4096x4096, .f32⟩) (.of main_call1_call0_v29 : TRef sig ⟨S4096x4096, .f32⟩) mulf
  :: TRef.unary (.of main_call1_call0_v1 : TRef sig ⟨S1x1, .f32⟩) (.of main_call1_call0_v30 : TRef sig ⟨S4096x4096, .f32⟩) (broadcastInDim S4096x4096 ![0, 1] bcast_S1x1_S4096x4096_0_1)
  :: TRef.binary (.of main_call1_call0_v29 : TRef sig ⟨S4096x4096, .f32⟩) (.of main_call1_call0_v30 : TRef sig ⟨S4096x4096, .f32⟩) (.of main_call1_call0_v31 : TRef sig ⟨S4096x4096, .f32⟩) addf
  :: TRef.unary (.of main_call1_call0_v1 : TRef sig ⟨S1x1, .f32⟩) (.of main_call1_call0_v32 : TRef sig ⟨S4096x4096, .f32⟩) (broadcastInDim S4096x4096 ![0, 1] bcast_S1x1_S4096x4096_0_1)
  :: TRef.binary (.of main_call1_call0_v32 : TRef sig ⟨S4096x4096, .f32⟩) (.of main_call1_call0_v31 : TRef sig ⟨S4096x4096, .f32⟩) (.of main_call1_v0 : TRef sig ⟨S4096x4096, .f32⟩) maximumf
  :: TRef.unary main_call1_call0.v33 (.of main_call1_v1 : TRef sig ⟨S4096x4096, .f32⟩) Host.log
  :: TRef.unary (.of main_call1_v1 : TRef sig ⟨S4096x4096, .f32⟩) (.of main_call1_v2 : TRef sig ⟨S4096x4096, .f32⟩) Host.negf
  :: TRef.unary (.of main_call1_v2 : TRef sig ⟨S4096x4096, .f32⟩) (.of main_call1_v3 : TRef sig ⟨S4096x4096, .f32⟩) Host.log
  :: TRef.unary (.of main_call1_v3 : TRef sig ⟨S4096x4096, .f32⟩) (.of main_v62 : TRef sig ⟨S4096x4096, .f32⟩) Host.negf
  :: []

/-- The noisy scores: `%63` to `%65`. -/
abbrev refH : List (HloOp τ sig (Elt F)) :=
  [ unary main_v61 main_v63 (broadcastInDim S1x4096 ![1] bcast_S4096_S1x4096_1 : (⟨S4096, .f32⟩ : BufTy).Contents (Elt F) → (⟨S1x4096, .f32⟩ : BufTy).Contents (Elt F)),
    unary main_v63 main_v64 (broadcastInDim S4096x4096 ![0, 1] bcast_S1x4096_S4096x4096_0_1 : (⟨S1x4096, .f32⟩ : BufTy).Contents (Elt F) → (⟨S4096x4096, .f32⟩ : BufTy).Contents (Elt F)),
    binary main_v62 main_v64 main_v65 (addf : (⟨S4096x4096, .f32⟩ : BufTy).Contents (Elt F) → (⟨S4096x4096, .f32⟩ : BufTy).Contents (Elt F) → (⟨S4096x4096, .f32⟩ : BufTy).Contents (Elt F)) ]

/-- The row-wise position of the largest score: `%66`. -/
abbrev refI : List (HloOp τ sig (Elt F)) :=
  [ TRef.nullary main_call2.v0 (iotaInDim S4096x4096 32 1),
    TRef.nullary main_call2.cst (constant S_ .f32 0xFF800000#32),
    TRef.nullary main_call2.c (constantI S_ 32 0#32),
    TRef.quaternary (.of main_v65 : TRef sig ⟨S4096x4096, .f32⟩) main_call2.v0 main_call2.cst main_call2.c main_call2.v1_0 (fun x y u v j => (Host.argReduce reducer_argmax_f32_i32 x y u v reducesTo_S4096x4096_S4096_d1 h_S_ j).1),
    TRef.quaternary (.of main_v65 : TRef sig ⟨S4096x4096, .f32⟩) main_call2.v0 main_call2.cst main_call2.c main_call2.v1_1 (fun x y u v j => (Host.argReduce reducer_argmax_f32_i32 x y u v reducesTo_S4096x4096_S4096_d1 h_S_ j).2) ]

/-- The gathered features: `%67`. -/
abbrev refJ : List (HloOp τ sig (Elt F)) :=
  [ TRef.nullary (.of main_call3_c : TRef sig ⟨S_, .i32⟩) (constantI S_ 32 0#32),
    TRef.unary (.of main_call3_c : TRef sig ⟨S_, .i32⟩) (.of main_call3_v0 : TRef sig ⟨S4096, .i32⟩) (broadcastInDim S4096 ![] bcast_S_S4096),
    TRef.binary (.of main_v66 : TRef sig ⟨S4096, .i32⟩) (.of main_call3_v0 : TRef sig ⟨S4096, .i32⟩) (.of main_call3_v1 : TRef sig ⟨S4096, .i1⟩) (cmpi .slt),
    TRef.nullary (.of main_call3_c_0 : TRef sig ⟨S_, .i32⟩) (constantI S_ 32 4096#32),
    TRef.unary (.of main_call3_c_0 : TRef sig ⟨S_, .i32⟩) (.of main_call3_v2 : TRef sig ⟨S4096, .i32⟩) (broadcastInDim S4096 ![] bcast_S_S4096),
    TRef.binary (.of main_v66 : TRef sig ⟨S4096, .i32⟩) (.of main_call3_v2 : TRef sig ⟨S4096, .i32⟩) (.of main_call3_v3 : TRef sig ⟨S4096, .i32⟩) addi,
    TRef.ternary (.of main_call3_v1 : TRef sig ⟨S4096, .i1⟩) (.of main_call3_v3 : TRef sig ⟨S4096, .i32⟩) (.of main_v66 : TRef sig ⟨S4096, .i32⟩) (.of main_call3_v4 : TRef sig ⟨S4096, .i32⟩) select,
    TRef.unary main_call3_call0.v0 (.of main_call3_v5 : TRef sig ⟨S4096x1, .i32⟩) (broadcastInDim S4096x1 ![0] bcast_S4096_S4096x1_0),
    TRef.nullary (.of main_call3_c_1 : TRef sig ⟨S1, .i32⟩) (constantI S1 32 4095#32),
    TRef.nullary (.of main_call3_c_2 : TRef sig ⟨S_, .i32⟩) (constantI S_ 32 0#32),
    TRef.unary (.of main_call3_c_2 : TRef sig ⟨S_, .i32⟩) (.of main_call3_v6 : TRef sig ⟨S4096x1, .i32⟩) (broadcastInDim S4096x1 ![] bcast_S_S4096x1),
    TRef.binary (.of main_call3_v5 : TRef sig ⟨S4096x1, .i32⟩) (.of main_call3_v6 : TRef sig ⟨S4096x1, .i32⟩) (.of main_call3_v7 : TRef sig ⟨S4096x1, .i1⟩) (cmpi .sge),
    TRef.unary (.of main_call3_c_1 : TRef sig ⟨S1, .i32⟩) (.of main_call3_v8 : TRef sig ⟨S1x1, .i32⟩) (broadcastInDim S1x1 ![1] bcast_S1_S1x1_1),
    TRef.unary (.of main_call3_v8 : TRef sig ⟨S1x1, .i32⟩) (.of main_call3_v9 : TRef sig ⟨S4096x1, .i32⟩) (broadcastInDim S4096x1 ![0, 1] bcast_S1x1_S4096x1_0_1),
    TRef.binary (.of main_call3_v5 : TRef sig ⟨S4096x1, .i32⟩) (.of main_call3_v9 : TRef sig ⟨S4096x1, .i32⟩) (.of main_call3_v10 : TRef sig ⟨S4096x1, .i1⟩) (cmpi .sle),
    TRef.binary (.of main_call3_v7 : TRef sig ⟨S4096x1, .i1⟩) (.of main_call3_v10 : TRef sig ⟨S4096x1, .i1⟩) (.of main_call3_v11 : TRef sig ⟨S4096x1, .i1⟩) andi,
    TRef.nullary (.of main_call3_c_3 : TRef sig ⟨S_, .i1⟩) (constantI S_ 1 1#1),
    TRef.binary (.of main_call3_v11 : TRef sig ⟨S4096x1, .i1⟩) (.of main_call3_c_3 : TRef sig ⟨S_, .i1⟩) (.of main_call3_v12 : TRef sig ⟨S4096, .i1⟩) (fun x v => Host.reduce IntOp.andi x v reducesTo_S4096x1_S4096_d1 h_S_),
    TRef.binary (.of main_v9 : TRef sig ⟨S4096x64, .f32⟩) (.of main_call3_v5 : TRef sig ⟨S4096x1, .i32⟩) (.of main_call3_v13 : TRef sig ⟨S4096x64, .f32⟩) (fun x i => Host.gather gather_S4096x64_S4096x1_S4096x64_1_0_n_n_0_1_164 x i),
    TRef.unary (.of main_call3_v12 : TRef sig ⟨S4096, .i1⟩) (.of main_call3_v14 : TRef sig ⟨S4096x64, .i1⟩) (broadcastInDim S4096x64 ![0] bcast_S4096_S4096x64_0),
    TRef.nullary (.of main_call3_cst : TRef sig ⟨S_, .f32⟩) (constant S_ .f32 0x7FC00000#32),
    TRef.unary (.of main_call3_cst : TRef sig ⟨S_, .f32⟩) (.of main_call3_v15 : TRef sig ⟨S4096x64, .f32⟩) (broadcastInDim S4096x64 ![] bcast_S_S4096x64),
    TRef.ternary (.of main_call3_v14 : TRef sig ⟨S4096x64, .i1⟩) (.of main_call3_v13 : TRef sig ⟨S4096x64, .f32⟩) (.of main_call3_v15 : TRef sig ⟨S4096x64, .f32⟩) (.of main_v67 : TRef sig ⟨S4096x64, .f32⟩) select ]

/-- The gathered inputs: `%68`. -/
abbrev refK : List (HloOp τ sig (Elt F)) :=
  [ TRef.nullary (.of main_call4_c : TRef sig ⟨S_, .i32⟩) (constantI S_ 32 0#32),
    TRef.unary (.of main_call4_c : TRef sig ⟨S_, .i32⟩) (.of main_call4_v0 : TRef sig ⟨S4096, .i32⟩) (broadcastInDim S4096 ![] bcast_S_S4096),
    TRef.binary (.of main_v66 : TRef sig ⟨S4096, .i32⟩) (.of main_call4_v0 : TRef sig ⟨S4096, .i32⟩) (.of main_call4_v1 : TRef sig ⟨S4096, .i1⟩) (cmpi .slt),
    TRef.nullary (.of main_call4_c_0 : TRef sig ⟨S_, .i32⟩) (constantI S_ 32 4096#32),
    TRef.unary (.of main_call4_c_0 : TRef sig ⟨S_, .i32⟩) (.of main_call4_v2 : TRef sig ⟨S4096, .i32⟩) (broadcastInDim S4096 ![] bcast_S_S4096),
    TRef.binary (.of main_v66 : TRef sig ⟨S4096, .i32⟩) (.of main_call4_v2 : TRef sig ⟨S4096, .i32⟩) (.of main_call4_v3 : TRef sig ⟨S4096, .i32⟩) addi,
    TRef.ternary (.of main_call4_v1 : TRef sig ⟨S4096, .i1⟩) (.of main_call4_v3 : TRef sig ⟨S4096, .i32⟩) (.of main_v66 : TRef sig ⟨S4096, .i32⟩) (.of main_call4_v4 : TRef sig ⟨S4096, .i32⟩) select,
    TRef.unary main_call4_call0.v0 (.of main_call4_v5 : TRef sig ⟨S4096x1, .i32⟩) (broadcastInDim S4096x1 ![0] bcast_S4096_S4096x1_0),
    TRef.nullary (.of main_call4_c_1 : TRef sig ⟨S1, .i32⟩) (constantI S1 32 4095#32),
    TRef.nullary (.of main_call4_c_2 : TRef sig ⟨S_, .i32⟩) (constantI S_ 32 0#32),
    TRef.unary (.of main_call4_c_2 : TRef sig ⟨S_, .i32⟩) (.of main_call4_v6 : TRef sig ⟨S4096x1, .i32⟩) (broadcastInDim S4096x1 ![] bcast_S_S4096x1),
    TRef.binary (.of main_call4_v5 : TRef sig ⟨S4096x1, .i32⟩) (.of main_call4_v6 : TRef sig ⟨S4096x1, .i32⟩) (.of main_call4_v7 : TRef sig ⟨S4096x1, .i1⟩) (cmpi .sge),
    TRef.unary (.of main_call4_c_1 : TRef sig ⟨S1, .i32⟩) (.of main_call4_v8 : TRef sig ⟨S1x1, .i32⟩) (broadcastInDim S1x1 ![1] bcast_S1_S1x1_1),
    TRef.unary (.of main_call4_v8 : TRef sig ⟨S1x1, .i32⟩) (.of main_call4_v9 : TRef sig ⟨S4096x1, .i32⟩) (broadcastInDim S4096x1 ![0, 1] bcast_S1x1_S4096x1_0_1),
    TRef.binary (.of main_call4_v5 : TRef sig ⟨S4096x1, .i32⟩) (.of main_call4_v9 : TRef sig ⟨S4096x1, .i32⟩) (.of main_call4_v10 : TRef sig ⟨S4096x1, .i1⟩) (cmpi .sle),
    TRef.binary (.of main_call4_v7 : TRef sig ⟨S4096x1, .i1⟩) (.of main_call4_v10 : TRef sig ⟨S4096x1, .i1⟩) (.of main_call4_v11 : TRef sig ⟨S4096x1, .i1⟩) andi,
    TRef.nullary (.of main_call4_c_3 : TRef sig ⟨S_, .i1⟩) (constantI S_ 1 1#1),
    TRef.binary (.of main_call4_v11 : TRef sig ⟨S4096x1, .i1⟩) (.of main_call4_c_3 : TRef sig ⟨S_, .i1⟩) (.of main_call4_v12 : TRef sig ⟨S4096, .i1⟩) (fun x v => Host.reduce IntOp.andi x v reducesTo_S4096x1_S4096_d1 h_S_),
    TRef.binary (.of main_arg1 : TRef sig ⟨S4096x51x64, .f32⟩) (.of main_call4_v5 : TRef sig ⟨S4096x1, .i32⟩) (.of main_call4_v13 : TRef sig ⟨S4096x51x64, .f32⟩) (fun x i => Host.gather gather_S4096x51x64_S4096x1_S4096x51x64_12_0_n_n_0_1_15164 x i),
    TRef.unary (.of main_call4_v12 : TRef sig ⟨S4096, .i1⟩) (.of main_call4_v14 : TRef sig ⟨S4096x51x64, .i1⟩) (broadcastInDim S4096x51x64 ![0] bcast_S4096_S4096x51x64_0),
    TRef.nullary (.of main_call4_cst : TRef sig ⟨S_, .f32⟩) (constant S_ .f32 0x7FC00000#32),
    TRef.unary (.of main_call4_cst : TRef sig ⟨S_, .f32⟩) (.of main_call4_v15 : TRef sig ⟨S4096x51x64, .f32⟩) (broadcastInDim S4096x51x64 ![] bcast_S_S4096x51x64),
    TRef.ternary (.of main_call4_v14 : TRef sig ⟨S4096x51x64, .i1⟩) (.of main_call4_v13 : TRef sig ⟨S4096x51x64, .f32⟩) (.of main_call4_v15 : TRef sig ⟨S4096x51x64, .f32⟩) (.of main_v68 : TRef sig ⟨S4096x51x64, .f32⟩) select ]

/-- The result: `%69`, `%70`. -/
abbrev refL : List (HloOp τ sig (Elt F)) :=
  [ unary main_v67 main_v69 (broadcastInDim S4096x1x64 ![0, 2] bcast_S4096x64_S4096x1x64_0_2 : (⟨S4096x64, .f32⟩ : BufTy).Contents (Elt F) → (⟨S4096x1x64, .f32⟩ : BufTy).Contents (Elt F)),
    binary main_v68 main_v69 main_v70 ((fun a b => concatenate S4096x52x64 1 [⟨S4096x51x64, a⟩, ⟨S4096x1x64, b⟩] concatenates_S4096x51x64_S4096x1x64_S4096x52x64_d1) : (⟨S4096x51x64, .f32⟩ : BufTy).Contents (Elt F) → (⟨S4096x1x64, .f32⟩ : BufTy).Contents (Elt F) → (⟨S4096x52x64, .f32⟩ : BufTy).Contents (Elt F)) ]

/-- The whole line. -/
abbrev ops : List (HloOp τ sig (Elt F)) :=
  refA ++ (refB ++ (refC ++ (refD ++ (refE ++ (refF0 ++ (refF1 ++ (refG ++ (refH ++ (refI ++ (refJ ++ (refK ++ refL)))))))))))

set_option maxHeartbeats 40000000 in
/-- `main` is that line. -/
theorem main_eq (c : Dev nD) : main (F := F) c = seq ops := by
  chain_rfl

/-! ## What the line touches -/

/-- The arguments. -/
abbrev argRefs : List (Ref sig .tc) :=
  [main_arg0, main_arg1, main_arg2, main_arg3, main_arg4, main_arg5, main_arg6, main_arg7, main_arg8, main_arg9, main_arg10,
    main_arg11, main_arg12, main_arg13]

/-- An operation that touches the core's references only, determines its results, and writes one reference that is no argument. -/
structure Plain (op : HloOp τ sig (Elt F)) : Prop where
  bufs : op.bufs ⊆ tcRefs τ sig
  fresh : op.fresh = ∅
  writes : ∃ y : Ref sig .tc, op.writes = {Proc.devRef .tc y} ∧ y ∉ argRefs

/-- A line of such operations. -/
def Stage (l : List (HloOp τ sig (Elt F))) : Prop := ∀ op ∈ l, Plain op

section
variable {l k : List (HloOp τ sig (Elt F))} {x a b c e y : Ref sig .tc}

theorem Stage.nil : Stage ([] : List (HloOp τ sig (Elt F))) := fun _ h => absurd h List.not_mem_nil
theorem Stage.cons {o : HloOp τ sig (Elt F)} (h : Plain o) (hl : Stage l) : Stage (o :: l) :=
  List.forall_mem_cons.mpr ⟨h, hl⟩
theorem Stage.append (hl : Stage l) (hk : Stage k) : Stage (l ++ k) := List.forall_mem_append.mpr ⟨hl, hk⟩

theorem Stage.nullary {v hy} (n : y ∉ argRefs) (hl : Stage l) : Stage (nullary y v hy :: l) :=
  .cons ⟨nullary_bufs_sub .., rfl, y, rfl, n⟩ hl
theorem Stage.unary {f hx hy} (n : y ∉ argRefs) (hl : Stage l) : Stage (unary x y f hx hy :: l) :=
  .cons ⟨unary_bufs_sub .., rfl, y, rfl, n⟩ hl
theorem Stage.reshape {he hn hx hy} (n : y ∉ argRefs) (hl : Stage l) : Stage (reshape x y he hn hx hy :: l) :=
  .cons ⟨reshape_bufs_sub .., rfl, y, rfl, n⟩ hl
theorem Stage.binary {f ha hb hy} (n : y ∉ argRefs) (hl : Stage l) : Stage (binary a b y f ha hb hy :: l) :=
  .cons ⟨binary_bufs_sub .., rfl, y, rfl, n⟩ hl
theorem Stage.ternary {f hc ha hb hy} (n : y ∉ argRefs) (hl : Stage l) : Stage (ternary c a b y f hc ha hb hy :: l) :=
  .cons ⟨ternary_bufs_sub .., rfl, y, rfl, n⟩ hl
theorem Stage.quaternary {f ha hb hc he hy} (n : y ∉ argRefs) (hl : Stage l) :
    Stage (quaternary a b c e y f ha hb hc he hy :: l) :=
  .cons ⟨quaternary_bufs_sub .., rfl, y, rfl, n⟩ hl

end

set_option maxHeartbeats 4000000 in
theorem ops_stage : Stage (ops : List (HloOp τ sig (Elt F))) := by
  repeat' refine Stage.append ?_ ?_
  all_goals
    repeat (first
      | exact Stage.nil
      | refine Stage.nullary (by decide +kernel) ?_
      | refine Stage.unary (by decide +kernel) ?_
      | refine Stage.binary (by decide +kernel) ?_
      | refine Stage.reshape (by decide +kernel) ?_
      | refine Stage.ternary (by decide +kernel) ?_
      | refine Stage.quaternary (by decide +kernel) ?_)

/-- The line leaves an argument as it was. -/
theorem after_arg (V : Valuation τ sig (Elt F)) {r : Ref sig .tc} (hr : r ∈ argRefs) :
    after ops V (Proc.devRef .tc r) = V (Proc.devRef .tc r) :=
  after_of_forall_not_mem _ V fun op hop hb => by
    obtain ⟨y, hw, hy⟩ := (ops_stage op hop).writes
    rw [hw, Finset.mem_singleton] at hb
    exact hy (Proc.devRef_injective _ hb ▸ hr)

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every core's every reference ends at what the line leaves there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq
    (fun _ => List.forall_iff_forall_mem.mpr fun op h => (ops_stage op h).bufs) m ρ (fun _ op h => (ops_stage op h).fresh)

/-- An argument ends as it was launched. -/
theorem arg_eq {m : (ℓ : Loc nD τ sig) → Buf (Elt F) ℓ} {r : PUnit × MemSt nD τ sig (Elt F)}
    (h : ∀ (c : Dev nD) (b : Ref sig .tc), r.2.mem ((c.tc : Thread nD τ).loc b) = after ops (launchContents m c) (Proc.devRef .tc b))
    (c : Dev nD) {b : Ref sig .tc} (hb : b ∈ argRefs) : r.2.mem ((c.tc : Thread nD τ).loc b) = m ((c.tc : Thread nD τ).loc b) :=
  (h c b).trans (after_arg _ hb)

/-- The program declares no counter. -/
theorem sem_eq (s : MemSt nD τ sig (Elt F)) : s.sem = fun _ => 0 := sem_eq_zero_of_no_sems (by decide) s

end Cert.Proof.Ref

end
-- ==== Proof.Run.lean ====
/-
  The kernel's run: every weakly fair execution ends, and every reference of a core then holds what the chain of
  stretches and launches leaves in it.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Each core ends with the last contents of the chain. -/
theorem run_ends : θ_run defs (onTc (τ := τ) (main (F := F))) ⟨m, fun _ => 0, ρ⟩ fun r =>
    ∀ c : Dev nD, ∀ b ∈ Pipeline.ucRefs τ sig, r.2.mem (((c : Thread nD τ)).1, b) = W12 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

end Cert.KernelIdeal.Gen
-- ==== Proof.Sim.lean ====
/-
  Two straight lines of tensor operations over two signatures, run side by side. `Agree S V1 V2` says that for each
  pair of references listed in `S` the first device's contents and the second's are the same tensor; a step that applies one
  function on both sides to agreeing operands adds its pair of results. So a stretch the two programs share is
  carried across without ever writing its value out.
-/
module

public import Idealize.ShloMosaic.Lib.StableHlo
public import Idealize.ShloMosaic.Lib.StableHlo.Run

@[expose] public section

namespace Cert.Proof

open Idealize.ShloMosaic Idealize.ShloMosaic.StableHlo

variable {τ : Topo} {g1 g2 : RefSig} {Val : EltTy → Type}

/-- The listed pairs of references hold the same tensors on the two sides. -/
def Agree (S : List (Ref g1 .tc × Ref g2 .tc)) (V1 : Valuation τ g1 Val) (V2 : Valuation τ g2 Val) : Prop :=
  ∀ p ∈ S, HEq (V1 (Proc.devRef .tc p.1)) (V2 (Proc.devRef .tc p.2))

/-- From agreement on `S` before, agreement on `T` after the two lines. -/
def Sim (S : List (Ref g1 .tc × Ref g2 .tc)) (l1 : List (HloOp τ g1 Val)) (l2 : List (HloOp τ g2 Val))
    (T : List (Ref g1 .tc × Ref g2 .tc)) : Prop :=
  ∀ V1 V2, Agree S V1 V2 → Agree T (after l1 V1) (after l2 V2)

variable {S T : List (Ref g1 .tc × Ref g2 .tc)} {l1 : List (HloOp τ g1 Val)} {l2 : List (HloOp τ g2 Val)}
  {V1 : Valuation τ g1 Val} {V2 : Valuation τ g2 Val}

/-- Whether two references are one: the same space and the same place in it. -/
def same {g : RefSig} (a b : Ref g .tc) : Bool := decide (a.space = b.space) && Nat.beq a.idx.val b.idx.val

theorem same_iff {g : RefSig} {a b : Ref g .tc} : same a b = true ↔ a = b := by
  constructor
  · intro h
    obtain ⟨s, i, hi⟩ := a
    obtain ⟨t, j, hj⟩ := b
    simp only [same, Bool.and_eq_true, decide_eq_true_eq] at h
    obtain ⟨rfl, h⟩ := h
    have : i = j := Fin.ext (Nat.eq_of_beq_eq_true h)
    subst this
    rfl
  · rintro rfl
    simp only [same, decide_true, Bool.true_and]
    exact Nat.beq_refl _

/-- Whether a reference is none of the first components, or none of the second. -/
abbrev NewL (S : List (Ref g1 .tc × Ref g2 .tc)) (y : Ref g1 .tc) : Prop := S.all (fun p => !same y p.1) = true
@[inherit_doc NewL]
abbrev NewR (S : List (Ref g1 .tc × Ref g2 .tc)) (y : Ref g2 .tc) : Prop := S.all (fun p => !same y p.2) = true
/-- Whether a pair is listed. -/
abbrev Has (S : List (Ref g1 .tc × Ref g2 .tc)) (x1 : Ref g1 .tc) (x2 : Ref g2 .tc) : Prop :=
  S.any (fun p => same x1 p.1 && same x2 p.2) = true
/-- Whether every pair of `T` is listed in `S`. -/
abbrev Within (T S : List (Ref g1 .tc × Ref g2 .tc)) : Prop :=
  T.all (fun q => S.any (fun p => same q.1 p.1 && same q.2 p.2)) = true

theorem NewL.ne {y : Ref g1 .tc} (h : NewL S y) {p} (hp : p ∈ S) : p.1 ≠ y := by
  intro e
  have := List.all_eq_true.mp h p hp
  rw [same_iff.mpr e.symm] at this
  exact absurd this (by decide)
theorem NewR.ne {y : Ref g2 .tc} (h : NewR S y) {p} (hp : p ∈ S) : p.2 ≠ y := by
  intro e
  have := List.all_eq_true.mp h p hp
  rw [same_iff.mpr e.symm] at this
  exact absurd this (by decide)
theorem Has.mem {x1 : Ref g1 .tc} {x2 : Ref g2 .tc} (h : Has S x1 x2) : (x1, x2) ∈ S := by
  obtain ⟨p, hp, he⟩ := List.any_eq_true.mp h
  simp only [Bool.and_eq_true, same_iff] at he
  obtain ⟨rfl, rfl⟩ := he
  exact hp

theorem Agree.get {x1 : Ref g1 .tc} {x2 : Ref g2 .tc} (h : Agree S V1 V2) (hx : Has S x1 x2) :
    HEq (V1 (Proc.devRef .tc x1)) (V2 (Proc.devRef .tc x2)) := h _ hx.mem

theorem Agree.nil : Agree (τ := τ) ([] : List (Ref g1 .tc × Ref g2 .tc)) V1 V2 := fun _ h => absurd h List.not_mem_nil

theorem Agree.cons {x1 : Ref g1 .tc} {x2 : Ref g2 .tc} (hx : HEq (V1 (Proc.devRef .tc x1)) (V2 (Proc.devRef .tc x2)))
    (h : Agree S V1 V2) : Agree ((x1, x2) :: S) V1 V2 := by
  intro p hp
  rcases List.mem_cons.mp hp with rfl | hp
  · exact hx
  · exact h p hp

theorem Agree.mono (h : Agree S V1 V2) (hT : Within T S) : Agree T V1 V2 :=
  fun p hp => h.get (List.all_eq_true.mp hT p hp)

/-- A pair of operations whose result references are fresh keeps the agreement and adds the pair of results. -/
theorem Agree.step {o1 : HloOp τ g1 Val} {o2 : HloOp τ g2 Val} {y1 : Ref g1 .tc} {y2 : Ref g2 .tc}
    (h : Agree S V1 V2) (hw1 : o1.writes = {Proc.devRef .tc y1}) (hw2 : o2.writes = {Proc.devRef .tc y2})
    (hy : HEq (o1.result V1 (Proc.devRef .tc y1)) (o2.result V2 (Proc.devRef .tc y2)))
    (n1 : NewL S y1) (n2 : NewR S y2) : Agree ((y1, y2) :: S) (o1.result V1) (o2.result V2) := by
  refine Agree.cons hy fun p hp => ?_
  rw [result_of_writes_ne o1 V1 y1 p.1 hw1 (n1.ne hp), result_of_writes_ne o2 V2 y2 p.2 hw2 (n2.ne hp)]
  exact h p hp

theorem Sim.refl (hT : Within T S) : Sim (τ := τ) (Val := Val) S [] [] T := fun _ _ h => h.mono hT

theorem Sim.trans {U : List (Ref g1 .tc × Ref g2 .tc)} {k1 : List (HloOp τ g1 Val)} {k2 : List (HloOp τ g2 Val)}
    (a : Sim S l1 l2 T) (b : Sim T k1 k2 U) : Sim S (l1 ++ k1) (l2 ++ k2) U := by
  intro V1 V2 h
  have e : ∀ {g : RefSig} (l k : List (HloOp τ g Val)) (V : Valuation τ g Val), after (l ++ k) V = after k (after l V) := by
    intro g l k
    induction l with
    | nil => intro V; rfl
    | cons o l ih => intro V; exact ih _
  rw [e, e]
  exact b _ _ (a _ _ h)

/-- An operation on the first side alone, writing outside the list. -/
theorem Sim.left {o1 : HloOp τ g1 Val} {y1 : Ref g1 .tc} (hw1 : o1.writes = {Proc.devRef .tc y1}) (n1 : NewL S y1)
    (k : Sim S l1 l2 T) : Sim S (o1 :: l1) l2 T := fun V1 V2 h => k _ _ fun p hp => by
  rw [result_of_writes_ne o1 V1 y1 p.1 hw1 (n1.ne hp)]; exact h p hp

/-- An operation on the second side alone, writing outside the list. -/
theorem Sim.right {o2 : HloOp τ g2 Val} {y2 : Ref g2 .tc} (hw2 : o2.writes = {Proc.devRef .tc y2}) (n2 : NewR S y2)
    (k : Sim S l1 l2 T) : Sim S l1 (o2 :: l2) T := fun V1 V2 h => k _ _ fun p hp => by
  rw [result_of_writes_ne o2 V2 y2 p.2 hw2 (n2.ne hp)]; exact h p hp

/-! ## The builders over typed references -/

section Typed

variable {Tx Ta Tb Tc Ty : BufTy}

theorem ofBuf_heq {g : RefSig} (x : TRef g Tx) (v : x.ref.ty.Contents Val) : HEq (x.ofBuf v) v := cast_heq _ _
theorem toBuf_heq {g : RefSig} (x : TRef g Tx) (v : Tx.Contents Val) : HEq (x.toBuf v) v := cast_heq _ _

theorem ofBuf_eq {x1 : TRef g1 Tx} {x2 : TRef g2 Tx} (h : Agree S V1 V2) (hx : Has S x1.ref x2.ref) :
    x1.ofBuf (V1 (Proc.devRef .tc x1.ref)) = x2.ofBuf (V2 (Proc.devRef .tc x2.ref)) :=
  eq_of_heq (((ofBuf_heq x1 _).trans (h.get hx)).trans (ofBuf_heq x2 _).symm)

theorem toBuf_congr {y1 : TRef g1 Ty} {y2 : TRef g2 Ty} {v w : Ty.Contents Val} (h : v = w) :
    HEq (y1.toBuf v) (y2.toBuf w) := h ▸ (toBuf_heq y1 v).trans (toBuf_heq y2 v).symm

theorem Sim.tnullary {y1 : TRef g1 Ty} {y2 : TRef g2 Ty} {v1 v2 : Ty.Contents Val} (hv : v1 = v2)
    (n1 : NewL S y1.ref) (n2 : NewR S y2.ref) (k : Sim ((y1.ref, y2.ref) :: S) l1 l2 T) :
    Sim S (TRef.nullary y1 v1 :: l1) (TRef.nullary y2 v2 :: l2) T := fun V1 V2 h => k _ _ <|
  h.step rfl rfl (by rw [nullary_result, nullary_result]; exact toBuf_congr hv) n1 n2

theorem Sim.tunary {x1 : TRef g1 Tx} {x2 : TRef g2 Tx} {y1 : TRef g1 Ty} {y2 : TRef g2 Ty}
    {f1 f2 : Tx.Contents Val → Ty.Contents Val} (hx : Has S x1.ref x2.ref) (hf : f1 = f2)
    (n1 : NewL S y1.ref) (n2 : NewR S y2.ref) (k : Sim ((y1.ref, y2.ref) :: S) l1 l2 T) :
    Sim S (TRef.unary x1 y1 f1 :: l1) (TRef.unary x2 y2 f2 :: l2) T := fun V1 V2 h => k _ _ <|
  h.step rfl rfl (by rw [unary_result, unary_result]; exact toBuf_congr (by rw [hf, ofBuf_eq h hx])) n1 n2

theorem Sim.tbinary {a1 : TRef g1 Ta} {a2 : TRef g2 Ta} {b1 : TRef g1 Tb} {b2 : TRef g2 Tb} {y1 : TRef g1 Ty} {y2 : TRef g2 Ty}
    {f1 f2 : Ta.Contents Val → Tb.Contents Val → Ty.Contents Val} (ha : Has S a1.ref a2.ref) (hb : Has S b1.ref b2.ref)
    (hf : f1 = f2) (n1 : NewL S y1.ref) (n2 : NewR S y2.ref) (k : Sim ((y1.ref, y2.ref) :: S) l1 l2 T) :
    Sim S (TRef.binary a1 b1 y1 f1 :: l1) (TRef.binary a2 b2 y2 f2 :: l2) T := fun V1 V2 h => k _ _ <|
  h.step rfl rfl (by rw [binary_result, binary_result]; exact toBuf_congr (by rw [hf, ofBuf_eq h ha, ofBuf_eq h hb])) n1 n2

theorem Sim.tternary {c1 : TRef g1 Tc} {c2 : TRef g2 Tc} {a1 : TRef g1 Ta} {a2 : TRef g2 Ta} {b1 : TRef g1 Tb} {b2 : TRef g2 Tb}
    {y1 : TRef g1 Ty} {y2 : TRef g2 Ty}
    {f1 f2 : Tc.Contents Val → Ta.Contents Val → Tb.Contents Val → Ty.Contents Val} (hc : Has S c1.ref c2.ref)
    (ha : Has S a1.ref a2.ref) (hb : Has S b1.ref b2.ref)
    (hf : f1 = f2) (n1 : NewL S y1.ref) (n2 : NewR S y2.ref) (k : Sim ((y1.ref, y2.ref) :: S) l1 l2 T) :
    Sim S (TRef.ternary c1 a1 b1 y1 f1 :: l1) (TRef.ternary c2 a2 b2 y2 f2 :: l2) T := fun V1 V2 h => k _ _ <|
  h.step rfl rfl (by
    rw [ternary_result, ternary_result]
    exact toBuf_congr (by rw [hf, ofBuf_eq h hc, ofBuf_eq h ha, ofBuf_eq h hb])) n1 n2

end Typed

/-! ## The builders over plain references

The two sides' references have the same buffer types, but not by syntax: the functions are compared across types. -/

section Plain

theorem Sim.nullary {y1 : Ref g1 .tc} {y2 : Ref g2 .tc} {v1 : y1.ty.Contents Val} {v2 : y2.ty.Contents Val} {hy1 hy2}
    (hv : HEq v1 v2) (n1 : NewL S y1) (n2 : NewR S y2) (k : Sim ((y1, y2) :: S) l1 l2 T) :
    Sim S (StableHlo.nullary y1 v1 hy1 :: l1) (StableHlo.nullary y2 v2 hy2 :: l2) T := fun V1 V2 h => k _ _ <|
  h.step rfl rfl (by rw [nullary_result, nullary_result]; exact hv) n1 n2

theorem heq_app {A A' B B' : Type} {f : A → B} {f' : A' → B'} {x : A} {x' : A'} (hB : B = B') (hf : HEq f f') (hx : HEq x x') :
    HEq (f x) (f' x') := by
  have hA : A = A' := type_eq_of_heq hx
  subst hA; subst hB
  rw [eq_of_heq hf, eq_of_heq hx]

theorem Sim.unary {x1 y1 : Ref g1 .tc} {x2 y2 : Ref g2 .tc} {f1 : x1.ty.Contents Val → y1.ty.Contents Val}
    {f2 : x2.ty.Contents Val → y2.ty.Contents Val} {hx1 hy1 hx2 hy2} (hx : Has S x1 x2)
    (ht : y1.ty = y2.ty) (hf : HEq f1 f2)
    (n1 : NewL S y1) (n2 : NewR S y2) (k : Sim ((y1, y2) :: S) l1 l2 T) :
    Sim S (StableHlo.unary x1 y1 f1 hx1 hy1 :: l1) (StableHlo.unary x2 y2 f2 hx2 hy2 :: l2) T := fun V1 V2 h => k _ _ <|
  h.step rfl rfl (by
    rw [unary_result, unary_result]
    exact heq_app (congrArg (fun U : BufTy => U.Contents Val) ht) hf (h.get hx)) n1 n2

theorem Sim.binary {a1 b1 y1 : Ref g1 .tc} {a2 b2 y2 : Ref g2 .tc}
    {f1 : a1.ty.Contents Val → b1.ty.Contents Val → y1.ty.Contents Val}
    {f2 : a2.ty.Contents Val → b2.ty.Contents Val → y2.ty.Contents Val} {ha1 hb1 hy1 ha2 hb2 hy2}
    (ha : Has S a1 a2) (hb : Has S b1 b2) (hu : b1.ty = b2.ty) (ht : y1.ty = y2.ty) (hf : HEq f1 f2)
    (n1 : NewL S y1) (n2 : NewR S y2) (k : Sim ((y1, y2) :: S) l1 l2 T) :
    Sim S (StableHlo.binary a1 b1 y1 f1 ha1 hb1 hy1 :: l1) (StableHlo.binary a2 b2 y2 f2 ha2 hb2 hy2 :: l2) T :=
  fun V1 V2 h => k _ _ <| h.step rfl rfl (by
    rw [binary_result, binary_result]
    exact heq_app (congrArg (fun U : BufTy => U.Contents Val) ht)
      (heq_app (congrArg₂ (fun U W : BufTy => (U.Contents Val → W.Contents Val)) hu ht) hf (h.get ha)) (h.get hb)) n1 n2

theorem reshape_heq {A1 A2 B1 B2 : BufTy} (hu : A1 = A2) (ht : B1 = B2) (he1 : A1.elt = B1.elt)
    (hn1 : A1.shape.ShapeCasts B1.shape) (he2 : A2.elt = B2.elt) (hn2 : A2.shape.ShapeCasts B2.shape)
    (v : A1.Contents Val) (w : A2.Contents Val) (hv : HEq v w) :
    HEq (fun i : B1.shape.Idx => (he1 ▸ shapeCast B1.shape v hn1 i : Val B1.elt))
      (fun i : B2.shape.Idx => (he2 ▸ shapeCast B2.shape w hn2 i : Val B2.elt)) := by
  subst hu; subst ht
  rw [eq_of_heq hv]

theorem Sim.reshape {x1 y1 : Ref g1 .tc} {x2 y2 : Ref g2 .tc} {he1 hn1 hx1 hy1 he2 hn2 hx2 hy2} (hx : Has S x1 x2)
    (hu : x1.ty = x2.ty) (ht : y1.ty = y2.ty)
    (n1 : NewL S y1) (n2 : NewR S y2) (k : Sim ((y1, y2) :: S) l1 l2 T) :
    Sim S (StableHlo.reshape x1 y1 he1 hn1 hx1 hy1 :: l1) (StableHlo.reshape x2 y2 he2 hn2 hx2 hy2 :: l2) T :=
  fun V1 V2 h => k _ _ <| h.step rfl rfl (by
    rw [reshape_result, reshape_result]
    exact reshape_heq (A1 := x1.ty) (A2 := x2.ty) (B1 := y1.ty) (B2 := y2.ty) hu ht he1 hn1 he2 hn2 _ _ (h.get hx)) n1 n2

end Plain

end Cert.Proof
-- ==== Proof.Read.lean ====
/-
  One straight line of tensor operations, read value by value. `Knows S V` says that each reference listed in `S` holds the
  value listed with it; a step adds its result, the function of the operands' listed values. So a line's last values are
  written out once, without the contents of the whole device at each step.
-/
module

public import proofs.«01_k».proof.Proof.Sim

@[expose] public section

namespace Cert.Proof

open Idealize.ShloMosaic Idealize.ShloMosaic.StableHlo

variable {τ : Topo} {g : RefSig} {Val : EltTy → Type}

/-- A reference with a value of its type. -/
abbrev Held (g : RefSig) (Val : EltTy → Type) := (y : Ref g .tc) × y.ty.Contents Val

/-- The listed references hold the values listed with them. -/
def Knows (S : List (Held g Val)) (V : Valuation τ g Val) : Prop := ∀ p ∈ S, V (Proc.devRef .tc p.1) = p.2

/-- From the values listed in `S` before, the values listed in `T` after the line. -/
def Reads (S : List (Held g Val)) (l : List (HloOp τ g Val)) (T : List (Held g Val)) : Prop :=
  ∀ V, Knows S V → Knows T (after l V)

variable {S T : List (Held g Val)} {l : List (HloOp τ g Val)} {V : Valuation τ g Val}

/-- Whether a reference is none of those listed. -/
abbrev Fresh (S : List (Held g Val)) (y : Ref g .tc) : Prop := S.all (fun p => !same y p.1) = true

theorem Fresh.ne {y : Ref g .tc} (h : Fresh S y) {p} (hp : p ∈ S) : p.1 ≠ y := by
  intro e
  have := List.all_eq_true.mp h p hp
  rw [same_iff.mpr e.symm] at this
  exact absurd this (by decide)

theorem Knows.cons {y : Ref g .tc} {v : y.ty.Contents Val} (hy : V (Proc.devRef .tc y) = v) (h : Knows S V) :
    Knows (⟨y, v⟩ :: S) V := by
  intro p hp
  rcases List.mem_cons.mp hp with rfl | hp
  · exact hy
  · exact h p hp

theorem Knows.nil : Knows ([] : List (Held g Val)) V := fun _ h => absurd h List.not_mem_nil

/-- An operation with one fresh result adds it. -/
theorem Knows.step {o : HloOp τ g Val} {y : Ref g .tc} {v : y.ty.Contents Val} (h : Knows S V)
    (hw : o.writes = {Proc.devRef .tc y}) (hy : o.result V (Proc.devRef .tc y) = v) (n : Fresh S y) :
    Knows (⟨y, v⟩ :: S) (o.result V) := by
  refine Knows.cons hy fun p hp => ?_
  rw [result_of_writes_ne o V y p.1 hw (n.ne hp)]
  exact h p hp

theorem Reads.refl (h : ∀ p ∈ T, p ∈ S) : Reads (τ := τ) S [] T := fun _ hV p hp => hV p (h p hp)

/-- The values read are listed one by one. -/
theorem sub_cons {p : Held g Val} (hp : p ∈ S) (h : ∀ q ∈ T, q ∈ S) : ∀ q ∈ p :: T, q ∈ S := by
  intro q hq
  rcases List.mem_cons.mp hq with rfl | hq
  · exact hp
  · exact h q hq
theorem sub_nil : ∀ q ∈ ([] : List (Held g Val)), q ∈ S := fun _ h => absurd h List.not_mem_nil

theorem Reads.nullary {y : Ref g .tc} {v : y.ty.Contents Val} {hy} (n : Fresh S y) (k : Reads (⟨y, v⟩ :: S) l T) :
    Reads S (StableHlo.nullary y v hy :: l) T := fun V h => k _ (h.step rfl (nullary_result y v hy V) n)

theorem Reads.unary {x y : Ref g .tc} {f : x.ty.Contents Val → y.ty.Contents Val} {hx hy} {vx : x.ty.Contents Val}
    (mx : (⟨x, vx⟩ : Held g Val) ∈ S) (n : Fresh S y) (k : Reads (⟨y, f vx⟩ :: S) l T) :
    Reads S (StableHlo.unary x y f hx hy :: l) T := fun V h => k _ (h.step rfl (by
      rw [unary_result]; exact congrArg f (h _ mx)) n)

theorem Reads.binary {a b y : Ref g .tc} {f : a.ty.Contents Val → b.ty.Contents Val → y.ty.Contents Val} {ha hb hy}
    {va : a.ty.Contents Val} {vb : b.ty.Contents Val} (ma : (⟨a, va⟩ : Held g Val) ∈ S) (mb : (⟨b, vb⟩ : Held g Val) ∈ S)
    (n : Fresh S y) (k : Reads (⟨y, f va vb⟩ :: S) l T) :
    Reads S (StableHlo.binary a b y f ha hb hy :: l) T := fun V h => k _ (h.step rfl (by
      rw [binary_result]; exact congrArg₂ f (h _ ma) (h _ mb)) n)

theorem Reads.reshape {x y : Ref g .tc} {he : x.ty.elt = y.ty.elt} {hn hx hy} {vx : x.ty.Contents Val} (mx : (⟨x, vx⟩ : Held g Val) ∈ S)
    (n : Fresh S y) (k : Reads (⟨y, fun i => (he ▸ shapeCast y.ty.shape vx hn i : Val y.ty.elt)⟩ :: S) l T) :
    Reads S (StableHlo.reshape x y he hn hx hy :: l) T := fun V h => k _ (h.step rfl (by
      rw [reshape_result, show V (Proc.devRef .tc x) = vx from h _ mx]) n)

theorem Reads.quaternary {a b c e y : Ref g .tc}
    {f : a.ty.Contents Val → b.ty.Contents Val → c.ty.Contents Val → e.ty.Contents Val → y.ty.Contents Val} {ha hb hc he hy}
    {va : a.ty.Contents Val} {vb : b.ty.Contents Val} {vc : c.ty.Contents Val} {ve : e.ty.Contents Val}
    (ma : (⟨a, va⟩ : Held g Val) ∈ S) (mb : (⟨b, vb⟩ : Held g Val) ∈ S) (mc : (⟨c, vc⟩ : Held g Val) ∈ S)
    (me : (⟨e, ve⟩ : Held g Val) ∈ S) (n : Fresh S y) (k : Reads (⟨y, f va vb vc ve⟩ :: S) l T) :
    Reads S (StableHlo.quaternary a b c e y f ha hb hc he hy :: l) T := fun V h => k _ (h.step rfl (by
      rw [quaternary_result, show V (Proc.devRef .tc a) = va from h _ ma, show V (Proc.devRef .tc b) = vb from h _ mb,
        show V (Proc.devRef .tc c) = vc from h _ mc, show V (Proc.devRef .tc e) = ve from h _ me]) n)

/-- An operation that writes outside the list. -/
theorem Reads.skip {o : HloOp τ g Val} {y : Ref g .tc} (hw : o.writes = {Proc.devRef .tc y}) (n : Fresh S y)
    (k : Reads S l T) : Reads S (o :: l) T := fun V h => k _ fun p hp => by
  rw [result_of_writes_ne o V y p.1 hw (n.ne hp)]; exact h p hp

end Cert.Proof
-- ==== Proof.RefVal.lean ====
/-
  The values of the reference's encoder, its two heads and its choice of index, written out.
-/
module

public import proofs.«01_k».proof.Proof.Read
public import proofs.«01_k».proof.Proof.RefRun

@[expose] public section

set_option maxRecDepth 8000

noncomputable section

namespace Cert.Proof.Ref

open Idealize.ShloMosaic Idealize.ShloMosaic.StableHlo
open Cert.ReferenceIdeal Cert.ReferenceIdeal.Gen

variable {F : FTy → Type} [FloatOps F]

/-- The encoder's features of each row. -/
def feat (x : FVec F S4096x3264 .f32) (w : FVec F S3264x512 .f32) (b : FVec F S512 .f32) (w' : FVec F S512x64 .f32)
    (b' : FVec F S64 .f32) : FVec F S4096x64 .f32 :=
  addf (Host.dotGeneral dot_S4096x512_S512x64_S4096x64_1_0_0_1_n_n none
      (Host.tanh (addf (Host.dotGeneral dot_S4096x3264_S3264x512_S4096x512_1_0_0_1_n_n none x w)
        (broadcastInDim S4096x512 ![0, 1] bcast_S1x512_S4096x512_0_1 (broadcastInDim S1x512 ![1] bcast_S512_S1x512_1 b)))) w')
    (broadcastInDim S4096x64 ![0, 1] bcast_S1x64_S4096x64_0_1 (broadcastInDim S1x64 ![1] bcast_S64_S1x64_1 b'))

/-- A head's hidden layer. -/
def hidden (u : FVec F S4096x64 .f32) (w : FVec F S64x256 .f32) (b : FVec F S256 .f32) : FVec F S4096x256 .f32 :=
  Host.tanh (addf (Host.dotGeneral dot_S4096x64_S64x256_S4096x256_1_0_0_1_n_n none u w)
    (broadcastInDim S4096x256 ![0, 1] bcast_S1x256_S4096x256_0_1 (broadcastInDim S1x256 ![1] bcast_S256_S1x256_1 b)))

/-- The mean head. -/
def mean (u : FVec F S4096x64 .f32) (w : FVec F S64x256 .f32) (b : FVec F S256 .f32) (w' : FVec F S256x128 .f32)
    (b' : FVec F S128 .f32) : FVec F S4096x128 .f32 :=
  addf (Host.dotGeneral dot_S4096x256_S256x128_S4096x128_1_0_0_1_n_n none (hidden u w b) w')
    (broadcastInDim S4096x128 ![0, 1] bcast_S1x128_S4096x128_0_1 (broadcastInDim S1x128 ![1] bcast_S128_S1x128_1 b'))

/-- The logit head. -/
def logit (u : FVec F S4096x64 .f32) (w : FVec F S64x256 .f32) (b : FVec F S256 .f32) (w' : FVec F S256x1 .f32)
    (b' : FVec F S1 .f32) : FVec F S4096x1 .f32 :=
  addf (Host.dotGeneral dot_S4096x256_S256x1_S4096x1_1_0_0_1_n_n none (hidden u w b) w')
    (broadcastInDim S4096x1 ![0, 1] bcast_S1x1_S4096x1_0_1 (broadcastInDim S1x1 ![1] bcast_S1_S1x1_1 b'))

/-- The scores: the noise table plus the weights' logarithms along every row. -/
def score (n : FVec F S4096x4096 .f32) (w : FVec F S4096 .f32) : FVec F S4096x4096 .f32 :=
  addf n (broadcastInDim S4096x4096 ![0, 1] bcast_S1x4096_S4096x4096_0_1 (broadcastInDim S1x4096 ![1] bcast_S4096_S1x4096_1 w))

/-- The positions an arg-max ends with. -/
def positions {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) : IVec t 32 :=
  fun j => (Host.argReduce f x y ix iy h hu j).2

/-- The position of each row's largest score. -/
def pick (s : FVec F S4096x4096 .f32) : IVec S4096 32 :=
  positions reducer_argmax_f32_i32 s (iotaInDim S4096x4096 32 1) (constant S_ .f32 0xFF800000#32) (constantI S_ 32 0#32)
    reducesTo_S4096x4096_S4096_d1 h_S_

abbrev H (F : FTy → Type) := Held sig (Elt F)

variable (x0 : FVec F S1x128 .f32) (x1 : FVec F S4096x51x64 .f32) (x2 : FVec F S3264x512 .f32) (x3 : FVec F S512 .f32)
  (x4 : FVec F S512x64 .f32) (x5 : FVec F S64 .f32) (x6 : FVec F S64x256 .f32) (x7 : FVec F S256 .f32) (x8 : FVec F S256x1 .f32)
  (x9 : FVec F S1 .f32) (x10 : FVec F S64x256 .f32) (x11 : FVec F S256 .f32) (x12 : FVec F S256x128 .f32) (x13 : FVec F S128 .f32)
  (u : FVec F S4096x64 .f32) (n : FVec F S4096x4096 .f32) (w : FVec F S4096 .f32)

set_option backward.isDefEq.respectTransparency.types false in
set_option maxHeartbeats 4000000 in
/-- The encoder and the mean head. -/
theorem reads_heads : Reads (τ := τ)
    [(⟨main_arg0, x0⟩ : H F), ⟨main_arg1, x1⟩, ⟨main_arg2, x2⟩, ⟨main_arg3, x3⟩, ⟨main_arg4, x4⟩, ⟨main_arg5, x5⟩,
      ⟨main_arg10, x10⟩, ⟨main_arg11, x11⟩, ⟨main_arg12, x12⟩, ⟨main_arg13, x13⟩]
    refA
    [(⟨main_v9, feat (shapeCast S4096x3264 x1 shapeCasts_S4096x51x64_S4096x3264) x2 x3 x4 x5⟩ : H F),
      ⟨main_v18, mean (feat (shapeCast S4096x3264 x1 shapeCasts_S4096x51x64_S4096x3264) x2 x3 x4 x5) x10 x11 x12 x13⟩,
      ⟨main_arg0, x0⟩, ⟨main_arg1, x1⟩] := by
  dsimp only [refA]
  repeat first
    | (with_reducible refine Reads.unary (by repeat (first | exact List.mem_cons_self | apply List.mem_cons_of_mem)) ?_ ?_) <;> [(show (_ : Bool) = _; chain_rfl); skip]
    | (with_reducible refine Reads.binary (by repeat (first | exact List.mem_cons_self | apply List.mem_cons_of_mem)) (by repeat (first | exact List.mem_cons_self | apply List.mem_cons_of_mem)) ?_ ?_) <;> [(show (_ : Bool) = _; chain_rfl); skip]
    | (with_reducible refine Reads.reshape (by repeat (first | exact List.mem_cons_self | apply List.mem_cons_of_mem)) ?_ ?_) <;> [(show (_ : Bool) = _; chain_rfl); skip]
  refine Reads.refl ?_
  repeat (first | exact sub_nil | refine sub_cons (by repeat (first | exact List.mem_cons_self | apply List.mem_cons_of_mem)) ?_)

set_option backward.isDefEq.respectTransparency.types false in
set_option maxHeartbeats 4000000 in
/-- The logit head. -/
theorem reads_logit : Reads (τ := τ)
    [(⟨main_v9, u⟩ : H F), ⟨main_arg6, x6⟩, ⟨main_arg7, x7⟩, ⟨main_arg8, x8⟩, ⟨main_arg9, x9⟩]
    refC
    [(⟨main_v36, logit u x6 x7 x8 x9⟩ : H F)] := by
  dsimp only [refC]
  repeat first
    | (with_reducible refine Reads.unary (by repeat (first | exact List.mem_cons_self | apply List.mem_cons_of_mem)) ?_ ?_) <;> [(show (_ : Bool) = _; chain_rfl); skip]
    | (with_reducible refine Reads.binary (by repeat (first | exact List.mem_cons_self | apply List.mem_cons_of_mem)) (by repeat (first | exact List.mem_cons_self | apply List.mem_cons_of_mem)) ?_ ?_) <;> [(show (_ : Bool) = _; chain_rfl); skip]
  exact Reads.refl (sub_cons (by repeat (first | exact List.mem_cons_self | apply List.mem_cons_of_mem)) sub_nil)

set_option backward.isDefEq.respectTransparency.types false in
set_option maxHeartbeats 4000000 in
/-- The scores. -/
theorem reads_score : Reads (τ := τ)
    [(⟨main_v62, n⟩ : H F), ⟨main_v61, w⟩]
    refH
    [(⟨main_v65, score n w⟩ : H F)] := by
  dsimp only [refH]
  repeat first
    | (with_reducible refine Reads.unary (by repeat (first | exact List.mem_cons_self | apply List.mem_cons_of_mem)) ?_ ?_) <;> [(show (_ : Bool) = _; chain_rfl); skip]
    | (with_reducible refine Reads.binary (by repeat (first | exact List.mem_cons_self | apply List.mem_cons_of_mem)) (by repeat (first | exact List.mem_cons_self | apply List.mem_cons_of_mem)) ?_ ?_) <;> [(show (_ : Bool) = _; chain_rfl); skip]
  exact Reads.refl (sub_cons (by repeat (first | exact List.mem_cons_self | apply List.mem_cons_of_mem)) sub_nil)

set_option backward.isDefEq.respectTransparency.types false in
set_option maxHeartbeats 4000000 in
/-- The choice of index. -/
theorem reads_pick (s : FVec F S4096x4096 .f32) : Reads (τ := τ) [(⟨main_v65, s⟩ : H F)] refI [(⟨main_v66, pick s⟩ : H F)] := by
  refine Reads.nullary (by show (_ : Bool) = _; chain_rfl) ?_
  refine Reads.nullary (by show (_ : Bool) = _; chain_rfl) ?_
  refine Reads.nullary (by show (_ : Bool) = _; chain_rfl) ?_
  refine Reads.skip rfl (by show (_ : Bool) = _; chain_rfl) ?_
  refine Reads.quaternary (va := s) (vb := iotaInDim S4096x4096 32 1) (vc := (constant S_ .f32 0xFF800000#32 : FVec F S_ .f32)) (ve := constantI S_ 32 0#32) (by repeat (first | exact List.mem_cons_self | apply List.mem_cons_of_mem)) (by repeat (first | exact List.mem_cons_self | apply List.mem_cons_of_mem)) (by repeat (first | exact List.mem_cons_self | apply List.mem_cons_of_mem)) (by repeat (first | exact List.mem_cons_self | apply List.mem_cons_of_mem)) (by show (_ : Bool) = _; chain_rfl) ?_
  exact Reads.refl (sub_cons (by repeat (first | exact List.mem_cons_self | apply List.mem_cons_of_mem)) sub_nil)

end Cert.Proof.Ref
-- ==== Proof.Layers.lean ====
/-
  The dense layers over blocks of rows. A layer acts on each row of its input alone, so the layer of a block of 512 rows is
  that block of the layer of all 4096 rows: stated once for a layer of any width, then for the kernel's three results.
  All of it at the ideal values, where a matrix product accumulated from zero is the host's product.
-/
module

public import proofs.«01_k».proof.Proof.RefVal
public import proofs.«01_k».proof.Proof.Gen.KernelIdeal.Skeleton
public import Idealize.ShloMosaic.Lib.KernelVsHost
public import Idealize.ShloMosaic.Lib.StackMember
public import Idealize.ShloMosaic.Lib.MatmulPlain
public import Idealize.ShloMosaic.Lib.ValueIdx
public import Idealize.ShloMosaic.PureOps.Ideal.Laws
public import Idealize.ShloMosaic.Lib.Pipeline.Value

@[expose] public section

noncomputable section

namespace Cert.Proof

open Idealize.ShloMosaic Idealize.ShloMosaic.ValueIdx

variable {α : Type} {k n : Nat}

/-- Row `r` of block `t`, among all the rows. -/
abbrev rowAt (t : Fin 8) (r : Fin 512) : Fin 4096 := ⟨t.val * 512 + r.val, by omega⟩

/-- Block `t` of an array of 4096 rows: its rows from `512 t` on. -/
def rows (t : Fin 8) (X : (⟨2, ![4096, n]⟩ : Shape).Idx → α) : (⟨2, ![512, n]⟩ : Shape).Idx → α :=
  fun i => X (ix2 (rowAt t (i 0)) (i 1))

/-- A row of bias, spread over a block, is the block of the row spread over the whole. -/
theorem bias_rows (t : Fin 8) (b : (⟨1, ![n]⟩ : Shape).Idx → α)
    (h1 : (⟨1, ![n]⟩ : Shape).ShapeCasts ⟨2, ![1, n]⟩) (h2 : (⟨2, ![1, n]⟩ : Shape).Broadcasts ⟨2, ![512, n]⟩)
    (h3 : (⟨1, ![n]⟩ : Shape).BroadcastsInDim ⟨2, ![1, n]⟩ ![1])
    (h4 : (⟨2, ![1, n]⟩ : Shape).BroadcastsInDim ⟨2, ![4096, n]⟩ ![0, 1]) :
    broadcastTo ⟨2, ![512, n]⟩ (shapeCast ⟨2, ![1, n]⟩ b h1) h2
      = rows t (broadcastInDim ⟨2, ![4096, n]⟩ ![0, 1] h4 (broadcastInDim ⟨2, ![1, n]⟩ ![1] h3 b)) := by
  have one : ∀ j : Fin n, j.val = if n = 1 then 0 else j.val := fun j => by
    split
    · have := j.isLt; omega
    · rfl
  funext i
  obtain ⟨r, c, rfl⟩ : ∃ (r : Fin 512) (c : Fin n), i = ix2 r c := ⟨i 0, i 1, eq_ix2 i⟩
  have e1 := broadcastTo_apply (shapeCast ⟨2, ![1, n]⟩ b h1) h2 (ix2 r c) (ix2 (0 : Fin 1) c) (by
    intro a
    match a with
    | ⟨0, _⟩ => rfl
    | ⟨1, _⟩ => exact one c)
  have e2 := shapeCast_apply b h1 (ix2 (0 : Fin 1) c) (ix1 c) (by
    rw [Shape.rowMajor_val_two, Shape.rowMajor_val_one]; show c.val = 0 * n + c.val; omega)
  have e3 := broadcastInDim_apply ![1] h3 b (ix2 (0 : Fin 1) c) (ix1 c) (by
    intro a
    match a with
    | ⟨0, _⟩ => exact one c)
  exact e1.trans (e2.trans (e3.symm.trans
    (broadcastInDim_oneRow_apply h4 (broadcastInDim ⟨2, ![1, n]⟩ ![1] h3 b) (rowAt t r) c).symm))

/-- A matrix product of a block of rows is the block of the product. -/
theorem product_rows (t : Fin 8) (X : FVec Ideal ⟨2, ![4096, k]⟩ .f32) (W : FVec Ideal ⟨2, ![k, n]⟩ .f32) :
    matmul (F := Ideal) (φ₁ := .f32) (φ₂ := .f32) (DotDims.plain 512 k n) none (rows t X) W (constant ⟨2, ![512, n]⟩ .f32 0x00000000#32)
      = rows t (Host.dotGeneral (DotDims.plain 4096 k n) none X W) := by
  rw [matmul_zero_eq_dotGeneral]
  funext i
  obtain ⟨r, c, rfl⟩ : ∃ (r : Fin 512) (c : Fin n), i = ix2 r c := ⟨i 0, i 1, eq_ix2 i⟩
  exact (StackMember.dotGeneral_plain_apply none (rows t X) W r c).trans
    (StackMember.dotGeneral_plain_apply none X W (rowAt t r) c).symm

/-- A row of `n` numbers may be spread over a block and over the whole array. -/
structure Spread (n : Nat) : Prop where
  cast : (⟨1, ![n]⟩ : Shape).ShapeCasts ⟨2, ![1, n]⟩
  block : (⟨2, ![1, n]⟩ : Shape).Broadcasts ⟨2, ![512, n]⟩
  row : (⟨1, ![n]⟩ : Shape).BroadcastsInDim ⟨2, ![1, n]⟩ ![1]
  whole : (⟨2, ![1, n]⟩ : Shape).BroadcastsInDim ⟨2, ![4096, n]⟩ ![0, 1]

/-- A dense layer of a block of rows, as the kernel computes it. -/
def blockLayer (s : Spread n) (Y : FVec Ideal ⟨2, ![512, k]⟩ .f32) (W : FVec Ideal ⟨2, ![k, n]⟩ .f32)
    (b : FVec Ideal ⟨1, ![n]⟩ .f32) : FVec Ideal ⟨2, ![512, n]⟩ .f32 :=
  addf (matmul (φ₁ := .f32) (φ₂ := .f32) (DotDims.plain 512 k n) none Y W (constant ⟨2, ![512, n]⟩ .f32 0x00000000#32))
    (broadcastTo ⟨2, ![512, n]⟩ (shapeCast ⟨2, ![1, n]⟩ b s.cast) s.block)

/-- A dense layer of all the rows, as the reference computes it. -/
def wholeLayer (s : Spread n) (X : FVec Ideal ⟨2, ![4096, k]⟩ .f32) (W : FVec Ideal ⟨2, ![k, n]⟩ .f32)
    (b : FVec Ideal ⟨1, ![n]⟩ .f32) : FVec Ideal ⟨2, ![4096, n]⟩ .f32 :=
  addf (Host.dotGeneral (DotDims.plain 4096 k n) none X W)
    (broadcastInDim ⟨2, ![4096, n]⟩ ![0, 1] s.whole (broadcastInDim ⟨2, ![1, n]⟩ ![1] s.row b))

/-- The layer of a block of rows is the block of the layer. -/
theorem layer_rows (s : Spread n) (t : Fin 8) (X : FVec Ideal ⟨2, ![4096, k]⟩ .f32) (W : FVec Ideal ⟨2, ![k, n]⟩ .f32)
    (b : FVec Ideal ⟨1, ![n]⟩ .f32) : blockLayer s (rows t X) W b = rows t (wholeLayer s X W b) := by
  unfold blockLayer wholeLayer
  rw [product_rows, bias_rows t b s.cast s.block s.row s.whole]
  rfl

/-- The hyperbolic tangent of a block is the block of the hyperbolic tangent. -/
theorem tanh_rows (t : Fin 8) (X : FVec Ideal ⟨2, ![4096, n]⟩ .f32) :
    tanh (F := Ideal) (φ := .f32) (rows t X) = rows t (Host.tanh X) := by
  rfl

/-! ## The kernel's three results, block by block -/

section Heads

open Cert.KernelIdeal.Gen (k0_pay1 k0_pay2 k0_pay3 k0_pay4)

theorem spread512 : Spread 512 := ⟨by decide, by decide, by decide, by decide⟩
theorem spread256 : Spread 256 := ⟨by decide, by decide, by decide, by decide⟩
theorem spread128 : Spread 128 := ⟨by decide, by decide, by decide, by decide⟩
theorem spread64 : Spread 64 := ⟨by decide, by decide, by decide, by decide⟩
theorem spread1 : Spread 1 := ⟨by decide, by decide, by decide, by decide⟩

variable (t : Fin 8) (X : FVec Ideal ⟨2, ![4096, 3264]⟩ .f32) (w : FVec Ideal ⟨2, ![3264, 512]⟩ .f32) (b : FVec Ideal ⟨1, ![512]⟩ .f32)
  (w' : FVec Ideal ⟨2, ![512, 64]⟩ .f32) (b' : FVec Ideal ⟨1, ![64]⟩ .f32) (v : FVec Ideal ⟨2, ![64, 256]⟩ .f32)
  (d : FVec Ideal ⟨1, ![256]⟩ .f32)

/-- The features of a block of rows. -/
theorem feat_rows : k0_pay2 (F := Ideal) (rows t X) w b w' b' = rows t (Ref.feat X w b w' b') :=
  calc k0_pay2 (F := Ideal) (rows t X) w b w' b'
      = blockLayer spread64 (tanh (blockLayer spread512 (rows t X) w b)) w' b' := by
        unfold k0_pay2; dsimp only; rw [shapeCast_self]; rfl
    _ = rows t (wholeLayer spread64 (Host.tanh (wholeLayer spread512 X w b)) w' b') := by
        rw [layer_rows, tanh_rows, layer_rows]
    _ = rows t (Ref.feat X w b w' b') := rfl

/-- The means of a block of rows. -/
theorem mean_rows (v' : FVec Ideal ⟨2, ![256, 128]⟩ .f32) (d' : FVec Ideal ⟨1, ![128]⟩ .f32) :
    k0_pay3 (F := Ideal) (rows t X) w b w' b' v d v' d' = rows t (Ref.mean (Ref.feat X w b w' b') v d v' d') :=
  calc k0_pay3 (F := Ideal) (rows t X) w b w' b' v d v' d'
      = blockLayer spread128 (tanh (blockLayer spread256 (k0_pay2 (F := Ideal) (rows t X) w b w' b') v d)) v' d' := rfl
    _ = rows t (wholeLayer spread128 (Host.tanh (wholeLayer spread256 (Ref.feat X w b w' b') v d)) v' d') := by
        rw [feat_rows, layer_rows, tanh_rows, layer_rows]
    _ = rows t (Ref.mean (Ref.feat X w b w' b') v d v' d') := rfl

/-- The logits of a block of rows. -/
theorem logit_rows (v' : FVec Ideal ⟨2, ![256, 1]⟩ .f32) (d' : FVec Ideal ⟨1, ![1]⟩ .f32) :
    k0_pay1 (F := Ideal) (k0_pay4 (rows t X) w b w' b' v) d v' d' = rows t (Ref.logit (Ref.feat X w b w' b') v d v' d') :=
  calc k0_pay1 (F := Ideal) (k0_pay4 (rows t X) w b w' b' v) d v' d'
      = blockLayer spread1 (tanh (blockLayer spread256 (k0_pay2 (F := Ideal) (rows t X) w b w' b') v d)) v' d' := rfl
    _ = rows t (wholeLayer spread1 (Host.tanh (wholeLayer spread256 (Ref.feat X w b w' b') v d)) v' d') := by
        rw [feat_rows, layer_rows, tanh_rows, layer_rows]
    _ = rows t (Ref.logit (Ref.feat X w b w' b') v d v' d') := rfl

end Heads

end Cert.Proof
-- ==== Proof.Argmax.lean ====
/-
  The position of a row's largest entry. The reference folds (value, position) pairs, keeping the greater value and, of equal
  values, the lower position. The kernel takes the row's maximum first, then the least position that holds it. At the ideal
  values both are the first position whose entry no other exceeds.
-/
module

public import proofs.«01_k».proof.Proof.Layers
public import Idealize.ShloMosaic.Lib.Pointwise.Reduce

@[expose] public section

noncomputable section

namespace Cert.Proof

open Idealize.ShloMosaic

/-- A position as a word. -/
abbrev word (p : Fin 4096) : BitVec 32 := BitVec.ofNat 32 p.val

theorem word_toNat (p : Fin 4096) : (word p).toNat = p.val := by
  rw [BitVec.toNat_ofNat]; exact Nat.mod_eq_of_lt (by have := p.isLt; omega)

theorem word_toInt (p : Fin 4096) : (word p).toInt = p.val := by
  have e := BitVec.toInt_eq_toNat_cond (word p)
  rw [word_toNat] at e
  have := p.isLt
  rw [e]; split <;> omega

/-- The word `k` is the first position of a largest entry of the row `s`. -/
def First (s : Fin 4096 → EReal) (k : BitVec 32) : Prop :=
  ∃ p : Fin 4096, k = word p ∧ (∀ c, s c ≤ s p) ∧ ∀ c, s c = s p → p ≤ c

theorem First.unique {s : Fin 4096 → EReal} {k k' : BitVec 32} (h : First s k) (h' : First s k') : k = k' := by
  obtain ⟨p, rfl, hp, lp⟩ := h
  obtain ⟨q, rfl, hq, lq⟩ := h'
  have e : s p = s q := le_antisymm (hq p) (hp q)
  rw [le_antisymm (lp q e.symm) (lq p e)]

/-! ## The kernel's two reductions -/

theorem fold_minsi {ι : Type} [DecidableEq ι] (g : ι → BitVec 32) (b : BitVec 32) (S : Finset ι) :
    (∀ i ∈ S, (S.fold IntOp.minsi b g).toInt ≤ (g i).toInt) ∧ (S.fold IntOp.minsi b g = b ∨ ∃ i ∈ S, S.fold IntOp.minsi b g = g i) := by
  induction S using Finset.cons_induction with
  | empty => exact ⟨fun i hi => absurd hi (Finset.notMem_empty i), Or.inl Finset.fold_empty⟩
  | cons a S ha ih =>
    obtain ⟨h1, h2⟩ := ih
    rw [Finset.fold_cons]
    by_cases h : (g a).toInt < (S.fold IntOp.minsi b g).toInt
    · have e : IntOp.minsi (g a) (S.fold IntOp.minsi b g) = g a := if_pos (decide_eq_true h)
      rw [e]
      refine ⟨fun i hi => ?_, Or.inr ⟨a, Finset.mem_cons_self a S, rfl⟩⟩
      rcases Finset.mem_cons.mp hi with rfl | hi
      · exact le_rfl
      · exact le_of_lt (lt_of_lt_of_le h (h1 i hi))
    · have e : IntOp.minsi (g a) (S.fold IntOp.minsi b g) = S.fold IntOp.minsi b g :=
        if_neg (fun hc => h (of_decide_eq_true hc))
      rw [e]
      refine ⟨fun i hi => ?_, h2.imp id fun ⟨i, hi, hg⟩ => ⟨i, Finset.mem_cons_of_mem hi, hg⟩⟩
      rcases Finset.mem_cons.mp hi with rfl | hi
      · exact not_lt.mp h
      · exact h1 i hi

/-- There is a first position of a largest entry. -/
theorem exists_first (s : Fin 4096 → EReal) : ∃ p : Fin 4096, (∀ c, s c ≤ s p) ∧ ∀ c, s c = s p → p ≤ c := by
  obtain ⟨q, -, hq⟩ := Finset.exists_max_image (Finset.univ : Finset (Fin 4096)) s ⟨0, Finset.mem_univ _⟩
  obtain ⟨p, hp, lp⟩ := Finset.exists_min_image (Finset.univ.filter fun c => s c = s q) id ⟨q, by simp⟩
  have e : s p = s q := (Finset.mem_filter.mp hp).2
  exact ⟨p, fun c => e ▸ hq c (Finset.mem_univ c), fun c hc => lp c (Finset.mem_filter.mpr ⟨Finset.mem_univ c, hc.trans e⟩)⟩

/-- The least position whose entry is the row's maximum. -/
theorem first_kernel (s : Fin 4096 → EReal) :
    First s ((Finset.univ : Finset (Fin 4096)).fold IntOp.minsi 2147483647#32 fun c =>
      Scalar.select (Ideal.cmp .oeq (s c) ((Finset.univ : Finset (Fin 4096)).fold max ⊥ s)) (word c) 4096#32) := by
  obtain ⟨p, hp, lp⟩ := exists_first s
  have hM : (Finset.univ : Finset (Fin 4096)).fold max ⊥ s = s p :=
    le_antisymm ((Finset.fold_max_le _).mpr ⟨bot_le, fun c _ => hp c⟩) ((Finset.le_fold_max _).mpr (Or.inr ⟨p, Finset.mem_univ p, le_rfl⟩))
  rw [hM]
  have sel : ∀ c, Scalar.select (Ideal.cmp .oeq (s c) (s p)) (word c) 4096#32 = if s c = s p then word c else 4096#32 := by
    intro c
    by_cases h : s c = s p
    · simp [Scalar.select, Ideal.cmp, h]
    · simp [Scalar.select, Ideal.cmp, h]
  simp only [sel]
  obtain ⟨h1, h2⟩ := fold_minsi (fun c : Fin 4096 => if s c = s p then word c else 4096#32) 2147483647#32 Finset.univ
  generalize hT : Finset.fold IntOp.minsi 2147483647#32 (fun c : Fin 4096 => if s c = s p then word c else 4096#32) Finset.univ = T at *
  have hle : T.toInt ≤ p.val := by
    have := h1 p (Finset.mem_univ p)
    rwa [if_pos rfl, word_toInt] at this
  have plt := p.isLt
  rcases h2 with h2 | ⟨c, -, h2⟩
  · rw [h2] at hle
    have e : (2147483647#32 : BitVec 32).toInt = 2147483647 := by decide
    omega
  · by_cases h : s c = s p
    · rw [if_pos h] at h2
      rw [h2, word_toInt] at hle
      have : c = p := le_antisymm (Fin.le_def.mpr (by omega)) (lp c h)
      exact ⟨p, h2.trans (by rw [this]), hp, lp⟩
    · rw [if_neg h] at h2
      rw [h2] at hle
      have e : (4096#32 : BitVec 32).toInt = 4096 := by decide
      omega

/-! ## The reference's fold of pairs -/

/-- A pair is at least as good as another: a greater value, or the same value at a position no later. -/
def Beats (r q : EReal × BitVec 32) : Prop := q.1 < r.1 ∨ (q.1 = r.1 ∧ r.2.toNat ≤ q.2.toNat)

theorem Beats.refl (r : EReal × BitVec 32) : Beats r r := Or.inr ⟨rfl, le_rfl⟩
theorem Beats.trans {a b c : EReal × BitVec 32} (h : Beats a b) (h' : Beats b c) : Beats a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A pair the fold may hold: an entry with its position, or the starting pair. -/
def Held' (s : Fin 4096 → EReal) (a : EReal × BitVec 32) : Prop := (∃ c, a = (s c, word c)) ∨ a = (⊥, 0#32)

theorem Held'.small {s : Fin 4096 → EReal} {a : EReal × BitVec 32} (h : Held' s a) : a.2.toNat < 4096 := by
  rcases h with ⟨c, rfl⟩ | rfl
  · exact (word_toNat c).symm ▸ c.isLt
  · exact Nat.zero_lt_succ _

theorem toInt_of_small {k : BitVec 32} (h : k.toNat < 4096) : k.toInt = k.toNat := by
  have e := BitVec.toInt_eq_toNat_cond k
  rw [e]; split <;> omega

/-- One step keeps one of its two pairs, and the one it keeps beats both. -/
theorem step {a q : EReal × BitVec 32} (ha : a.2.toNat < 4096) (hq : q.2.toNat < 4096) :
    (Cert.ReferenceIdeal.reducer_argmax_f32_i32 (F := Ideal) a q = a ∨ Cert.ReferenceIdeal.reducer_argmax_f32_i32 (F := Ideal) a q = q)
      ∧ Beats (Cert.ReferenceIdeal.reducer_argmax_f32_i32 (F := Ideal) a q) a ∧ Beats (Cert.ReferenceIdeal.reducer_argmax_f32_i32 (F := Ideal) a q) q := by
  obtain ⟨x, i⟩ := a
  obtain ⟨y, j⟩ := q
  have key : Cert.ReferenceIdeal.reducer_argmax_f32_i32 (F := Ideal) (x, i) (y, j)
      = (if y < x then x else y, if y < x ∨ (x = y ∧ i.slt j = true) then i else j) := by
    show (Scalar.select (IntOp.ori (Ideal.cmp .ogt x y) (Ideal.cmp .une x x)) x y,
      Scalar.select (IntOp.ori (IntOp.ori (Ideal.cmp .ogt x y) (Ideal.cmp .une x x)) (IntOp.andi (Ideal.cmp .oeq x y) (IntOp.cmpi .slt i j))) i j) = _
    by_cases h1 : y < x
    · have h2 : x ≠ y := ne_of_gt h1
      simp [Scalar.select, Ideal.cmp, IntOp.ori, IntOp.andi, IntOp.cmpi, h1, h2]
    · by_cases h2 : x = y
      · by_cases h3 : i.slt j = true
        · simp [Scalar.select, Ideal.cmp, IntOp.ori, IntOp.andi, IntOp.cmpi, h2, h3]
        · simp [Scalar.select, Ideal.cmp, IntOp.ori, IntOp.andi, IntOp.cmpi, h2, h3]
      · simp [Scalar.select, Ideal.cmp, IntOp.ori, IntOp.andi, IntOp.cmpi, h1, h2]
  rw [key]
  have hs : i.slt j = true ↔ i.toNat < j.toNat := by
    have ei := toInt_of_small ha
    have ej := toInt_of_small hq
    rw [BitVec.slt_iff_toInt_lt]
    simp only at ei ej
    omega
  by_cases h1 : y < x
  · rw [if_pos h1, if_pos (Or.inl h1)]
    exact ⟨Or.inl rfl, Beats.refl _, Or.inl h1⟩
  · by_cases h2 : x = y
    · subst h2
      by_cases h3 : i.slt j = true
      · rw [if_neg h1, if_pos (Or.inr ⟨rfl, h3⟩)]
        exact ⟨Or.inl rfl, Beats.refl _, Or.inr ⟨rfl, le_of_lt (hs.mp h3)⟩⟩
      · rw [if_neg h1, if_neg (by rintro (h | ⟨-, h⟩); exacts [h1 h, h3 h])]
        exact ⟨Or.inr rfl, Or.inr ⟨rfl, not_lt.mp fun h => h3 (hs.mpr h)⟩, Beats.refl _⟩
    · rw [if_neg h1, if_neg (by rintro (h | ⟨h, -⟩); exacts [h1 h, h2 h])]
      exact ⟨Or.inr rfl, Or.inl (lt_of_le_of_ne (not_lt.mp h1) h2), Beats.refl _⟩

/-- The fold holds one of the pairs, which beats every pair folded. -/
theorem fold_pairs (s : Fin 4096 → EReal) (l : List (EReal × BitVec 32)) (hl : ∀ q ∈ l, ∃ c, q = (s c, word c)) :
    ∀ a, Held' s a →
      Held' s (l.foldl (Cert.ReferenceIdeal.reducer_argmax_f32_i32 (F := Ideal)) a)
        ∧ Beats (l.foldl (Cert.ReferenceIdeal.reducer_argmax_f32_i32 (F := Ideal)) a) a
        ∧ ∀ q ∈ l, Beats (l.foldl (Cert.ReferenceIdeal.reducer_argmax_f32_i32 (F := Ideal)) a) q := by
  induction l with
  | nil => exact fun a ha => ⟨ha, Beats.refl a, fun q hq => absurd hq List.not_mem_nil⟩
  | cons q l ih =>
    intro a ha
    have hq : Held' s q := Or.inl (hl q List.mem_cons_self)
    obtain ⟨h1, h2, h3⟩ := step ha.small hq.small
    have hr : Held' s (Cert.ReferenceIdeal.reducer_argmax_f32_i32 (F := Ideal) a q) := by
      rcases h1 with h1 | h1 <;> rw [h1] <;> assumption
    obtain ⟨g1, g2, g3⟩ := ih (fun q' h => hl q' (List.mem_cons_of_mem q h)) _ hr
    refine ⟨g1, g2.trans h2, fun q' h => ?_⟩
    rcases List.mem_cons.mp h with rfl | h
    · exact g2.trans h3
    · exact g3 q' h

theorem first_fold (s : Fin 4096 → EReal) (l : List (EReal × BitVec 32)) (hl : ∀ q ∈ l, ∃ c, q = (s c, word c))
    (hm : ∀ c, (s c, word c) ∈ l) :
    First s (l.foldl (Cert.ReferenceIdeal.reducer_argmax_f32_i32 (F := Ideal)) (⊥, 0#32)).2 := by
  obtain ⟨h1, -, h3⟩ := fold_pairs s l hl (⊥, 0#32) (Or.inr rfl)
  generalize l.foldl (Cert.ReferenceIdeal.reducer_argmax_f32_i32 (F := Ideal)) (⊥, 0#32) = r at *
  have hp : ∃ p, r = (s p, word p) := by
    rcases h1 with h1 | rfl
    · exact h1
    · have h0 : s 0 = ⊥ := by
        rcases h3 _ (hm 0) with h | ⟨h, -⟩
        · exact absurd h not_lt_bot
        · exact h
      exact ⟨0, by rw [h0]; rfl⟩
  obtain ⟨p, rfl⟩ := hp
  refine ⟨p, rfl, fun c => ?_, fun c hc => ?_⟩
  · rcases h3 _ (hm c) with h | ⟨h, -⟩
    · exact le_of_lt h
    · exact le_of_eq h
  · rcases h3 _ (hm c) with h | ⟨-, h⟩
    · exact absurd hc (ne_of_lt h)
    · exact Fin.le_def.mpr (by rwa [word_toNat, word_toNat] at h)

end Cert.Proof
-- ==== Proof.Pick.lean ====
/-
  The positions the reference picks: each is its row's first largest.
-/
module

public import proofs.«01_k».proof.Proof.Argmax

@[expose] public section

noncomputable section

namespace Cert.Proof

open Idealize.ShloMosaic

/-- The bits of the reductions' start are the least ideal value. -/
theorem start_bot : (FloatOps.ofBits .f32 0xFF800000#32 : Ideal .f32) = (⊥ : EReal) := by
  show Ideal.ofBits .f32 0xFF800000#32 = ⊥
  simp [Ideal.ofBits, Ideal.ieee]

variable {a b : Nat}

/-- The pairs of a row, in a fold over the columns, are its entries with their positions. -/
theorem mem_row (s : (⟨2, ![a, b]⟩ : Shape).Idx → EReal) (h : (⟨2, ![a, b]⟩ : Shape).ReducesTo [1] ⟨1, ![a]⟩) (r : Fin a)
    (q : EReal × BitVec 32) :
    q ∈ Host.argReduceFiber s (iotaInDim ⟨2, ![a, b]⟩ 32 1) h (ValueIdx.ix1 r)
      ↔ ∃ c : Fin b, q = (s (ValueIdx.ix2 r c), BitVec.ofNat 32 c.val) := by
  unfold Host.argReduceFiber
  constructor
  · intro hq
    obtain ⟨n, hn, rfl⟩ := List.mem_map.mp hq
    obtain ⟨k, hk⟩ := (Shape.ReducesTo.fiber_r2_a1 h _ _).mp (of_decide_eq_true (List.mem_filter.mp hn).2)
    exact ⟨k, by rw [← hk]; rfl⟩
  · rintro ⟨c, rfl⟩
    refine List.mem_map.mpr ⟨(⟨2, ![a, b]⟩ : Shape).rowMajor (ValueIdx.ix2 r c), List.mem_filter.mpr ⟨List.mem_finRange _, decide_eq_true ?_⟩, ?_⟩
    · rw [Equiv.symm_apply_apply]
      exact (Shape.ReducesTo.fiber_r2_a1 h _ _).mpr ⟨c, rfl⟩
    · rw [Equiv.symm_apply_apply]; rfl

/-- A fold over the columns, from the least value at position zero, is the fold of the row's pairs. -/
theorem fold_row (f : EReal × BitVec 32 → EReal × BitVec 32 → EReal × BitVec 32) (s : (⟨2, ![a, b]⟩ : Shape).Idx → EReal)
    (h : (⟨2, ![a, b]⟩ : Shape).ReducesTo [1] ⟨1, ![a]⟩) (j : (⟨1, ![a]⟩ : Shape).Idx) {u : Shape} (hu : 0 < u.numel) :
    Ref.positions (F := Ideal) f s (iotaInDim ⟨2, ![a, b]⟩ 32 1) (constant u .f32 0xFF800000#32) (constantI u 32 0#32) h hu j
      = ((Host.argReduceFiber s (iotaInDim ⟨2, ![a, b]⟩ 32 1) h j).foldl f (⊥, 0#32)).2 := by
  refine congrArg Prod.snd ((congrFun (Ideal.argReduce_eq_reduce2 f s _ _ _ h hu) j).trans ((Host.reduce2_eq_foldl_fiber f s _ _ _ h hu j).trans ?_))
  exact congrArg (fun z : EReal => (Host.argReduceFiber s (iotaInDim ⟨2, ![a, b]⟩ 32 1) h j).foldl f (z, 0#32)) start_bot

/-- Such a fold ends at the row's first largest. -/
theorem first_row (s : (⟨2, ![a, b]⟩ : Shape).Idx → EReal) (h : (⟨2, ![a, b]⟩ : Shape).ReducesTo [1] ⟨1, ![a]⟩) (r : Fin a)
    {u : Shape} (hu : 0 < u.numel) (hb : b = 4096) :
    First (fun c => s (ValueIdx.ix2 r (Fin.cast hb.symm c)))
      (Ref.positions (F := Ideal) (Cert.ReferenceIdeal.reducer_argmax_f32_i32 (F := Ideal)) s (iotaInDim ⟨2, ![a, b]⟩ 32 1)
        (constant u .f32 0xFF800000#32) (constantI u 32 0#32) h hu (ValueIdx.ix1 r)) := by
  rw [fold_row]
  refine first_fold _ _ (fun q hq => ?_) fun c => (mem_row s h r _).mpr ⟨Fin.cast hb.symm c, rfl⟩
  obtain ⟨c, hc⟩ := (mem_row s h r q).mp hq
  exact ⟨Fin.cast hb c, hc⟩

/-- Each position the reference picks is its row's first largest. -/
theorem first_pick (s : FVec Ideal Cert.ReferenceIdeal.S4096x4096 .f32) (r : Fin 4096) :
    First (fun c => s (ValueIdx.ix2 r c)) (Ref.pick (F := Ideal) s (ValueIdx.ix1 r)) := by
  unfold Ref.pick
  exact first_row (a := 4096) (b := 4096) s _ r _ rfl

end Cert.Proof
-- ==== Proof.Least.lean ====
/-
  The kernel's choice over a block of rows: of each row the first largest score.
-/
module

public import proofs.«01_k».proof.Proof.Pick

@[expose] public section

noncomputable section

namespace Cert.Proof

open Idealize.ShloMosaic

variable {a b : Nat}

theorem lift_row (h : (⟨2, ![a, b]⟩ : Shape).Reduces [1] ⟨1, ![a]⟩) (r : Fin a) :
    h.lift (ValueIdx.ix1 r) = fun c : Fin b => ValueIdx.ix2 r c := by
  funext c
  refine (ValueIdx.eq_ix2 _).trans ?_
  exact congrArg₂ ValueIdx.ix2 (Fin.ext rfl) (Fin.ext rfl)

/-- A row's maximum. -/
theorem max_row (X : FVec Ideal ⟨2, ![a, b]⟩ .f32) (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ X 0xFF800000#32 h hφ hacc (ValueIdx.ix1 r)
      = (Finset.univ : Finset (Fin b)).fold max (⊥ : EReal) fun c => X (ValueIdx.ix2 r c) := by
  rw [Ideal.multiReduction_maximumf_single, lift_row, start_bot]
  rfl

/-- A row's least word. -/
theorem min_row (Y : IVec ⟨2, ![a, b]⟩ 32) (h : (⟨2, ![a, b]⟩ : Shape).Reduces [1] ⟨1, ![a]⟩)
    (hacc : (2147483647#32 : BitVec 32) = IKind.minsi.neutral) (r : Fin a) :
    multiReductionI .minsi [1] ⟨1, ![a]⟩ Y 2147483647#32 h hacc (ValueIdx.ix1 r)
      = (Finset.univ : Finset (Fin b)).fold IntOp.minsi 2147483647#32 fun c => Y (ValueIdx.ix2 r c) := by
  rw [multiReductionI_eq_fold, h.fold_filter_drop_single, lift_row]
  rfl

/-- A column of the rows' values, as a vector of them. -/
theorem col_cast {α : Type} (x : (⟨1, ![a]⟩ : Shape).Idx → α) (h : (⟨1, ![a]⟩ : Shape).ShapeCasts ⟨2, ![a, 1]⟩) (r : Fin a) (z : Fin 1) :
    shapeCast ⟨2, ![a, 1]⟩ x h (ValueIdx.ix2 r z) = x (ValueIdx.ix1 r) :=
  shapeCast_apply x h _ _ (by
    rw [Shape.rowMajor_val_two, Shape.rowMajor_val_one]
    show r.val = r.val * 1 + z.val
    omega)

theorem least_row (X : FVec Ideal ⟨2, ![a, b]⟩ .f32) (h : (⟨2, ![a, b]⟩ : Shape).Reduces [1] ⟨1, ![a]⟩) (hφ : FKind.Formats .f32)
    (hacc : (0xFF800000#32 : BitVec 32) = FKind.maximumf.neutral .f32 hφ) (hacc' : (2147483647#32 : BitVec 32) = IKind.minsi.neutral)
    (hc : (⟨1, ![a]⟩ : Shape).ShapeCasts ⟨2, ![a, 1]⟩) (hb : (⟨2, ![a, 1]⟩ : Shape).Broadcasts ⟨2, ![a, b]⟩)
    (hi : (⟨2, ![a, b]⟩ : Shape).Iotas .tc 32 [1]) (r : Fin a) (z : Fin 1) :
    shapeCast ⟨2, ![a, 1]⟩ (multiReductionI .minsi [1] ⟨1, ![a]⟩
        (select (cmpf .oeq X (broadcastTo ⟨2, ![a, b]⟩ (shapeCast ⟨2, ![a, 1]⟩ (multiReduction .maximumf [1] ⟨1, ![a]⟩ X 0xFF800000#32 h hφ hacc) hc) hb))
          (iota .tc ⟨2, ![a, b]⟩ 32 [1] hi) (broadcast ⟨2, ![a, b]⟩ 4096#32)) 2147483647#32 h hacc') hc (ValueIdx.ix2 r z)
      = (Finset.univ : Finset (Fin b)).fold IntOp.minsi 2147483647#32 fun c =>
          Scalar.select (Ideal.cmp .oeq (X (ValueIdx.ix2 r c)) ((Finset.univ : Finset (Fin b)).fold max ⊥ fun c => X (ValueIdx.ix2 r c)))
            (BitVec.ofNat 32 c.val) 4096#32 := by
  rw [col_cast, min_row]
  refine congrArg (fun g => (Finset.univ : Finset (Fin b)).fold IntOp.minsi 2147483647#32 g) (funext fun c => ?_)
  have e1 : broadcastTo ⟨2, ![a, b]⟩ (shapeCast ⟨2, ![a, 1]⟩ (multiReduction .maximumf [1] ⟨1, ![a]⟩ X 0xFF800000#32 h hφ hacc) hc) hb (ValueIdx.ix2 r c)
      = (Finset.univ : Finset (Fin b)).fold max (⊥ : EReal) fun c => X (ValueIdx.ix2 r c) := by
    refine (broadcastTo_apply _ hb (ValueIdx.ix2 r c) (ValueIdx.ix2 r (0 : Fin 1)) (by
      intro k
      match k with
      | ⟨0, _⟩ =>
        show r.val = if a = 1 then 0 else r.val
        split
        · have := r.isLt; omega
        · rfl
      | ⟨1, _⟩ => rfl)).trans ?_
    rw [col_cast, max_row]
  have e2 : iota .tc ⟨2, ![a, b]⟩ 32 [1] hi (ValueIdx.ix2 r c) = BitVec.ofNat 32 c.val := by
    show BitVec.ofNat 32 (0 * b + c.val) = _
    rw [Nat.zero_mul, Nat.zero_add]
  show Scalar.select (Ideal.cmp .oeq (X (ValueIdx.ix2 r c)) _) _ _ = _
  rw [e1, e2]
  rfl

/-- The least position holding its row's maximum is the row's first largest. -/
theorem first_least (X : FVec Ideal ⟨2, ![a, b]⟩ .f32) (h : (⟨2, ![a, b]⟩ : Shape).Reduces [1] ⟨1, ![a]⟩) (hφ : FKind.Formats .f32)
    (hacc : (0xFF800000#32 : BitVec 32) = FKind.maximumf.neutral .f32 hφ) (hacc' : (2147483647#32 : BitVec 32) = IKind.minsi.neutral)
    (hc : (⟨1, ![a]⟩ : Shape).ShapeCasts ⟨2, ![a, 1]⟩) (hb : (⟨2, ![a, 1]⟩ : Shape).Broadcasts ⟨2, ![a, b]⟩)
    (hi : (⟨2, ![a, b]⟩ : Shape).Iotas .tc 32 [1]) (r : Fin a) (z : Fin 1) (e : b = 4096) :
    First (fun c => X (ValueIdx.ix2 r (Fin.cast e.symm c)))
      (shapeCast ⟨2, ![a, 1]⟩ (multiReductionI .minsi [1] ⟨1, ![a]⟩
        (select (cmpf .oeq X (broadcastTo ⟨2, ![a, b]⟩ (shapeCast ⟨2, ![a, 1]⟩ (multiReduction .maximumf [1] ⟨1, ![a]⟩ X 0xFF800000#32 h hφ hacc) hc) hb))
          (iota .tc ⟨2, ![a, b]⟩ 32 [1] hi) (broadcast ⟨2, ![a, b]⟩ 4096#32)) 2147483647#32 h hacc') hc (ValueIdx.ix2 r z)) := by
  rw [least_row]
  subst e
  exact first_kernel fun c => X (ValueIdx.ix2 r c)

end Cert.Proof
-- ==== Proof.Region0.lean ====
/-
  What the kernel's first launch leaves: its three result arrays, each the reference's function of the arguments. Each grid
  point writes back its block of that function, and the blocks tile the arrays.
-/
module

public import proofs.«01_k».proof.Proof.Layers
public import proofs.«01_k».proof.Proof.Gen.KernelIdeal.Frame

@[expose] public section

noncomputable section

namespace Cert.Proof.Region0

open Idealize.ShloMosaic Idealize.ShloMosaic.TcCoe Idealize.ShloMosaic.ValueIdx Idealize.SL.Sem
open Idealize.ShloMosaic.Pipeline (Dat)
open Cert.KernelIdeal Cert.KernelIdeal.Gen

/-- A grid point as the number of its block of rows. -/
abbrev pt (t : Fin grid0.N) : Fin 8 := ⟨t.val, by have := t.isLt; have h : grid0.N = 8 := N_0; omega⟩

/-- A rectangle of whole rows, from row `512 t` on, places an index at that row of its block. -/
theorem idx_block {n : Nat} (t : Fin 8) (r : LoadRect ⟨2, ![4096, n]⟩) (i : r.shape.Idx) (p : Fin 512) (q : Fin n)
    (o0 : r.off 0 = t.val * 512) (o1 : r.off 1 = 0) (h1 : ∀ a, r.stride a = 1) (hp : (i 0).val = p.val) (hq : (i 1).val = q.val) :
    r.idx i = ix2 (rowAt t p) q := by
  funext a
  refine Fin.ext ?_
  rw [LoadRect.idx_apply, h1, Nat.one_mul]
  match a with
  | ⟨0, _⟩ => exact congrArg₂ (· + ·) o0 hp
  | ⟨1, _⟩ => exact (congrArg₂ (· + ·) o1 hq).trans (Nat.zero_add _)

theorem index_0 (t : Fin grid0.N) : win0_0.index t 0 * win0_0.size 0 = t.val * 512 ∧ win0_0.index t 1 * win0_0.size 1 = 0 := by
  rcases fin_N0 t with rfl | rfl | rfl | rfl | rfl | rfl | rfl | rfl <;> decide +kernel
theorem index_14 (t : Fin grid0.N) : win0_14.index t 0 * win0_14.size 0 = t.val * 512 ∧ win0_14.index t 1 * win0_14.size 1 = 0 := by
  rcases fin_N0 t with rfl | rfl | rfl | rfl | rfl | rfl | rfl | rfl <;> decide +kernel
theorem index_15 (t : Fin grid0.N) : win0_15.index t 0 * win0_15.size 0 = t.val * 512 ∧ win0_15.index t 1 * win0_15.size 1 = 0 := by
  rcases fin_N0 t with rfl | rfl | rfl | rfl | rfl | rfl | rfl | rfl <;> decide +kernel
theorem index_16 (t : Fin grid0.N) : win0_16.index t 0 * win0_16.size 0 = t.val * 512 ∧ win0_16.index t 1 * win0_16.size 1 = 0 := by
  rcases fin_N0 t with rfl | rfl | rfl | rfl | rfl | rfl | rfl | rfl <;> decide +kernel

/-! A window of 512 rows reads its block of rows. -/

theorem read_0 (t : Fin cfg0.N) (X : Vec Ideal S4096x3264 .f32) : ((cfg0.win 0).blk t).view.read (Elt Ideal) X = rows (pt t) X :=
  funext fun i => congrArg X (idx_block (pt t) (win0_0.rect t).toLoadRect i (i 0) (i 1) (index_0 t).1 (index_0 t).2 (fun _ => rfl) rfl rfl)
theorem read_14 (t : Fin cfg0.N) (X : Vec Ideal S4096x64 .f32) : ((cfg0.win 14).blk t).view.read (Elt Ideal) X = rows (pt t) X :=
  funext fun i => congrArg X (idx_block (pt t) (win0_14.rect t).toLoadRect i (i 0) (i 1) (index_14 t).1 (index_14 t).2 (fun _ => rfl) rfl rfl)
theorem read_15 (t : Fin cfg0.N) (X : Vec Ideal S4096x128 .f32) : ((cfg0.win 15).blk t).view.read (Elt Ideal) X = rows (pt t) X :=
  funext fun i => congrArg X (idx_block (pt t) (win0_15.rect t).toLoadRect i (i 0) (i 1) (index_15 t).1 (index_15 t).2 (fun _ => rfl) rfl rfl)
theorem read_16 (t : Fin cfg0.N) (X : Vec Ideal S4096x1 .f32) : ((cfg0.win 16).blk t).view.read (Elt Ideal) X = rows (pt t) X :=
  funext fun i => congrArg X (idx_block (pt t) (win0_16.rect t).toLoadRect i (i 0) (i 1) (index_16 t).1 (index_16 t).2 (fun _ => rfl) rfl rfl)

/-- A rectangle from the origin on places an index at itself. -/
theorem idx_origin {s : Shape} (r : LoadRect s) (i : r.shape.Idx) (j : s.Idx) (h0 : ∀ a, r.off a = 0) (h1 : ∀ a, r.stride a = 1)
    (hv : ∀ a, (i a).val = (j a).val) : r.idx i = j := by
  funext a
  refine Fin.ext ?_
  rw [LoadRect.idx_apply, h0, h1, Nat.zero_add, Nat.one_mul]
  exact hv a

/-! A window over a whole argument reads the argument. -/

set_option maxRecDepth 20000 in
theorem read_2 (t : Fin cfg0.N) (X : Vec Ideal S3264x512 .f32) : ((cfg0.win 2).blk t).view.read (Elt Ideal) X = X :=
  funext fun i => congrArg X (idx_origin (win0_2.rect t).toLoadRect i i (fun a => match a with | ⟨0, _⟩ => rfl | ⟨1, _⟩ => rfl) (fun _ => rfl) fun _ => rfl)
theorem read_3 (t : Fin cfg0.N) (X : Vec Ideal S512 .f32) : ((cfg0.win 3).blk t).view.read (Elt Ideal) X = X :=
  funext fun i => congrArg X (idx_origin (win0_3.rect t).toLoadRect i i (fun a => match a with | ⟨0, _⟩ => rfl) (fun _ => rfl) fun _ => rfl)
theorem read_4 (t : Fin cfg0.N) (X : Vec Ideal S512x64 .f32) : ((cfg0.win 4).blk t).view.read (Elt Ideal) X = X :=
  funext fun i => congrArg X (idx_origin (win0_4.rect t).toLoadRect i i (fun a => match a with | ⟨0, _⟩ => rfl | ⟨1, _⟩ => rfl) (fun _ => rfl) fun _ => rfl)
theorem read_5 (t : Fin cfg0.N) (X : Vec Ideal S64 .f32) : ((cfg0.win 5).blk t).view.read (Elt Ideal) X = X :=
  funext fun i => congrArg X (idx_origin (win0_5.rect t).toLoadRect i i (fun a => match a with | ⟨0, _⟩ => rfl) (fun _ => rfl) fun _ => rfl)
theorem read_6 (t : Fin cfg0.N) (X : Vec Ideal S64x256 .f32) : ((cfg0.win 6).blk t).view.read (Elt Ideal) X = X :=
  funext fun i => congrArg X (idx_origin (win0_6.rect t).toLoadRect i i (fun a => match a with | ⟨0, _⟩ => rfl | ⟨1, _⟩ => rfl) (fun _ => rfl) fun _ => rfl)
theorem read_7 (t : Fin cfg0.N) (X : Vec Ideal S256 .f32) : ((cfg0.win 7).blk t).view.read (Elt Ideal) X = X :=
  funext fun i => congrArg X (idx_origin (win0_7.rect t).toLoadRect i i (fun a => match a with | ⟨0, _⟩ => rfl) (fun _ => rfl) fun _ => rfl)
theorem read_8 (t : Fin cfg0.N) (X : Vec Ideal S256x1 .f32) : ((cfg0.win 8).blk t).view.read (Elt Ideal) X = X :=
  funext fun i => congrArg X (idx_origin (win0_8.rect t).toLoadRect i i (fun a => match a with | ⟨0, _⟩ => rfl | ⟨1, _⟩ => rfl) (fun _ => rfl) fun _ => rfl)
theorem read_9 (t : Fin cfg0.N) (X : Vec Ideal S1 .f32) : ((cfg0.win 9).blk t).view.read (Elt Ideal) X = X :=
  funext fun i => congrArg X (idx_origin (win0_9.rect t).toLoadRect i i (fun a => match a with | ⟨0, _⟩ => rfl) (fun _ => rfl) fun _ => rfl)
theorem read_10 (t : Fin cfg0.N) (X : Vec Ideal S64x256 .f32) : ((cfg0.win 10).blk t).view.read (Elt Ideal) X = X :=
  funext fun i => congrArg X (idx_origin (win0_10.rect t).toLoadRect i i (fun a => match a with | ⟨0, _⟩ => rfl | ⟨1, _⟩ => rfl) (fun _ => rfl) fun _ => rfl)
theorem read_11 (t : Fin cfg0.N) (X : Vec Ideal S256 .f32) : ((cfg0.win 11).blk t).view.read (Elt Ideal) X = X :=
  funext fun i => congrArg X (idx_origin (win0_11.rect t).toLoadRect i i (fun a => match a with | ⟨0, _⟩ => rfl) (fun _ => rfl) fun _ => rfl)
theorem read_12 (t : Fin cfg0.N) (X : Vec Ideal S256x128 .f32) : ((cfg0.win 12).blk t).view.read (Elt Ideal) X = X :=
  funext fun i => congrArg X (idx_origin (win0_12.rect t).toLoadRect i i (fun a => match a with | ⟨0, _⟩ => rfl | ⟨1, _⟩ => rfl) (fun _ => rfl) fun _ => rfl)
theorem read_13 (t : Fin cfg0.N) (X : Vec Ideal S128 .f32) : ((cfg0.win 13).blk t).view.read (Elt Ideal) X = X :=
  funext fun i => congrArg X (idx_origin (win0_13.rect t).toLoadRect i i (fun a => match a with | ⟨0, _⟩ => rfl) (fun _ => rfl) fun _ => rfl)

/-! ## What each point writes back -/

variable (V : (c : Dev nD) → (b : Ref sig .tc) → Buf (Elt Ideal) ((c : Thread nD τ).loc b)) (c : Dev nD)

theorem origin2 : (![0, 0] : Fin 2 → Nat) = fun _ => 0 := funext fun a => by fin_cases a <;> rfl
theorem origin1 : (![0] : Fin 1 → Nat) = fun _ => 0 := funext fun a => by fin_cases a; rfl

section Body
variable (x0 : Vec Ideal S512x3264 .f32) (x1 : Vec Ideal S1x128 .f32) (x2 : Vec Ideal S3264x512 .f32) (x3 : Vec Ideal S512
    .f32) (x4 : Vec Ideal S512x64 .f32) (x5 : Vec Ideal S64 .f32) (x6 : Vec Ideal S64x256 .f32) (x7 : Vec Ideal S256 .f32)
    (x8 : Vec Ideal S256x1 .f32) (x9 : Vec Ideal S1 .f32) (x10 : Vec Ideal S64x256 .f32) (x11 : Vec Ideal S256 .f32) (x12
    : Vec Ideal S256x128 .f32) (x13 : Vec Ideal S128 .f32)

/-! The one store through a whole staging buffer leaves its payload, of the whole blocks loaded. -/

theorem out_14 : out0_14 (F := Ideal) x0 x1 x2 x3 x4 x5 x6 x7 x8 x9 x10 x11 x12 x13 = k0_pay2 x0 x2 x3 x4 x5 := by
  unfold out0_14
  rw [View.canon_unit_zero origin2, View.ld_unit_zero origin2, View.ld_unit_zero origin2, View.ld_unit_zero origin1, View.ld_unit_zero origin2, View.ld_unit_zero origin1]

theorem out_15 : out0_15 (F := Ideal) x0 x1 x2 x3 x4 x5 x6 x7 x8 x9 x10 x11 x12 x13 = k0_pay3 x0 x2 x3 x4 x5 x10 x11 x12 x13 := by
  unfold out0_15
  rw [View.canon_unit_zero origin2, View.ld_unit_zero origin2, View.ld_unit_zero origin2, View.ld_unit_zero origin1, View.ld_unit_zero origin2, View.ld_unit_zero origin1, View.ld_unit_zero origin2, View.ld_unit_zero origin1, View.ld_unit_zero origin2, View.ld_unit_zero origin1]

theorem out_16 : out0_16 (F := Ideal) x0 x1 x2 x3 x4 x5 x6 x7 x8 x9 x10 x11 x12 x13 = k0_pay1 (k0_pay4 x0 x2 x3 x4 x5 x6) x7 x8 x9 := by
  unfold out0_16
  rw [View.canon_unit_zero origin2, View.ld_unit_zero origin2, View.ld_unit_zero origin2, View.ld_unit_zero origin1, View.ld_unit_zero origin2, View.ld_unit_zero origin1, View.ld_unit_zero origin2, View.ld_unit_zero origin1, View.ld_unit_zero origin2, View.ld_unit_zero origin1]

end Body

/-- The features of all rows, of the arrays the launch finds. -/
def featOf : Vec Ideal S4096x64 .f32 :=
  Ref.feat (F := Ideal) (V c main_v0) (V c main_arg2) (V c main_arg3) (V c main_arg4) (V c main_arg5)
/-- The means of all rows. -/
def meanOf : Vec Ideal S4096x128 .f32 :=
  Ref.mean (F := Ideal) (featOf V c) (V c main_arg10) (V c main_arg11) (V c main_arg12) (V c main_arg13)
/-- The logits of all rows. -/
def logitOf : Vec Ideal S4096x1 .f32 :=
  Ref.logit (F := Ideal) (featOf V c) (V c main_arg6) (V c main_arg7) (V c main_arg8) (V c main_arg9)

/-! An uncut window writes back its whole buffer. -/

theorem cut_14 (t : Fin grid0.N) (v : Vec Ideal S512x64 .f32) : (cfg0.win 14).cut (grid0.coords t) v = v := rfl
theorem cut_15 (t : Fin grid0.N) (v : Vec Ideal S512x128 .f32) : (cfg0.win 15).cut (grid0.coords t) v = v := rfl
theorem cut_16 (t : Fin grid0.N) (v : Vec Ideal S512x1 .f32) : (cfg0.win 16).cut (grid0.coords t) v = v := rfl

/-! So each point writes back its block of the whole array's function. -/

theorem flushed_14 (t : Fin cfg0.N) : (dat0 V c).flushed 14 t = ((cfg0.win 14).blk t).view.read (Elt Ideal) (featOf V c) := by
  refine Eq.trans ?_ (read_14 t (featOf V c)).symm
  refine Eq.trans (congrArg ((cfg0.win 14).cut (grid0.coords t)) (after0_14 V c t)) ((cut_14 t _).trans ?_)
  rw [out_14]
  have e0 : iblk0 V c 0 t = rows (pt t) (V c main_v0) := read_0 t (V c main_v0)
  have e2 : iblk0 V c 2 t = V c main_arg2 := read_2 t (V c main_arg2)
  have e3 : iblk0 V c 3 t = V c main_arg3 := read_3 t (V c main_arg3)
  have e4 : iblk0 V c 4 t = V c main_arg4 := read_4 t (V c main_arg4)
  have e5 : iblk0 V c 5 t = V c main_arg5 := read_5 t (V c main_arg5)
  rw [e0, e2, e3, e4, e5]
  exact feat_rows (pt t) (V c main_v0) (V c main_arg2) (V c main_arg3) (V c main_arg4) (V c main_arg5)

theorem flushed_15 (t : Fin cfg0.N) : (dat0 V c).flushed 15 t = ((cfg0.win 15).blk t).view.read (Elt Ideal) (meanOf V c) := by
  refine Eq.trans ?_ (read_15 t (meanOf V c)).symm
  refine Eq.trans (congrArg ((cfg0.win 15).cut (grid0.coords t)) (after0_15 V c t)) ((cut_15 t _).trans ?_)
  rw [out_15]
  have e0 : iblk0 V c 0 t = rows (pt t) (V c main_v0) := read_0 t (V c main_v0)
  have e2 : iblk0 V c 2 t = V c main_arg2 := read_2 t (V c main_arg2)
  have e3 : iblk0 V c 3 t = V c main_arg3 := read_3 t (V c main_arg3)
  have e4 : iblk0 V c 4 t = V c main_arg4 := read_4 t (V c main_arg4)
  have e5 : iblk0 V c 5 t = V c main_arg5 := read_5 t (V c main_arg5)
  have e10 : iblk0 V c 10 t = V c main_arg10 := read_10 t (V c main_arg10)
  have e11 : iblk0 V c 11 t = V c main_arg11 := read_11 t (V c main_arg11)
  have e12 : iblk0 V c 12 t = V c main_arg12 := read_12 t (V c main_arg12)
  have e13 : iblk0 V c 13 t = V c main_arg13 := read_13 t (V c main_arg13)
  rw [e0, e2, e3, e4, e5, e10, e11, e12, e13]
  exact mean_rows (pt t) (V c main_v0) (V c main_arg2) (V c main_arg3) (V c main_arg4) (V c main_arg5) (V c main_arg10) (V c main_arg11) (V c main_arg12) (V c main_arg13)

theorem flushed_16 (t : Fin cfg0.N) : (dat0 V c).flushed 16 t = ((cfg0.win 16).blk t).view.read (Elt Ideal) (logitOf V c) := by
  refine Eq.trans ?_ (read_16 t (logitOf V c)).symm
  refine Eq.trans (congrArg ((cfg0.win 16).cut (grid0.coords t)) (after0_16 V c t)) ((cut_16 t _).trans ?_)
  rw [out_16]
  have e0 : iblk0 V c 0 t = rows (pt t) (V c main_v0) := read_0 t (V c main_v0)
  have e2 : iblk0 V c 2 t = V c main_arg2 := read_2 t (V c main_arg2)
  have e3 : iblk0 V c 3 t = V c main_arg3 := read_3 t (V c main_arg3)
  have e4 : iblk0 V c 4 t = V c main_arg4 := read_4 t (V c main_arg4)
  have e5 : iblk0 V c 5 t = V c main_arg5 := read_5 t (V c main_arg5)
  have e6 : iblk0 V c 6 t = V c main_arg6 := read_6 t (V c main_arg6)
  have e7 : iblk0 V c 7 t = V c main_arg7 := read_7 t (V c main_arg7)
  have e8 : iblk0 V c 8 t = V c main_arg8 := read_8 t (V c main_arg8)
  have e9 : iblk0 V c 9 t = V c main_arg9 := read_9 t (V c main_arg9)
  rw [e0, e2, e3, e4, e5, e6, e7, e8, e9]
  exact logit_rows (pt t) (V c main_v0) (V c main_arg2) (V c main_arg3) (V c main_arg4) (V c main_arg5) (V c main_arg6) (V c main_arg7) (V c main_arg8) (V c main_arg9)

/-! ## The blocks tile the arrays -/

/-- Every row is a row of one of the eight blocks. -/
theorem ix2_split {n : Nat} (i : (⟨2, ![4096, n]⟩ : Shape).Idx) : ∃ (t : Fin grid0.N) (r : Fin 512), ix2 (rowAt (pt t) r) (i 1) = i := by
  have h : (i 0).val < 4096 := (i 0).isLt
  have hN : grid0.N = 8 := N_0
  refine ⟨⟨(i 0).val / 512, by omega⟩, ⟨(i 0).val % 512, Nat.mod_lt _ (by decide)⟩, ?_⟩
  refine Eq.trans ?_ (eq_ix2 i).symm
  refine congrArg (fun a : Fin 4096 => ix2 a (i 1)) (Fin.ext ?_)
  show (i 0).val / 512 * 512 + (i 0).val % 512 = (i 0).val
  omega

theorem cover_14 (i : S4096x64.Idx) : ∃ t : Fin cfg0.N, (cfg0.win 14).flush t = true ∧ i ∈ ((cfg0.win 14).blk t).view.set := by
  obtain ⟨t, r, e⟩ := ix2_split i
  refine ⟨t, flush0_14 t, ?_⟩
  have h : ((cfg0.win 14).blk t).view.emb (ix2 r (i 1) : S512x64.Idx) = i :=
    (idx_block (pt t) (win0_14.rect t).toLoadRect (ix2 r (i 1) : S512x64.Idx) r (i 1) (index_14 t).1 (index_14 t).2 (fun _ => rfl) rfl rfl).trans e
  rw [← h]
  exact View.emb_mem_set _ _
theorem cover_15 (i : S4096x128.Idx) : ∃ t : Fin cfg0.N, (cfg0.win 15).flush t = true ∧ i ∈ ((cfg0.win 15).blk t).view.set := by
  obtain ⟨t, r, e⟩ := ix2_split i
  refine ⟨t, flush0_15 t, ?_⟩
  have h : ((cfg0.win 15).blk t).view.emb (ix2 r (i 1) : S512x128.Idx) = i :=
    (idx_block (pt t) (win0_15.rect t).toLoadRect (ix2 r (i 1) : S512x128.Idx) r (i 1) (index_15 t).1 (index_15 t).2 (fun _ => rfl) rfl rfl).trans e
  rw [← h]
  exact View.emb_mem_set _ _
theorem cover_16 (i : S4096x1.Idx) : ∃ t : Fin cfg0.N, (cfg0.win 16).flush t = true ∧ i ∈ ((cfg0.win 16).blk t).view.set := by
  obtain ⟨t, r, e⟩ := ix2_split i
  refine ⟨t, flush0_16 t, ?_⟩
  have h : ((cfg0.win 16).blk t).view.emb (ix2 r (i 1) : S512x1.Idx) = i :=
    (idx_block (pt t) (win0_16.rect t).toLoadRect (ix2 r (i 1) : S512x1.Idx) r (i 1) (index_16 t).1 (index_16 t).2 (fun _ => rfl) rfl rfl).trans e
  rw [← h]
  exact View.emb_mem_set _ _

/-! ## The arrays after the launch -/

theorem final_14 : (dat0 V c).arrAt 14 cfg0.N = featOf V c :=
  (dat0 V c).arrAt_eq_of_cover 14 (featOf V c) (fun t _ => flushed_14 V c t) cover_14
theorem final_15 : (dat0 V c).arrAt 15 cfg0.N = meanOf V c :=
  (dat0 V c).arrAt_eq_of_cover 15 (meanOf V c) (fun t _ => flushed_15 V c t) cover_15
theorem final_16 : (dat0 V c).arrAt 16 cfg0.N = logitOf V c :=
  (dat0 V c).arrAt_eq_of_cover 16 (logitOf V c) (fun t _ => flushed_16 V c t) cover_16

end Cert.Proof.Region0
-- ==== Proof.Region1.lean ====
/-
  What the kernel's second launch leaves: of each row of noise and weights, the position of the largest score.
-/
module

public import proofs.«01_k».proof.Proof.Least
public import proofs.«01_k».proof.Proof.Region0

@[expose] public section

noncomputable section

namespace Cert.Proof.Region1

open Idealize.ShloMosaic Idealize.ShloMosaic.TcCoe Idealize.SL.Sem
open Idealize.ShloMosaic.Pipeline (Dat)
open Cert.KernelIdeal Cert.KernelIdeal.Gen

/-- A vector of words as a column. -/
def upright (p : IVec S4096 32) : IVec S4096x1 32 := fun i => p (ValueIdx.ix1 (i 0))

theorem rows_upright (t : Fin 8) (p : IVec S4096 32) (r : Fin 512) (z : Fin 1) :
    rows t (upright p) (ValueIdx.ix2 r z) = p (ValueIdx.ix1 (rowAt t r)) := rfl

/-- The positions of the rows' largest scores, as a column. -/
def column (n : FVec Ideal S4096x4096 .f32) (w : FVec Ideal S4096 .f32) : IVec S4096x1 32 :=
  upright (Ref.pick (F := Ideal) (Ref.score (F := Ideal) n w))

/-- The scores of a block of rows are that block of the scores. -/
theorem score_rows (t : Fin 8) (n : FVec Ideal S4096x4096 .f32) (w : FVec Ideal S4096 .f32) (h : S4096.ShapeCasts S1x4096) :
    addf (F := Ideal) (φ := .f32) (rows t n) (broadcastTo S512x4096 (shapeCast S1x4096 w h) broadcasts_S1x4096_S512x4096)
      = rows t (Ref.score (F := Ideal) n w) :=
  congrArg (addf (F := Ideal) (φ := .f32) (rows t n)) (bias_rows t w h broadcasts_S1x4096_S512x4096
    Cert.ReferenceIdeal.Gen.bcast_S4096_S1x4096_1 Cert.ReferenceIdeal.Gen.bcast_S1x4096_S4096x4096_0_1)

/-- The kernel's choice over a block of scores. -/
theorem choice_rows (t : Fin 8) (n : FVec Ideal S4096x4096 .f32) (w : FVec Ideal S4096 .f32) (h : S4096.ShapeCasts S1x4096) :
    k1_pay1 (F := Ideal) (rows t n) (shapeCast S1x4096 w h) = rows t (column n w) := by
  funext i
  obtain ⟨r, z, rfl⟩ : ∃ (r : Fin 512) (z : Fin 1), i = ValueIdx.ix2 r z := ⟨i 0, i 1, ValueIdx.eq_ix2 i⟩
  unfold k1_pay1
  dsimp only
  rw [shapeCast_self, shapeCast_self, score_rows]
  have e : rows t (column n w) (ValueIdx.ix2 r z) = Ref.pick (F := Ideal) (Ref.score (F := Ideal) n w) (ValueIdx.ix1 (rowAt t r)) :=
    rows_upright t _ r z
  rw [e]
  refine First.unique (first_least (a := 512) (b := 4096) (rows t (Ref.score (F := Ideal) n w)) _ _ _ _ _ _ _ r z rfl) ?_
  exact first_pick (Ref.score (F := Ideal) n w) (rowAt t r)

/-! ## What each point writes back -/

/-- A grid point as the number of its block of rows. -/
abbrev pt (t : Fin grid1.N) : Fin 8 := ⟨t.val, by have := t.isLt; have h : grid1.N = 8 := N_1; omega⟩

theorem index_0 (t : Fin grid1.N) : win1_0.index t 0 * win1_0.size 0 = t.val * 512 ∧ win1_0.index t 1 * win1_0.size 1 = 0 := by
  rcases fin_N1 t with rfl | rfl | rfl | rfl | rfl | rfl | rfl | rfl <;> decide +kernel
theorem index_2 (t : Fin grid1.N) : win1_2.index t 0 * win1_2.size 0 = t.val * 512 ∧ win1_2.index t 1 * win1_2.size 1 = 0 := by
  rcases fin_N1 t with rfl | rfl | rfl | rfl | rfl | rfl | rfl | rfl <;> decide +kernel

theorem read_0 (t : Fin cfg1.N) (X : Vec Ideal S4096x4096 .f32) : ((cfg1.win 0).blk t).view.read (Elt Ideal) X = rows (pt t) X :=
  funext fun i => congrArg X (Region0.idx_block (pt t) (win1_0.rect t).toLoadRect i (i 0) (i 1) (index_0 t).1 (index_0 t).2 (fun _ => rfl) rfl rfl)
set_option maxRecDepth 20000 in
theorem read_1 (t : Fin cfg1.N) (X : Vec Ideal S1x4096 .f32) : ((cfg1.win 1).blk t).view.read (Elt Ideal) X = X :=
  funext fun i => congrArg X (Region0.idx_origin (win1_1.rect t).toLoadRect i i (fun a => match a with | ⟨0, _⟩ => rfl | ⟨1, _⟩ => rfl) (fun _ => rfl) fun _ => rfl)
theorem read_2 (t : Fin cfg1.N) (X : Vec Ideal S4096x1 .i32) : ((cfg1.win 2).blk t).view.read (Elt Ideal) X = rows (pt t) X :=
  funext fun i => congrArg X (Region0.idx_block (pt t) (win1_2.rect t).toLoadRect i (i 0) (i 1) (index_2 t).1 (index_2 t).2 (fun _ => rfl) rfl rfl)

theorem out_2 (x0 : Vec Ideal S512x4096 .f32) (x1 : Vec Ideal S1x4096 .f32) : out1_2 (F := Ideal) x0 x1 = k1_pay1 x0 x1 := by
  unfold out1_2
  rw [View.canon_unit_zero Region0.origin2, View.ld_unit_zero Region0.origin2, View.ld_unit_zero Region0.origin2]

theorem cut_2 (t : Fin grid1.N) (v : Vec Ideal S512x1 .i32) : (cfg1.win 2).cut (grid1.coords t) v = v := rfl

variable (V : (c : Dev nD) → (b : Ref sig .tc) → Buf (Elt Ideal) ((c : Thread nD τ).loc b)) (c : Dev nD)

theorem flushed_2 (n : FVec Ideal S4096x4096 .f32) (w : FVec Ideal S4096 .f32) (h : S4096.ShapeCasts S1x4096)
    (hn : V c main_v36 = n) (hw : V c main_v37 = shapeCast S1x4096 w h) (t : Fin cfg1.N) :
    (dat1 V c).flushed 2 t = ((cfg1.win 2).blk t).view.read (Elt Ideal) (column n w) := by
  refine Eq.trans ?_ (read_2 t (column n w)).symm
  refine Eq.trans (congrArg ((cfg1.win 2).cut (grid1.coords t)) (after1_2 V c t)) ((cut_2 t _).trans ?_)
  rw [out_2]
  have e0 : iblk1 V c 0 t = rows (pt t) n := (read_0 t (V c main_v36)).trans (congrArg (rows (pt t)) hn)
  have e1 : iblk1 V c 1 t = shapeCast S1x4096 w h := (read_1 t (V c main_v37)).trans hw
  rw [e0, e1]
  exact choice_rows (pt t) n w h

theorem ix2_split {n : Nat} (i : (⟨2, ![4096, n]⟩ : Shape).Idx) : ∃ (t : Fin grid1.N) (r : Fin 512), ValueIdx.ix2 (rowAt (pt t) r) (i 1) = i := by
  obtain ⟨t, r, e⟩ := Region0.ix2_split i
  have h0 : grid0.N = 8 := N_0
  have h1 : grid1.N = 8 := N_1
  exact ⟨⟨t.val, by have := t.isLt; omega⟩, r, e⟩

theorem cover_2 (i : S4096x1.Idx) : ∃ t : Fin cfg1.N, (cfg1.win 2).flush t = true ∧ i ∈ ((cfg1.win 2).blk t).view.set := by
  obtain ⟨t, r, e⟩ := ix2_split i
  refine ⟨t, flush1_2 t, ?_⟩
  have h : ((cfg1.win 2).blk t).view.emb (ValueIdx.ix2 r (i 1) : S512x1.Idx) = i :=
    (Region0.idx_block (pt t) (win1_2.rect t).toLoadRect (ValueIdx.ix2 r (i 1) : S512x1.Idx) r (i 1) (index_2 t).1 (index_2 t).2 (fun _ => rfl) rfl rfl).trans e
  rw [← h]
  exact View.emb_mem_set _ _

/-- The column the launch leaves, of the noise and the reshaped weights it finds. -/
theorem final_2 (n : FVec Ideal S4096x4096 .f32) (w : FVec Ideal S4096 .f32) (h : S4096.ShapeCasts S1x4096)
    (hn : V c main_v36 = n) (hw : V c main_v37 = shapeCast S1x4096 w h) : (dat1 V c).arrAt 2 cfg1.N = column n w :=
  (dat1 V c).arrAt_eq_of_cover 2 (column n w) (fun t _ => flushed_2 V c n w h hn hw t) cover_2

theorem flat_cast {α : Type} {a : Nat} (x : (⟨2, ![a, 1]⟩ : Shape).Idx → α) (h : (⟨2, ![a, 1]⟩ : Shape).ShapeCasts ⟨1, ![a]⟩) (r : Fin a) :
    shapeCast ⟨1, ![a]⟩ x h (ValueIdx.ix1 r) = x (ValueIdx.ix2 r (0 : Fin 1)) :=
  shapeCast_apply x h _ _ (by
    rw [Shape.rowMajor_val_two, Shape.rowMajor_val_one]
    show r.val * 1 + 0 = r.val
    omega)

/-- A column, reshaped to a vector, is the vector. -/
theorem upright_cast (p : IVec S4096 32) (h : S4096x1.ShapeCasts S4096) : shapeCast S4096 (upright p) h = p := by
  funext i
  obtain ⟨r, rfl⟩ : ∃ r : Fin 4096, i = ValueIdx.ix1 r := ⟨i 0, ValueIdx.eq_ix1 i⟩
  exact flat_cast (upright p) h r

end Cert.Proof.Region1
-- ==== Proof.Chain.lean ====
/-
  The stretches of host operations the kernel's program and the reference share, carried across side by side: from equal
  tensors going in, equal tensors coming out.
-/
module

public import proofs.«01_k».proof.Proof.Sim
public import proofs.«01_k».proof.Proof.RefRun
public import proofs.«01_k».proof.Proof.Gen.KernelIdeal.Launch

@[expose] public section

set_option maxRecDepth 8000

noncomputable section

namespace Cert.Proof

open Idealize.ShloMosaic Idealize.ShloMosaic.StableHlo
open Cert.KernelIdeal.Gen (hostOps1 hostOps1_1 hostOps1_2 hostOps1_3 hostOps1_4 hostOps2 hostOps2_1 hostOps2_2 hostOps2_3)
open Cert.Proof.Ref (refA refB refC refD refE refF0 refF1 refG refH refI refJ refK refL)

variable {F : FTy → Type} [FloatOps F]

/-- A pair of a reference of the kernel's program and one of the reference's. -/
abbrev Pair := Ref Cert.KernelIdeal.sig .tc × Ref Cert.ReferenceIdeal.sig .tc

set_option backward.isDefEq.respectTransparency.types false in
set_option maxHeartbeats 4000000 in
/-- The squared distance of the means from the query, and its exponential. -/
theorem sim_dist : Sim (τ := Cert.KernelIdeal.τ) (Val := Elt F)
    [((Cert.KernelIdeal.main_v1_0, Cert.ReferenceIdeal.main_v9) : Pair),
      (Cert.KernelIdeal.main_v1_1, Cert.ReferenceIdeal.main_v18),
      (Cert.KernelIdeal.main_arg0, Cert.ReferenceIdeal.main_arg0),
      (Cert.KernelIdeal.main_arg1, Cert.ReferenceIdeal.main_arg1)]
    (hostOps1.take 12) refB
    [((Cert.KernelIdeal.main_v10, Cert.ReferenceIdeal.main_v27) : Pair),
      (Cert.KernelIdeal.main_v1_0, Cert.ReferenceIdeal.main_v9),
      (Cert.KernelIdeal.main_arg1, Cert.ReferenceIdeal.main_arg1)] := by
  dsimp only [hostOps1, refB, List.take]
  repeat (first
    | (with_reducible refine Sim.unary ?_ ?_ ?_ ?_ ?_ ?_) <;> [decide +kernel; rfl; exact HEq.rfl; decide +kernel; decide +kernel; skip]
    | (with_reducible refine Sim.binary ?_ ?_ ?_ ?_ ?_ ?_ ?_ ?_) <;> [decide +kernel; decide +kernel; rfl; rfl; exact HEq.rfl; decide +kernel; decide +kernel; skip]
    | (with_reducible refine Sim.nullary ?_ ?_ ?_ ?_) <;> [exact HEq.rfl; decide +kernel; decide +kernel; skip]
    | (with_reducible refine Sim.reshape ?_ ?_ ?_ ?_ ?_ ?_) <;> [decide +kernel; rfl; rfl; decide +kernel; decide +kernel; skip]
    | exact Sim.refl (by decide +kernel))

set_option backward.isDefEq.respectTransparency.types false in
set_option maxHeartbeats 4000000 in
/-- The logit head touches nothing carried. -/
theorem sim_skip : Sim (τ := Cert.KernelIdeal.τ) (Val := Elt F)
    [((Cert.KernelIdeal.main_v10, Cert.ReferenceIdeal.main_v27) : Pair),
      (Cert.KernelIdeal.main_v1_0, Cert.ReferenceIdeal.main_v9),
      (Cert.KernelIdeal.main_arg1, Cert.ReferenceIdeal.main_arg1)]
    [] refC
    [((Cert.KernelIdeal.main_v10, Cert.ReferenceIdeal.main_v27) : Pair),
      (Cert.KernelIdeal.main_v1_0, Cert.ReferenceIdeal.main_v9),
      (Cert.KernelIdeal.main_arg1, Cert.ReferenceIdeal.main_arg1)] := by
  dsimp only [refC]
  repeat refine Sim.right rfl (by decide +kernel) ?_
  exact Sim.refl (by decide +kernel)

set_option backward.isDefEq.respectTransparency.types false in
set_option maxHeartbeats 4000000 in
/-- The two candidate weightings. -/
theorem sim_weights : Sim (τ := Cert.KernelIdeal.τ) (Val := Elt F)
    [((Cert.KernelIdeal.main_v1_2, Cert.ReferenceIdeal.main_v36) : Pair),
      (Cert.KernelIdeal.main_v10, Cert.ReferenceIdeal.main_v27),
      (Cert.KernelIdeal.main_v1_0, Cert.ReferenceIdeal.main_v9),
      (Cert.KernelIdeal.main_arg1, Cert.ReferenceIdeal.main_arg1)]
    (hostOps1.drop 12) refD
    [((Cert.KernelIdeal.main_v16, Cert.ReferenceIdeal.main_v42) : Pair),
      (Cert.KernelIdeal.main_v18, Cert.ReferenceIdeal.main_v44),
      (Cert.KernelIdeal.main_v21, Cert.ReferenceIdeal.main_v47),
      (Cert.KernelIdeal.main_v1_0, Cert.ReferenceIdeal.main_v9),
      (Cert.KernelIdeal.main_arg1, Cert.ReferenceIdeal.main_arg1)] := by
  dsimp only [hostOps1, refD, List.drop]
  repeat (first
    | (with_reducible refine Sim.unary ?_ ?_ ?_ ?_ ?_ ?_) <;> [decide +kernel; rfl; exact HEq.rfl; decide +kernel; decide +kernel; skip]
    | (with_reducible refine Sim.binary ?_ ?_ ?_ ?_ ?_ ?_ ?_ ?_) <;> [decide +kernel; decide +kernel; rfl; rfl; exact HEq.rfl; decide +kernel; decide +kernel; skip]
    | (with_reducible refine Sim.nullary ?_ ?_ ?_ ?_) <;> [exact HEq.rfl; decide +kernel; decide +kernel; skip]
    | (with_reducible refine Sim.reshape ?_ ?_ ?_ ?_ ?_ ?_) <;> [decide +kernel; rfl; rfl; decide +kernel; decide +kernel; skip]
    | exact Sim.refl (by decide +kernel))

set_option backward.isDefEq.respectTransparency.types false in
set_option maxHeartbeats 4000000 in
/-- The choice of weighting. -/
theorem sim_where : Sim (τ := Cert.KernelIdeal.τ) (Val := Elt F)
    [((Cert.KernelIdeal.main_v16, Cert.ReferenceIdeal.main_v42) : Pair),
      (Cert.KernelIdeal.main_v18, Cert.ReferenceIdeal.main_v44),
      (Cert.KernelIdeal.main_v21, Cert.ReferenceIdeal.main_v47),
      (Cert.KernelIdeal.main_v1_0, Cert.ReferenceIdeal.main_v9),
      (Cert.KernelIdeal.main_arg1, Cert.ReferenceIdeal.main_arg1)]
    hostOps1_1 refE
    [((Cert.KernelIdeal.main_v22, Cert.ReferenceIdeal.main_v48) : Pair),
      (Cert.KernelIdeal.main_v1_0, Cert.ReferenceIdeal.main_v9),
      (Cert.KernelIdeal.main_arg1, Cert.ReferenceIdeal.main_arg1)] := by
  dsimp only [hostOps1_1, refE]
  repeat (first
    | (with_reducible refine Sim.tunary ?_ ?_ ?_ ?_ ?_) <;> [decide +kernel; rfl; decide +kernel; decide +kernel; skip]
    | (with_reducible refine Sim.tbinary ?_ ?_ ?_ ?_ ?_ ?_) <;> [decide +kernel; decide +kernel; rfl; decide +kernel; decide +kernel; skip]
    | (with_reducible refine Sim.tnullary ?_ ?_ ?_ ?_) <;> [rfl; decide +kernel; decide +kernel; skip]
    | (with_reducible refine Sim.reshape ?_ ?_ ?_ ?_ ?_ ?_) <;> [decide +kernel; rfl; rfl; decide +kernel; decide +kernel; skip]
    | (with_reducible refine Sim.tternary ?_ ?_ ?_ ?_ ?_ ?_ ?_) <;> [decide +kernel; decide +kernel; decide +kernel; rfl; decide +kernel; decide +kernel; skip]
    | exact Sim.refl (by decide +kernel))

set_option backward.isDefEq.respectTransparency.types false in
set_option maxHeartbeats 4000000 in
/-- The logarithms of the normalised weights. -/
theorem sim_log : Sim (τ := Cert.KernelIdeal.τ) (Val := Elt F)
    [((Cert.KernelIdeal.main_v22, Cert.ReferenceIdeal.main_v48) : Pair),
      (Cert.KernelIdeal.main_v1_0, Cert.ReferenceIdeal.main_v9),
      (Cert.KernelIdeal.main_arg1, Cert.ReferenceIdeal.main_arg1)]
    hostOps1_2 (refF0 ++ refF1)
    [((Cert.KernelIdeal.main_v28, Cert.ReferenceIdeal.main_v61) : Pair),
      (Cert.KernelIdeal.main_v1_0, Cert.ReferenceIdeal.main_v9),
      (Cert.KernelIdeal.main_arg1, Cert.ReferenceIdeal.main_arg1)] := by
  dsimp only [hostOps1_2, refF0, refF1, List.cons_append, List.nil_append]
  iterate 4 (first
    | (with_reducible refine Sim.binary ?_ ?_ ?_ ?_ ?_ ?_ ?_ ?_) <;> [decide +kernel; decide +kernel; rfl; rfl; exact HEq.rfl; decide +kernel; decide +kernel; skip]
    | (with_reducible refine Sim.unary ?_ ?_ ?_ ?_ ?_ ?_) <;> [decide +kernel; rfl; exact HEq.rfl; decide +kernel; decide +kernel; skip]
    | (with_reducible refine Sim.nullary ?_ ?_ ?_ ?_) <;> [exact HEq.rfl; decide +kernel; decide +kernel; skip])
  iterate 10 refine Sim.right rfl (by decide +kernel) ?_
  iterate 4 (first
    | (with_reducible refine Sim.unary ?_ ?_ ?_ ?_ ?_ ?_) <;> [decide +kernel; rfl; exact HEq.rfl; decide +kernel; decide +kernel; skip]
    | (with_reducible refine Sim.binary ?_ ?_ ?_ ?_ ?_ ?_ ?_ ?_) <;> [decide +kernel; decide +kernel; rfl; rfl; exact HEq.rfl; decide +kernel; decide +kernel; skip]
    | (with_reducible refine Sim.nullary ?_ ?_ ?_ ?_) <;> [exact HEq.rfl; decide +kernel; decide +kernel; skip]
    | (with_reducible refine Sim.reshape ?_ ?_ ?_ ?_ ?_ ?_) <;> [decide +kernel; rfl; rfl; decide +kernel; decide +kernel; skip])
  iterate 10 refine Sim.left rfl (by decide +kernel) ?_
  exact Sim.refl (by decide +kernel)

set_option backward.isDefEq.respectTransparency.types false in
set_option maxHeartbeats 4000000 in
/-- The seed words. -/
theorem sim_seed : Sim (τ := Cert.KernelIdeal.τ) (Val := Elt F)
    [((Cert.KernelIdeal.main_v22, Cert.ReferenceIdeal.main_v48) : Pair),
      (Cert.KernelIdeal.main_v1_0, Cert.ReferenceIdeal.main_v9),
      (Cert.KernelIdeal.main_arg1, Cert.ReferenceIdeal.main_arg1)]
    hostOps1_2 (refF0 ++ refF1)
    [((Cert.KernelIdeal.main_v35, Cert.ReferenceIdeal.main_v58) : Pair)] := by
  dsimp only [hostOps1_2, refF0, refF1, List.cons_append, List.nil_append]
  iterate 8 refine Sim.left rfl (by decide +kernel) ?_
  iterate 4 refine Sim.right rfl (by decide +kernel) ?_
  iterate 10 (first
    | (with_reducible refine Sim.unary ?_ ?_ ?_ ?_ ?_ ?_) <;> [decide +kernel; rfl; exact HEq.rfl; decide +kernel; decide +kernel; skip]
    | (with_reducible refine Sim.binary ?_ ?_ ?_ ?_ ?_ ?_ ?_ ?_) <;> [decide +kernel; decide +kernel; rfl; rfl; exact HEq.rfl; decide +kernel; decide +kernel; skip]
    | (with_reducible refine Sim.nullary ?_ ?_ ?_ ?_) <;> [exact HEq.rfl; decide +kernel; decide +kernel; skip]
    | (with_reducible refine Sim.reshape ?_ ?_ ?_ ?_ ?_ ?_) <;> [decide +kernel; rfl; rfl; decide +kernel; decide +kernel; skip])
  iterate 4 refine Sim.right rfl (by decide +kernel) ?_
  exact Sim.refl (by decide +kernel)

set_option backward.isDefEq.respectTransparency.types false in
set_option maxHeartbeats 4000000 in
/-- The noise table. -/
theorem sim_noise : Sim (τ := Cert.KernelIdeal.τ) (Val := Elt F)
    [((Cert.KernelIdeal.main_v35, Cert.ReferenceIdeal.main_v58) : Pair),
      (Cert.KernelIdeal.main_v28, Cert.ReferenceIdeal.main_v61),
      (Cert.KernelIdeal.main_v1_0, Cert.ReferenceIdeal.main_v9),
      (Cert.KernelIdeal.main_arg1, Cert.ReferenceIdeal.main_arg1)]
    hostOps1_3 refG
    [((Cert.KernelIdeal.main_v36, Cert.ReferenceIdeal.main_v62) : Pair),
      (Cert.KernelIdeal.main_v28, Cert.ReferenceIdeal.main_v61),
      (Cert.KernelIdeal.main_v1_0, Cert.ReferenceIdeal.main_v9),
      (Cert.KernelIdeal.main_arg1, Cert.ReferenceIdeal.main_arg1)] := by
  dsimp only [hostOps1_3, refG]
  repeat (first
    | (with_reducible refine Sim.tunary ?_ ?_ ?_ ?_ ?_) <;> [decide +kernel; rfl; decide +kernel; decide +kernel; skip]
    | (with_reducible refine Sim.tbinary ?_ ?_ ?_ ?_ ?_ ?_) <;> [decide +kernel; decide +kernel; rfl; decide +kernel; decide +kernel; skip]
    | (with_reducible refine Sim.tnullary ?_ ?_ ?_ ?_) <;> [rfl; decide +kernel; decide +kernel; skip]
    | (with_reducible refine Sim.reshape ?_ ?_ ?_ ?_ ?_ ?_) <;> [decide +kernel; rfl; rfl; decide +kernel; decide +kernel; skip]
    | (with_reducible refine Sim.tternary ?_ ?_ ?_ ?_ ?_ ?_ ?_) <;> [decide +kernel; decide +kernel; decide +kernel; rfl; decide +kernel; decide +kernel; skip]
    | exact Sim.refl (by decide +kernel))

set_option backward.isDefEq.respectTransparency.types false in
set_option maxHeartbeats 4000000 in
/-- The gathered features. -/
theorem sim_take : Sim (τ := Cert.KernelIdeal.τ) (Val := Elt F)
    [((Cert.KernelIdeal.main_v39, Cert.ReferenceIdeal.main_v66) : Pair),
      (Cert.KernelIdeal.main_v1_0, Cert.ReferenceIdeal.main_v9),
      (Cert.KernelIdeal.main_arg1, Cert.ReferenceIdeal.main_arg1)]
    hostOps2_1 refJ
    [((Cert.KernelIdeal.main_v40, Cert.ReferenceIdeal.main_v67) : Pair),
      (Cert.KernelIdeal.main_v39, Cert.ReferenceIdeal.main_v66),
      (Cert.KernelIdeal.main_arg1, Cert.ReferenceIdeal.main_arg1)] := by
  dsimp only [hostOps2_1, refJ]
  repeat (first
    | (with_reducible refine Sim.tunary ?_ ?_ ?_ ?_ ?_) <;> [decide +kernel; rfl; decide +kernel; decide +kernel; skip]
    | (with_reducible refine Sim.tbinary ?_ ?_ ?_ ?_ ?_ ?_) <;> [decide +kernel; decide +kernel; rfl; decide +kernel; decide +kernel; skip]
    | (with_reducible refine Sim.tnullary ?_ ?_ ?_ ?_) <;> [rfl; decide +kernel; decide +kernel; skip]
    | (with_reducible refine Sim.reshape ?_ ?_ ?_ ?_ ?_ ?_) <;> [decide +kernel; rfl; rfl; decide +kernel; decide +kernel; skip]
    | (with_reducible refine Sim.tternary ?_ ?_ ?_ ?_ ?_ ?_ ?_) <;> [decide +kernel; decide +kernel; decide +kernel; rfl; decide +kernel; decide +kernel; skip]
    | exact Sim.refl (by decide +kernel))

set_option backward.isDefEq.respectTransparency.types false in
set_option maxHeartbeats 4000000 in
/-- The gathered inputs. -/
theorem sim_take_1 : Sim (τ := Cert.KernelIdeal.τ) (Val := Elt F)
    [((Cert.KernelIdeal.main_v40, Cert.ReferenceIdeal.main_v67) : Pair),
      (Cert.KernelIdeal.main_v39, Cert.ReferenceIdeal.main_v66),
      (Cert.KernelIdeal.main_arg1, Cert.ReferenceIdeal.main_arg1)]
    hostOps2_2 refK
    [((Cert.KernelIdeal.main_v41, Cert.ReferenceIdeal.main_v68) : Pair),
      (Cert.KernelIdeal.main_v40, Cert.ReferenceIdeal.main_v67)] := by
  dsimp only [hostOps2_2, refK]
  repeat (first
    | (with_reducible refine Sim.tunary ?_ ?_ ?_ ?_ ?_) <;> [decide +kernel; rfl; decide +kernel; decide +kernel; skip]
    | (with_reducible refine Sim.tbinary ?_ ?_ ?_ ?_ ?_ ?_) <;> [decide +kernel; decide +kernel; rfl; decide +kernel; decide +kernel; skip]
    | (with_reducible refine Sim.tnullary ?_ ?_ ?_ ?_) <;> [rfl; decide +kernel; decide +kernel; skip]
    | (with_reducible refine Sim.reshape ?_ ?_ ?_ ?_ ?_ ?_) <;> [decide +kernel; rfl; rfl; decide +kernel; decide +kernel; skip]
    | (with_reducible refine Sim.tternary ?_ ?_ ?_ ?_ ?_ ?_ ?_) <;> [decide +kernel; decide +kernel; decide +kernel; rfl; decide +kernel; decide +kernel; skip]
    | exact Sim.refl (by decide +kernel))

set_option backward.isDefEq.respectTransparency.types false in
set_option maxHeartbeats 4000000 in
/-- The result. -/
theorem sim_result : Sim (τ := Cert.KernelIdeal.τ) (Val := Elt F)
    [((Cert.KernelIdeal.main_v41, Cert.ReferenceIdeal.main_v68) : Pair),
      (Cert.KernelIdeal.main_v40, Cert.ReferenceIdeal.main_v67)]
    hostOps2_3 refL
    [((Cert.KernelIdeal.main_v43, Cert.ReferenceIdeal.main_v70) : Pair)] := by
  dsimp only [hostOps2_3, refL]
  repeat (first
    | (with_reducible refine Sim.unary ?_ ?_ ?_ ?_ ?_ ?_) <;> [decide +kernel; rfl; exact HEq.rfl; decide +kernel; decide +kernel; skip]
    | (with_reducible refine Sim.binary ?_ ?_ ?_ ?_ ?_ ?_ ?_ ?_) <;> [decide +kernel; decide +kernel; rfl; rfl; exact HEq.rfl; decide +kernel; decide +kernel; skip]
    | (with_reducible refine Sim.nullary ?_ ?_ ?_ ?_) <;> [exact HEq.rfl; decide +kernel; decide +kernel; skip]
    | (with_reducible refine Sim.reshape ?_ ?_ ?_ ?_ ?_ ?_) <;> [decide +kernel; rfl; rfl; decide +kernel; decide +kernel; skip]
    | exact Sim.refl (by decide +kernel))

end Cert.Proof

end
-- ==== Proof.Front.lean ====
/-
  The two programs after the kernel's first launch: features, means and logits agree.
-/
module

public import proofs.«01_k».proof.Proof.Region1
public import proofs.«01_k».proof.Proof.Chain

@[expose] public section

set_option maxRecDepth 8000

noncomputable section

namespace Cert.Proof

open Idealize.ShloMosaic Idealize.ShloMosaic.TcCoe Idealize.ShloMosaic.StableHlo Idealize.SL.Sem
open Cert.KernelIdeal Cert.KernelIdeal.Gen
open Cert.Proof.Ref (refA refB refC refD refE refF0 refF1 refG refH refI refJ refK refL ops)

/-- Contents of the reference's device. -/
abbrev RVal := Valuation Cert.ReferenceIdeal.τ Cert.ReferenceIdeal.sig (Elt Ideal)

/-! ## What the reference's stretches leave alone -/

/-- A line that writes no argument leaves each argument as it was. -/
theorem stage_keeps {l : List (HloOp Cert.ReferenceIdeal.τ Cert.ReferenceIdeal.sig (Elt Ideal))} (hl : Ref.Stage l) (V : RVal)
    {r : Ref Cert.ReferenceIdeal.sig .tc} (hr : r ∈ Ref.argRefs) : after l V (Proc.devRef .tc r) = V (Proc.devRef .tc r) :=
  after_of_forall_not_mem _ V fun op hop hb => by
    obtain ⟨y, hw, hy⟩ := (hl op hop).writes
    rw [hw, Finset.mem_singleton] at hb
    exact hy (Proc.devRef_injective _ hb ▸ hr)

theorem stage_A : Ref.Stage (F := Ideal) refA := fun op h => Ref.ops_stage op (List.mem_append_left _ h)
theorem stage_rest : Ref.Stage (F := Ideal) (refB ++ (refC ++ (refD ++ (refE ++ (refF0 ++ (refF1 ++ (refG ++ (refH ++ (refI ++ (refJ ++ (refK ++ refL))))))))))) :=
  fun op h => Ref.ops_stage op (List.mem_append_right _ h)
theorem stage_B : Ref.Stage (F := Ideal) refB := fun op h => stage_rest op (List.mem_append_left _ h)
theorem stage_H : Ref.Stage (F := Ideal) refH := fun op h => stage_rest op (by
  iterate 7 refine List.mem_append_right _ ?_
  exact List.mem_append_left _ h)
theorem stage_I : Ref.Stage (F := Ideal) refI := fun op h => stage_rest op (by
  iterate 8 refine List.mem_append_right _ ?_
  exact List.mem_append_left _ h)

set_option backward.isDefEq.respectTransparency.types false in
set_option maxHeartbeats 4000000 in
theorem keeps_B (u : FVec Ideal Cert.ReferenceIdeal.S4096x64 .f32) :
    Reads (τ := Cert.ReferenceIdeal.τ) [(⟨Cert.ReferenceIdeal.main_v9, u⟩ : Ref.H Ideal)] refB [(⟨Cert.ReferenceIdeal.main_v9, u⟩ : Ref.H Ideal)] := by
  dsimp only [refB]
  repeat refine Reads.skip rfl (by show (_ : Bool) = _; chain_rfl) ?_
  exact Reads.refl fun _ h => h

set_option backward.isDefEq.respectTransparency.types false in
set_option maxHeartbeats 4000000 in
theorem keeps_H (u : FVec Ideal Cert.ReferenceIdeal.S4096x64 .f32) :
    Reads (τ := Cert.ReferenceIdeal.τ) [(⟨Cert.ReferenceIdeal.main_v9, u⟩ : Ref.H Ideal)] refH [(⟨Cert.ReferenceIdeal.main_v9, u⟩ : Ref.H Ideal)] := by
  dsimp only [refH]
  repeat refine Reads.skip rfl (by show (_ : Bool) = _; chain_rfl) ?_
  exact Reads.refl fun _ h => h

set_option backward.isDefEq.respectTransparency.types false in
set_option maxHeartbeats 4000000 in
theorem keeps_I (u : FVec Ideal Cert.ReferenceIdeal.S4096x64 .f32) :
    Reads (τ := Cert.ReferenceIdeal.τ) [(⟨Cert.ReferenceIdeal.main_v9, u⟩ : Ref.H Ideal)] refI [(⟨Cert.ReferenceIdeal.main_v9, u⟩ : Ref.H Ideal)] := by
  dsimp only [refI]
  repeat refine Reads.skip rfl (by show (_ : Bool) = _; chain_rfl) ?_
  exact Reads.refl fun _ h => h

/-- Two contents equal to one tensor are the same tensor. -/
theorem heq_through {α β : Type} {a : α} {b b' : β} (h : HEq a b') (e : b = b') : HEq a b := by subst e; exact h

/-! ## After the first launch -/

variable (m : (ℓ : Loc nD τ sig) → Buf (Elt Ideal) ℓ) (ρ : Dev nD → PrngReg) (c : Dev nD) (U : RVal)
  (x0 : FVec Ideal S1x128 .f32) (x1 : FVec Ideal S4096x51x64 .f32) (x2 : FVec Ideal S3264x512 .f32) (x3 : FVec Ideal S512 .f32)
  (x4 : FVec Ideal S512x64 .f32) (x5 : FVec Ideal S64 .f32) (x6 : FVec Ideal S64x256 .f32) (x7 : FVec Ideal S256 .f32)
  (x8 : FVec Ideal S256x1 .f32) (x9 : FVec Ideal S1 .f32) (x10 : FVec Ideal S64x256 .f32) (x11 : FVec Ideal S256 .f32)
  (x12 : FVec Ideal S256x128 .f32) (x13 : FVec Ideal S128 .f32)

/-- The arguments the kernel is launched with. -/
structure KArgs : Prop where
  a0 : m ((c : Thread nD τ).loc main_arg0) = x0
  a1 : m ((c : Thread nD τ).loc main_arg1) = x1
  a2 : m ((c : Thread nD τ).loc main_arg2) = x2
  a3 : m ((c : Thread nD τ).loc main_arg3) = x3
  a4 : m ((c : Thread nD τ).loc main_arg4) = x4
  a5 : m ((c : Thread nD τ).loc main_arg5) = x5
  a6 : m ((c : Thread nD τ).loc main_arg6) = x6
  a7 : m ((c : Thread nD τ).loc main_arg7) = x7
  a8 : m ((c : Thread nD τ).loc main_arg8) = x8
  a9 : m ((c : Thread nD τ).loc main_arg9) = x9
  a10 : m ((c : Thread nD τ).loc main_arg10) = x10
  a11 : m ((c : Thread nD τ).loc main_arg11) = x11
  a12 : m ((c : Thread nD τ).loc main_arg12) = x12
  a13 : m ((c : Thread nD τ).loc main_arg13) = x13

/-- The same arguments, as the reference is launched with them. -/
structure RArgs : Prop where
  a0 : U (Proc.devRef .tc Cert.ReferenceIdeal.main_arg0) = x0
  a1 : U (Proc.devRef .tc Cert.ReferenceIdeal.main_arg1) = x1
  a2 : U (Proc.devRef .tc Cert.ReferenceIdeal.main_arg2) = x2
  a3 : U (Proc.devRef .tc Cert.ReferenceIdeal.main_arg3) = x3
  a4 : U (Proc.devRef .tc Cert.ReferenceIdeal.main_arg4) = x4
  a5 : U (Proc.devRef .tc Cert.ReferenceIdeal.main_arg5) = x5
  a6 : U (Proc.devRef .tc Cert.ReferenceIdeal.main_arg6) = x6
  a7 : U (Proc.devRef .tc Cert.ReferenceIdeal.main_arg7) = x7
  a8 : U (Proc.devRef .tc Cert.ReferenceIdeal.main_arg8) = x8
  a9 : U (Proc.devRef .tc Cert.ReferenceIdeal.main_arg9) = x9
  a10 : U (Proc.devRef .tc Cert.ReferenceIdeal.main_arg10) = x10
  a11 : U (Proc.devRef .tc Cert.ReferenceIdeal.main_arg11) = x11
  a12 : U (Proc.devRef .tc Cert.ReferenceIdeal.main_arg12) = x12
  a13 : U (Proc.devRef .tc Cert.ReferenceIdeal.main_arg13) = x13

variable {m ρ c U x0 x1 x2 x3 x4 x5 x6 x7 x8 x9 x10 x11 x12 x13}

/-- An argument at the first launch. -/
theorem entry_arg {r : Ref sig .tc} (hr : r ∈ argRefs) {v : r.ty.Contents (Elt Ideal)} (h : m ((c : Thread nD τ).loc r) = v) :
    V1 m ρ c r = v := (W1_args m ρ c r hr).trans h

set_option backward.isDefEq.respectTransparency.types false in
theorem reads_flat (x1 : FVec Ideal S4096x51x64 .f32) : Reads (τ := τ) [(⟨main_arg1, x1⟩ : Held sig (Elt Ideal))] hostOps0
    [(⟨main_v0, shapeCast S4096x3264 x1 shapeCasts_S4096x51x64_S4096x3264⟩ : Held sig (Elt Ideal))] := by
  dsimp only [hostOps0]
  refine Reads.reshape List.mem_cons_self (by show (_ : Bool) = _; chain_rfl) ?_
  exact Reads.refl (sub_cons List.mem_cons_self sub_nil)

/-- The flattened windows at the first launch. -/
theorem entry_flat (h : m ((c : Thread nD τ).loc main_arg1) = x1) :
    V1 m ρ c main_v0 = shapeCast S4096x3264 x1 shapeCasts_S4096x51x64_S4096x3264 :=
  reads_flat x1 (W0 m ρ c) (.cons h .nil) _ List.mem_cons_self

/-- The features, as one function of the arguments. -/
abbrev feats (x1 : FVec Ideal S4096x51x64 .f32) (x2 : FVec Ideal S3264x512 .f32) (x3 : FVec Ideal S512 .f32)
    (x4 : FVec Ideal S512x64 .f32) (x5 : FVec Ideal S64 .f32) : FVec Ideal S4096x64 .f32 :=
  Ref.feat (F := Ideal) (shapeCast S4096x3264 x1 shapeCasts_S4096x51x64_S4096x3264) x2 x3 x4 x5

theorem feats_eq (h : KArgs m c x0 x1 x2 x3 x4 x5 x6 x7 x8 x9 x10 x11 x12 x13) :
    Region0.featOf (V1 m ρ) c = feats x1 x2 x3 x4 x5 := by
  unfold Region0.featOf
  rw [entry_flat h.a1, entry_arg (r := main_arg2) (by decide) h.a2, entry_arg (r := main_arg3) (by decide) h.a3,
    entry_arg (r := main_arg4) (by decide) h.a4, entry_arg (r := main_arg5) (by decide) h.a5]

theorem W2_feat (h : KArgs m c x0 x1 x2 x3 x4 x5 x6 x7 x8 x9 x10 x11 x12 x13) :
    W2 m ρ c (Proc.devRef .tc main_v1_0) = feats x1 x2 x3 x4 x5 :=
  (W2_arr m ρ c 14).trans ((Region0.final_14 (V1 m ρ) c).trans (feats_eq h))

theorem W2_mean (h : KArgs m c x0 x1 x2 x3 x4 x5 x6 x7 x8 x9 x10 x11 x12 x13) :
    W2 m ρ c (Proc.devRef .tc main_v1_1) = Ref.mean (F := Ideal) (feats x1 x2 x3 x4 x5) x10 x11 x12 x13 := by
  refine (W2_arr m ρ c 15).trans ((Region0.final_15 (V1 m ρ) c).trans ?_)
  unfold Region0.meanOf
  rw [feats_eq h, entry_arg (r := main_arg10) (by decide) h.a10, entry_arg (r := main_arg11) (by decide) h.a11,
    entry_arg (r := main_arg12) (by decide) h.a12, entry_arg (r := main_arg13) (by decide) h.a13]

theorem W2_logit (h : KArgs m c x0 x1 x2 x3 x4 x5 x6 x7 x8 x9 x10 x11 x12 x13) :
    W2 m ρ c (Proc.devRef .tc main_v1_2) = Ref.logit (F := Ideal) (feats x1 x2 x3 x4 x5) x6 x7 x8 x9 := by
  refine (W2_arr m ρ c 16).trans ((Region0.final_16 (V1 m ρ) c).trans ?_)
  unfold Region0.logitOf
  rw [feats_eq h, entry_arg (r := main_arg6) (by decide) h.a6, entry_arg (r := main_arg7) (by decide) h.a7,
    entry_arg (r := main_arg8) (by decide) h.a8, entry_arg (r := main_arg9) (by decide) h.a9]

/-- What the reference's first stretch leaves. -/
theorem after_A (h : RArgs U x0 x1 x2 x3 x4 x5 x6 x7 x8 x9 x10 x11 x12 x13) :
    Knows [(⟨Cert.ReferenceIdeal.main_v9, feats x1 x2 x3 x4 x5⟩ : Ref.H Ideal),
      ⟨Cert.ReferenceIdeal.main_v18, Ref.mean (F := Ideal) (feats x1 x2 x3 x4 x5) x10 x11 x12 x13⟩,
      ⟨Cert.ReferenceIdeal.main_arg0, x0⟩, ⟨Cert.ReferenceIdeal.main_arg1, x1⟩] (after refA U) :=
  Ref.reads_heads (F := Ideal) x0 x1 x2 x3 x4 x5 x10 x11 x12 x13 U
    (.cons h.a0 (.cons h.a1 (.cons h.a2 (.cons h.a3 (.cons h.a4 (.cons h.a5 (.cons h.a10 (.cons h.a11 (.cons h.a12 (.cons h.a13 .nil))))))))))

/-- Features, means and the two arguments still read agree. -/
theorem front (hk : KArgs m c x0 x1 x2 x3 x4 x5 x6 x7 x8 x9 x10 x11 x12 x13) (hr : RArgs U x0 x1 x2 x3 x4 x5 x6 x7 x8 x9 x10 x11 x12 x13) :
    Agree (τ := τ) [((main_v1_0, Cert.ReferenceIdeal.main_v9) : Pair), (main_v1_1, Cert.ReferenceIdeal.main_v18),
      (main_arg0, Cert.ReferenceIdeal.main_arg0), (main_arg1, Cert.ReferenceIdeal.main_arg1)] (W2 m ρ c) (after refA U) := by
  have k := after_A hr
  refine .cons (heq_through (heq_of_eq (W2_feat hk)) (k _ List.mem_cons_self)) (.cons (heq_through (heq_of_eq (W2_mean hk)) (k _ (List.mem_cons_of_mem _ List.mem_cons_self)))
    (.cons (heq_through (heq_of_eq ?_) (k _ (List.mem_cons_of_mem _ (List.mem_cons_of_mem _ List.mem_cons_self))))
      (.cons (heq_through (heq_of_eq ?_) (k _ (List.mem_cons_of_mem _ (List.mem_cons_of_mem _ (List.mem_cons_of_mem _ List.mem_cons_self))))) .nil)))
  · exact (W2_args m ρ c main_arg0 (by decide)).trans hk.a0
  · exact (W2_args m ρ c main_arg1 (by decide)).trans hk.a1

/-- The logits agree, once the reference has computed its own. -/
theorem front_logit (hk : KArgs m c x0 x1 x2 x3 x4 x5 x6 x7 x8 x9 x10 x11 x12 x13) (hr : RArgs U x0 x1 x2 x3 x4 x5 x6 x7 x8 x9 x10 x11 x12 x13) :
    HEq (W2 m ρ c (Proc.devRef .tc main_v1_2)) (after refC (after refB (after refA U)) (Proc.devRef .tc Cert.ReferenceIdeal.main_v36)) := by
  have k9 := keeps_B (feats x1 x2 x3 x4 x5) _ (Knows.cons (after_A hr _ List.mem_cons_self) .nil)
  have arg : ∀ {r : Ref Cert.ReferenceIdeal.sig .tc}, r ∈ Ref.argRefs → ∀ {v : r.ty.Contents (Elt Ideal)}, U (Proc.devRef .tc r) = v →
      after refB (after refA U) (Proc.devRef .tc r) = v :=
    fun hm _ e => (stage_keeps stage_B _ hm).trans ((stage_keeps stage_A _ hm).trans e)
  have k := Ref.reads_logit (F := Ideal) x6 x7 x8 x9 (feats x1 x2 x3 x4 x5) (after refB (after refA U))
    (.cons (k9 _ List.mem_cons_self) (.cons (arg (r := Cert.ReferenceIdeal.main_arg6) (by decide) hr.a6)
      (.cons (arg (r := Cert.ReferenceIdeal.main_arg7) (by decide) hr.a7) (.cons (arg (r := Cert.ReferenceIdeal.main_arg8) (by decide) hr.a8)
        (.cons (arg (r := Cert.ReferenceIdeal.main_arg9) (by decide) hr.a9) .nil)))))
  exact heq_through (heq_of_eq (W2_logit hk)) (k _ List.mem_cons_self)

end Cert.Proof
-- ==== Proof.Assemble.lean ====
/-
  The kernel's result is the reference's: the two programs side by side, from the first launch on.
-/
module

public import proofs.«01_k».proof.Proof.Front

@[expose] public section

set_option maxRecDepth 8000

noncomputable section

namespace Cert.Proof

open Idealize.ShloMosaic Idealize.ShloMosaic.TcCoe Idealize.ShloMosaic.StableHlo Idealize.SL.Sem
open Cert.KernelIdeal Cert.KernelIdeal.Gen
open Cert.Proof.Ref (refA refB refC refD refE refF0 refF1 refG refH refI refJ refK refL ops)

abbrev KVal := Valuation τ sig (Elt Ideal)

set_option backward.isDefEq.respectTransparency.types false in
set_option maxHeartbeats 4000000 in
/-- The kernel's first stretch leaves the logits alone. -/
theorem keeps_logit (l : FVec Ideal S4096x1 .f32) :
    Reads (τ := τ) [(⟨main_v1_2, l⟩ : Held sig (Elt Ideal))] (hostOps1.take 12) [(⟨main_v1_2, l⟩ : Held sig (Elt Ideal))] := by
  dsimp only [hostOps1, List.take]
  repeat refine Reads.skip rfl (by show (_ : Bool) = _; chain_rfl) ?_
  exact Reads.refl fun _ h => h

/-- Between the launches: from the agreement after the first, the noise and the log weights agree before the second. -/
theorem middle (A : KVal) (B : RVal)
    (h : Agree (τ := τ) [((main_v1_0, Cert.ReferenceIdeal.main_v9) : Pair), (main_v1_1, Cert.ReferenceIdeal.main_v18),
      (main_arg0, Cert.ReferenceIdeal.main_arg0), (main_arg1, Cert.ReferenceIdeal.main_arg1)] A B)
    (hl : HEq (A (Proc.devRef .tc main_v1_2)) (after refC (after refB B) (Proc.devRef .tc Cert.ReferenceIdeal.main_v36))) :
    Agree (τ := τ) [((main_v36, Cert.ReferenceIdeal.main_v62) : Pair), (main_v28, Cert.ReferenceIdeal.main_v61),
      (main_v1_0, Cert.ReferenceIdeal.main_v9), (main_arg1, Cert.ReferenceIdeal.main_arg1)]
      (after hostOps1_3 (after hostOps1_2 (after hostOps1_1 (after hostOps1 A))))
      (after refG (after (refF0 ++ refF1) (after refE (after refD (after refC (after refB B)))))) := by
  have e : after hostOps1 A = after (hostOps1.drop 12) (after (hostOps1.take 12) A) := by
    rw [← StableHlo.after_append, List.take_append_drop]
  have s1 := sim_dist (F := Ideal) A B h
  have s2 := sim_skip (F := Ideal) _ _ s1
  have k : after (hostOps1.take 12) A (Proc.devRef .tc main_v1_2) = A (Proc.devRef .tc main_v1_2) :=
    keeps_logit (A (Proc.devRef .tc main_v1_2)) A (.cons rfl .nil) _ List.mem_cons_self
  have s3 := sim_weights (F := Ideal) _ _ (Agree.cons ((heq_of_eq k).trans hl) s2)
  rw [← e] at s3
  have s4 := sim_where (F := Ideal) _ _ s3
  have s5 := sim_log (F := Ideal) _ _ s4
  have s6 := sim_seed (F := Ideal) _ _ s4
  exact sim_noise (F := Ideal) _ _ (Agree.cons (s6.get (by decide +kernel)) s5)

/-! ## The second launch -/

set_option backward.isDefEq.respectTransparency.types false in
theorem reads_weights (w : FVec Ideal S4096 .f32) : Reads (τ := τ) [(⟨main_v28, w⟩ : Held sig (Elt Ideal))] hostOps1_4
    [(⟨main_v37, shapeCast S1x4096 w shapeCasts_S4096_S1x4096⟩ : Held sig (Elt Ideal))] := by
  dsimp only [hostOps1_4]
  refine Reads.reshape List.mem_cons_self (by show (_ : Bool) = _; chain_rfl) ?_
  exact Reads.refl (sub_cons List.mem_cons_self sub_nil)

set_option backward.isDefEq.respectTransparency.types false in
theorem reads_column (p : IVec S4096x1 32) (q : IVec S4096 32) (hq : shapeCast S4096 p shapeCasts_S4096x1_S4096 = q) : Reads (τ := τ) [(⟨main_v38, p⟩ : Held sig (Elt Ideal))] hostOps2
    [(⟨main_v39, q⟩ : Held sig (Elt Ideal))] := by
  subst hq
  dsimp only [hostOps2]
  refine Reads.reshape List.mem_cons_self (by show (_ : Bool) = _; chain_rfl) ?_
  exact Reads.refl (sub_cons List.mem_cons_self sub_nil)

variable (m : (ℓ : Loc nD τ sig) → Buf (Elt Ideal) ℓ) (ρ : Dev nD → PrngReg) (c : Dev nD)

set_option backward.isDefEq.respectTransparency.types false in
/-- The positions the kernel ends its second launch with, from the noise and the log weights before it. -/
theorem W9_pick (n : FVec Ideal S4096x4096 .f32) (w : FVec Ideal S4096 .f32) (p : IVec S4096 32)
    (hp : Ref.pick (F := Ideal) (Ref.score (F := Ideal) n w) = p) (hn : W6 m ρ c (Proc.devRef .tc main_v36) = n)
    (hw : W6 m ρ c (Proc.devRef .tc main_v28) = w) :
    W9 m ρ c (Proc.devRef .tc main_v39) = p := by
  have h37 : V7 m ρ c main_v37 = shapeCast S1x4096 w shapeCasts_S4096_S1x4096 :=
    reads_weights w (W6 m ρ c) (.cons hw .nil) _ List.mem_cons_self
  have h36 : V7 m ρ c main_v36 = n := (W7_of m ρ c main_v36 (by decide +kernel)).trans hn
  have h38 : W8 m ρ c (Proc.devRef .tc main_v38) = Region1.column n w :=
    (W8_arr m ρ c 2).trans (Region1.final_2 (V7 m ρ) c n w shapeCasts_S4096_S1x4096 h36 h37)
  have e : shapeCast S4096 (Region1.column n w) shapeCasts_S4096x1_S4096 = p := by
    unfold Region1.column
    rw [hp]
    exact Region1.upright_cast p shapeCasts_S4096x1_S4096
  exact reads_column (Region1.column n w) p e (W8 m ρ c) (.cons h38 .nil) _ List.mem_cons_self

/-- A reference the second launch and the reshapes about it leave alone. -/
theorem W9_of_W6 (r : Ref sig .tc) (h7 : r ∉ hostOps1_4_W)
    (h8 : ∀ w : Fin cfg1.W, Pipeline.arrRef spec1 w = r → (cfg1.win w).isOut = false) (h9 : r ∉ hostOps2_W) :
    W9 m ρ c (Proc.devRef .tc r) = W6 m ρ c (Proc.devRef .tc r) :=
  (W9_of m ρ c r h9).trans ((W8_of m ρ c r h8).trans (W7_of m ρ c r h7))

set_option backward.isDefEq.respectTransparency.types false in
/-- The positions the reference draws. -/
theorem ref_pick (n : FVec Ideal S4096x4096 .f32) (w : FVec Ideal S4096 .f32) (p : IVec S4096 32)
    (hp : Ref.pick (F := Ideal) (Ref.score (F := Ideal) n w) = p) (B : RVal)
    (hn : B (Proc.devRef .tc Cert.ReferenceIdeal.main_v62) = n) (hw : B (Proc.devRef .tc Cert.ReferenceIdeal.main_v61) = w) :
    after refI (after refH B) (Proc.devRef .tc Cert.ReferenceIdeal.main_v66) = p := by
  have h := Ref.reads_pick (F := Ideal) (Ref.score (F := Ideal) n w)
  rw [hp] at h
  exact h _ (Ref.reads_score (F := Ideal) n w B (.cons hn (.cons hw .nil))) _ List.mem_cons_self

set_option backward.isDefEq.respectTransparency.types false in
/-- The choices agree. -/
theorem chosen (B : RVal)
    (h : Agree (τ := τ) [((main_v36, Cert.ReferenceIdeal.main_v62) : Pair), (main_v28, Cert.ReferenceIdeal.main_v61),
      (main_v1_0, Cert.ReferenceIdeal.main_v9), (main_arg1, Cert.ReferenceIdeal.main_arg1)] (W6 m ρ c) B) :
    Agree (τ := τ) [((main_v39, Cert.ReferenceIdeal.main_v66) : Pair), (main_v1_0, Cert.ReferenceIdeal.main_v9),
      (main_arg1, Cert.ReferenceIdeal.main_arg1)] (W9 m ρ c) (after refI (after refH B)) := by
  have hn : W6 m ρ c (Proc.devRef .tc main_v36) = (B (Proc.devRef .tc Cert.ReferenceIdeal.main_v62) : FVec Ideal S4096x4096 .f32) :=
    eq_of_heq (h _ List.mem_cons_self)
  have hw : W6 m ρ c (Proc.devRef .tc main_v28) = (B (Proc.devRef .tc Cert.ReferenceIdeal.main_v61) : FVec Ideal S4096 .f32) :=
    eq_of_heq (h _ (List.mem_cons_of_mem _ List.mem_cons_self))
  have h9 := h _ (List.mem_cons_of_mem _ (List.mem_cons_of_mem _ List.mem_cons_self))
  have h1 := h _ (List.mem_cons_of_mem _ (List.mem_cons_of_mem _ (List.mem_cons_of_mem _ List.mem_cons_self)))
  obtain ⟨p, hp⟩ : ∃ p, Ref.pick (F := Ideal) (Ref.score (F := Ideal) (B (Proc.devRef .tc Cert.ReferenceIdeal.main_v62))
      (B (Proc.devRef .tc Cert.ReferenceIdeal.main_v61))) = p := ⟨_, rfl⟩
  have k66 := ref_pick _ _ p hp B rfl rfl
  have k9 := keeps_I _ _ (keeps_H (B (Proc.devRef .tc Cert.ReferenceIdeal.main_v9)) B (.cons rfl .nil))
  refine .cons (heq_of_eq ((W9_pick m ρ c _ _ p hp hn hw).trans k66.symm))
    (.cons (heq_through ((heq_of_eq (W9_of_W6 m ρ c main_v1_0 (by decide +kernel) (by decide +kernel) (by decide +kernel))).trans h9) (k9 _ List.mem_cons_self))
      (.cons (heq_through ((heq_of_eq (W9_of_W6 m ρ c main_arg1 (by decide +kernel) (by decide +kernel) (by decide +kernel))).trans h1)
        ((stage_keeps stage_I _ (by decide)).trans (stage_keeps stage_H _ (by decide)))) .nil))

/-! ## The result -/

variable (U : RVal)
  (x0 : FVec Ideal S1x128 .f32) (x1 : FVec Ideal S4096x51x64 .f32) (x2 : FVec Ideal S3264x512 .f32) (x3 : FVec Ideal S512 .f32)
  (x4 : FVec Ideal S512x64 .f32) (x5 : FVec Ideal S64 .f32) (x6 : FVec Ideal S64x256 .f32) (x7 : FVec Ideal S256 .f32)
  (x8 : FVec Ideal S256x1 .f32) (x9 : FVec Ideal S1 .f32) (x10 : FVec Ideal S64x256 .f32) (x11 : FVec Ideal S256 .f32)
  (x12 : FVec Ideal S256x128 .f32) (x13 : FVec Ideal S128 .f32)

/-- The reference's line, stretch by stretch. -/
theorem after_ops (V : RVal) : after ops V =
    after refL (after refK (after refJ (after refI (after refH (after refG (after (refF0 ++ refF1) (after refE (after refD (after refC
      (after refB (after refA V))))))))))) := by
  unfold ops
  rw [StableHlo.after_append refA, StableHlo.after_append refB, StableHlo.after_append refC, StableHlo.after_append refD,
    StableHlo.after_append refE, StableHlo.after_append refF0, StableHlo.after_append refF1, StableHlo.after_append refG,
    StableHlo.after_append refH, StableHlo.after_append refI, StableHlo.after_append refJ, StableHlo.after_append refK,
    StableHlo.after_append refF0]

/-- From the same arguments the kernel's result and the reference's are the same tensor. -/
theorem result (hk : KArgs m c x0 x1 x2 x3 x4 x5 x6 x7 x8 x9 x10 x11 x12 x13) (hr : RArgs U x0 x1 x2 x3 x4 x5 x6 x7 x8 x9 x10 x11 x12 x13) :
    HEq (W12 m ρ c (Proc.devRef .tc main_v43)) (after ops U (Proc.devRef .tc Cert.ReferenceIdeal.main_v70)) := by
  have h6 := middle (W2 m ρ c) (after refA U) (front hk hr) (front_logit hk hr)
  have h9 := chosen m ρ c _ h6
  have h10 := sim_take (F := Ideal) _ _ h9
  have h11 := sim_take_1 (F := Ideal) _ _ h10
  have h12 := sim_result (F := Ideal) _ _ h11
  rw [after_ops]
  exact h12 _ List.mem_cons_self

end Cert.Proof
-- ==== Proof.lean ====
/-
  The certificate. The two frames of the kernel come from its generated run. The reference is a straight line, and its
  run gives its frame. The equality of the results is `Cert.Proof.result`, read off the two runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Run
public import proofs.«01_k».proof.Proof.Assemble
public import Idealize.ShloMosaic.Adequacy
public import Idealize.ShloMosaic.Init

@[expose] public section

noncomputable section

namespace Cert.Proof

open Idealize.ShloMosaic Idealize.ShloMosaic.TcCoe Idealize.SL.Sem

/-- The reference ends with its arguments as launched and every counter at zero. -/
theorem frame_reference : Cert.quiescent_ReferenceIdeal (hReferenceIdeal := Cert.ReferenceIdeal.Gen.facts) := by
  intro m g _
  refine (θ_run _ _ _).mono (fun r h => ⟨fun c => ?_, Ref.sem_eq r.2⟩) (Ref.run_main (F := Ideal) m g)
  and_intros <;> exact Ref.arg_eq h c (by decide)

/-- The kernel and the reference end with the same result. -/
theorem results_equal : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W12 m g c (Proc.devRef .tc Cert.KernelIdeal.main_v43), ?_, ?_⟩
  · refine (θ_run _ _ _).mono (fun r h c => ?_) (Cert.KernelIdeal.Gen.run_ends (F := Ideal) m g)
    have at_ref : ∀ b : Ref Cert.KernelIdeal.sig .tc, ¬ (Proc.devRef .tc b : DevRef Cert.KernelIdeal.τ Cert.KernelIdeal.sig).isScoped →
        r.2.mem ((c : Thread Cert.KernelIdeal.nD Cert.KernelIdeal.τ).loc b) = Cert.KernelIdeal.Gen.W12 m g c (Proc.devRef .tc b) :=
      fun b hb => h c _ (Cert.KernelIdeal.Gen.mem_uc b hb)
    exact ⟨at_ref _ (by decide),
      (at_ref _ (by decide)).trans (Cert.KernelIdeal.Gen.W12_main_arg0 m g c),
      (at_ref _ (by decide)).trans (Cert.KernelIdeal.Gen.W12_main_arg1 m g c),
      (at_ref _ (by decide)).trans (Cert.KernelIdeal.Gen.W12_main_arg2 m g c),
      (at_ref _ (by decide)).trans (Cert.KernelIdeal.Gen.W12_main_arg3 m g c),
      (at_ref _ (by decide)).trans (Cert.KernelIdeal.Gen.W12_main_arg4 m g c),
      (at_ref _ (by decide)).trans (Cert.KernelIdeal.Gen.W12_main_arg5 m g c),
      (at_ref _ (by decide)).trans (Cert.KernelIdeal.Gen.W12_main_arg6 m g c),
      (at_ref _ (by decide)).trans (Cert.KernelIdeal.Gen.W12_main_arg7 m g c),
      (at_ref _ (by decide)).trans (Cert.KernelIdeal.Gen.W12_main_arg8 m g c),
      (at_ref _ (by decide)).trans (Cert.KernelIdeal.Gen.W12_main_arg9 m g c),
      (at_ref _ (by decide)).trans (Cert.KernelIdeal.Gen.W12_main_arg10 m g c),
      (at_ref _ (by decide)).trans (Cert.KernelIdeal.Gen.W12_main_arg11 m g c),
      (at_ref _ (by decide)).trans (Cert.KernelIdeal.Gen.W12_main_arg12 m g c),
      (at_ref _ (by decide)).trans (Cert.KernelIdeal.Gen.W12_main_arg13 m g c)⟩
  · refine (θ_run _ _ _).mono (fun r h c => ⟨?_, ?_⟩) (Ref.run_main (F := Ideal) m' g')
    · obtain ⟨e0, e1, e2, e3, e4, e5, e6, e7, e8, e9, e10, e11, e12, e13⟩ := hargs c
      have key := result m g c (StableHlo.launchContents m' c) _ _ _ _ _ _ _ _ _ _ _ _ _ _
        ⟨rfl, rfl, rfl, rfl, rfl, rfl, rfl, rfl, rfl, rfl, rfl, rfl, rfl, rfl⟩
        ⟨e0, e1, e2, e3, e4, e5, e6, e7, e8, e9, e10, e11, e12, e13⟩
      exact (h c Cert.ReferenceIdeal.main_v70).trans (eq_of_heq key).symm
    · and_intros <;> exact Ref.arg_eq h c (by decide)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, results_equal⟩

end Cert.Proof

end
